-- ==== Defs.lean ====
def Pre_Gather [hPre_idx_in_range : Cert.Pre_idx_in_range.Facts] (m : (ℓ : Loc Cert.Gather.nD Cert.Gather.τ Cert.Gather.sig) → Buf (Elt Bits) ℓ) : Prop :=
  ∀ c : Dev Cert.Gather.nD,
    (Cert.Pre_idx_in_range.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_idx_in_range : Cert.Pre_idx_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_idx_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_RowsIdeal [hPre_idx_in_range : Cert.Pre_idx_in_range.Facts] (m : (ℓ : Loc Cert.RowsIdeal.nD Cert.RowsIdeal.τ Cert.RowsIdeal.sig) → Buf (Elt Ideal) ℓ) : Prop :=
  ∀ c : Dev Cert.RowsIdeal.nD,
    (Cert.Pre_idx_in_range.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2))) = (fun _ => 1#1)

def Pre_KernelIdeal (m : (ℓ : Loc Cert.KernelIdeal.nD Cert.KernelIdeal.τ Cert.KernelIdeal.sig) → Buf (Elt Ideal) ℓ) : Prop :=
  True

def Pre_KernelIdeal_kernel_finite [hPre_kernel_finite : Cert.Pre_kernel_finite.Facts] (m : (ℓ : Loc Cert.KernelIdeal.nD Cert.KernelIdeal.τ Cert.KernelIdeal.sig) → Buf (Elt Ideal) ℓ) : Prop :=
  ∀ c : Dev Cert.KernelIdeal.nD,
    (Cert.Pre_kernel_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_kernel_finite [hPre_kernel_finite : Cert.Pre_kernel_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kernel_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Gather [hGather : Cert.Gather.Facts] [hPre_idx_in_range : Cert.Pre_idx_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_idx_in_range : Cert.Pre_idx_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_RowsIdeal [hRowsIdeal : Cert.RowsIdeal.Facts] [hPre_idx_in_range : Cert.Pre_idx_in_range.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_kernel_finite [hKernelIdeal : Cert.KernelIdeal.Facts] [hPre_kernel_finite : Cert.Pre_kernel_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kernel_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_kernel_finite [hReferenceIdeal : Cert.ReferenceIdeal.Facts] [hPre_kernel_finite : Cert.Pre_kernel_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kernel_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Gather_GatherIdeal : Prop :=
  True

def algebraic_GatherIdeal_RowsIdeal [hGatherIdeal : Cert.GatherIdeal.Facts] [hRowsIdeal : Cert.RowsIdeal.Facts] [hPre_idx_in_range : Cert.Pre_idx_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.RowsIdeal.nD Cert.RowsIdeal.τ Cert.RowsIdeal.sig) → Buf (Elt Ideal) ℓ) (g' : Dev Cert.RowsIdeal.nD → PrngReg), Pre_GatherIdeal m →
    (∀ c : Dev Cert.GatherIdeal.nD,
      m' ((c.tc : Thread Cert.RowsIdeal.nD Cert.RowsIdeal.τ).loc Cert.RowsIdeal.main_arg0) = m ((c.tc : Thread Cert.GatherIdeal.nD Cert.GatherIdeal.τ).loc Cert.GatherIdeal.main_arg0)
      ∧ m' ((c.tc : Thread Cert.RowsIdeal.nD Cert.RowsIdeal.τ).loc Cert.RowsIdeal.main_arg1) = m ((c.tc : Thread Cert.GatherIdeal.nD Cert.GatherIdeal.τ).loc Cert.GatherIdeal.main_arg1)
      ∧ m' ((c.tc : Thread Cert.RowsIdeal.nD Cert.RowsIdeal.τ).loc Cert.RowsIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v3)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v3) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.RowsIdeal.defs (F := Ideal)) (onTc (τ := Cert.RowsIdeal.τ) (Cert.RowsIdeal.main (F := Ideal))) ⟨m', fun _ => 0, g'⟩ (fun r => ∀ c : Dev Cert.RowsIdeal.nD,
          r.2.mem ((c.tc : Thread Cert.RowsIdeal.nD Cert.RowsIdeal.τ).loc Cert.RowsIdeal.main_v3) = v0 c
          ∧ r.2.mem ((c.tc : Thread Cert.RowsIdeal.nD Cert.RowsIdeal.τ).loc Cert.RowsIdeal.main_arg0) = m' ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m' ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m' ((c.tc : Thread Cert.RowsIdeal.nD Cert.RowsIdeal.τ).loc Cert.RowsIdeal.main_arg2))

def algebraic_KernelIdeal_ReferenceIdeal_pre_kernel_finite [hKernelIdeal : Cert.KernelIdeal.Facts] [hReferenceIdeal : Cert.ReferenceIdeal.Facts] [hPre_kernel_finite : Cert.Pre_kernel_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kernel_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hGather : Cert.Gather.Facts) (hGatherIdeal : Cert.GatherIdeal.Facts) (hRowsIdeal : Cert.RowsIdeal.Facts) (hKernelIdeal : Cert.KernelIdeal.Facts) (hReferenceIdeal : Cert.ReferenceIdeal.Facts) (hPre_idx_in_range : Cert.Pre_idx_in_range.Facts) (hPre_kernel_finite : Cert.Pre_kernel_finite.Facts),
    quiescent_Gather (hGather := hGather) (hPre_idx_in_range := hPre_idx_in_range)
    ∧ quiescent_GatherIdeal (hGatherIdeal := hGatherIdeal) (hPre_idx_in_range := hPre_idx_in_range)
    ∧ quiescent_RowsIdeal (hRowsIdeal := hRowsIdeal) (hPre_idx_in_range := hPre_idx_in_range)
    ∧ quiescent_KernelIdeal (hKernelIdeal := hKernelIdeal)
    ∧ quiescent_KernelIdeal_pre_kernel_finite (hKernelIdeal := hKernelIdeal) (hPre_kernel_finite := hPre_kernel_finite)
    ∧ quiescent_ReferenceIdeal (hReferenceIdeal := hReferenceIdeal)
    ∧ quiescent_ReferenceIdeal_pre_kernel_finite (hReferenceIdeal := hReferenceIdeal) (hPre_kernel_finite := hPre_kernel_finite)
    ∧ preserves_Gather_GatherIdeal
    ∧ algebraic_GatherIdeal_RowsIdeal (hGatherIdeal := hGatherIdeal) (hRowsIdeal := hRowsIdeal) (hPre_idx_in_range := hPre_idx_in_range)
    ∧ algebraic_KernelIdeal_ReferenceIdeal_pre_kernel_finite (hKernelIdeal := hKernelIdeal) (hReferenceIdeal := hReferenceIdeal) (hPre_kernel_finite := hPre_kernel_finite)
-- ==== Pre_idx_in_range.lean ====
abbrev S8192x256 : Shape := ⟨2, ![8192, 256]⟩
abbrev S8192 : Shape := ⟨1, ![8192]⟩
abbrev S1x512x256 : Shape := ⟨3, ![1, 512, 256]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S8192x256 .f32) (main_arg1 : IVec S8192 32) (main_arg2 : FVec F S1x512x256 .f32) : IVec S8192 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 8192#32
  let main_v2 : IVec S8192 32 := broadcastInDim S8192 ![] bcast_S_S8192 main_c_0
  let main_v3 : IVec S8192 1 := cmpi .slt main_arg1 main_v2
  let main_v4 : IVec S8192 1 := andi main_v1 main_v3
  main_v4
-- ==== Pre_kernel_finite.lean ====
abbrev S16x512x129 : Shape := ⟨3, ![16, 512, 129]⟩
abbrev S256x129 : Shape := ⟨2, ![256, 129]⟩
abbrev S256 : Shape := ⟨1, ![256]⟩
abbrev S8192x256 : Shape := ⟨2, ![8192, 256]⟩
abbrev S1x512x256 : Shape := ⟨3, ![1, 512, 256]⟩
abbrev S_ : Shape := ⟨0, ![]⟩

class Facts : Prop where
  bcast_S_S16x512x129 : S_.BroadcastsInDim S16x512x129 (![] : Fin 0 → Fin S16x512x129.rank)
  reducesTo_S16x512x129_S_d0_1_2 : S16x512x129.ReducesTo [0, 1, 2] S_
  h_S_ : 0 < S_.numel
  bcast_S_S256x129 : S_.BroadcastsInDim S256x129 (![] : Fin 0 → Fin S256x129.rank)
  reducesTo_S256x129_S_d0_1 : S256x129.ReducesTo [0, 1] S_
  bcast_S_S256 : S_.BroadcastsInDim S256 (![] : Fin 0 → Fin S256.rank)
  reducesTo_S256_S_d0 : S256.ReducesTo [0] S_
  bcast_S_S8192x256 : S_.BroadcastsInDim S8192x256 (![] : Fin 0 → Fin S8192x256.rank)
  reducesTo_S8192x256_S_d0_1 : S8192x256.ReducesTo [0, 1] S_

variable [Facts]

def fn_part1 {F : FTy → Type} [FloatOps F] (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  main_v18

def fn {F : FTy → Type} [FloatOps F] (main_arg0 : FVec F S16x512x129 .f32) (main_arg1 : FVec F S256x129 .f32) (main_arg2 : FVec F S256 .f32) (main_arg3 : FVec F S8192x256 .f32) (main_arg4 : FVec F S1x512x256 .f32) : IVec S_ 1 :=
  let main_v0 : FVec F S16x512x129 .f32 := Host.absf main_arg0
  let main_cst : FVec F S_ .f32 := constant S_ .f32 0x7F800000#32
  let main_v1 : FVec F S16x512x129 .f32 := broadcastInDim S16x512x129 ![] bcast_S_S16x512x129 main_cst
  let main_v2 : IVec S16x512x129 1 := cmpf .olt main_v0 main_v1
  let main_c : IVec S_ 1 := constantI S_ 1 1#1
  let main_v3 : IVec S_ 1 := (fun x v => Host.reduce IntOp.andi x v reducesTo_S16x512x129_S_d0_1_2 h_S_) main_v2 main_c
  let main_v4 : FVec F S256x129 .f32 := Host.absf main_arg1
  let main_cst_0 : FVec F S_ .f32 := constant S_ .f32 0x7F800000#32
  let main_v5 : FVec F S256x129 .f32 := broadcastInDim S256x129 ![] bcast_S_S256x129 main_cst_0
  let main_v6 : IVec S256x129 1 := cmpf .olt main_v4 main_v5
  let main_c_1 : IVec S_ 1 := constantI S_ 1 1#1
  let main_v7 : IVec S_ 1 := (fun x v => Host.reduce IntOp.andi x v reducesTo_S256x129_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_v13 main_v16
-- ==== Gather.lean ====
abbrev S8192x256 : Shape := ⟨2, ![8192, 256]⟩
abbrev S8192 : Shape := ⟨1, ![8192]⟩
abbrev S1x512x256 : Shape := ⟨3, ![1, 512, 256]⟩
abbrev S512x256 : Shape := ⟨2, ![512, 256]⟩
abbrev S8192x2x128 : Shape := ⟨3, ![8192, 2, 128]⟩
abbrev S128 : Shape := ⟨1, ![128]⟩
abbrev S128x2x128 : Shape := ⟨3, ![128, 2, 128]⟩
abbrev S128x256 : Shape := ⟨2, ![128, 256]⟩
abbrev S_ : Shape := ⟨0, ![]⟩
abbrev S1x1x16 : Shape := ⟨3, ![1, 1, 16]⟩
abbrev S16 : Shape := ⟨1, ![16]⟩
abbrev S1x16 : Shape := ⟨2, ![1, 16]⟩
abbrev S16x512x256 : Shape := ⟨3, ![16, 512, 256]⟩

abbrev nBuf : Table → Nat
  | .hbm => 7
  | .local .scVector .vmem => 5
  | _ => 0

abbrev bufTy : (tb : Table) → Fin (nBuf tb) → BufTy
  | .hbm, ⟨0, _⟩ => ⟨S8192x256, .f32⟩
  | .hbm, ⟨1, _⟩ => ⟨S8192, .i32⟩
  | .hbm, ⟨2, _⟩ => ⟨S1x512x256, .f32⟩
  | .hbm, ⟨3, _⟩ => ⟨S512x256, .f32⟩
  | .hbm, ⟨4, _⟩ => ⟨S8192x2x128, .f32⟩
  | .hbm, ⟨5, _⟩ => ⟨S8192x2x128, .f32⟩
  | .hbm, ⟨6, _⟩ => ⟨S16x512x256, .f32⟩
  | .local .scVector .vmem, ⟨0, _⟩ => ⟨S128, .i32⟩
  | .local .scVector .vmem, ⟨1, _⟩ => ⟨S128, .i32⟩
  | .local .scVector .vmem, ⟨2, _⟩ => ⟨S128x2x128, .f32⟩
  | .local .scVector .vmem, ⟨3, _⟩ => ⟨S128x2x128, .f32⟩
  | .local .scVector .vmem, ⟨4, _⟩ => ⟨S128x256, .f32⟩
  | _, _ => ⟨S8192x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v1_scv : Ref sig .scVector := ⟨.hbm, 4, rfl⟩
abbrev main_arg1_scv : Ref sig .scVector := ⟨.hbm, 1, rfl⟩
abbrev main_v0_scv : Ref sig .scVector := ⟨.hbm, 3, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v3 : BitVec 32 := Scalar.addi v2 c128_i32
  ![v3.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c512_i32 : BitVec 32 := 512#32
  let v6 : BitVec 32 := Scalar.remsi v2 c512_i32
  let c0_i32_29_r2 : BitVec 32 := 0#32
  ![v6.toNat, 0]
@[reducible] def k0_t1_loop : Scf.Loop 32 :=
  let c0_i32_9 : BitVec 32 := 0#32
  let c128_i32_10 : BitVec 32 := 128#32
  let v8 : BitVec 32 := Scalar.addi c0_i32_9 c128_i32_10
  let c1_i32 : BitVec 32 := 1#32
  ⟨c0_i32_9, v8, c1_i32⟩
def k0_off4 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v16 : Index := Scalar.indexCast arg14
  let c0_i32_29 : BitVec 32 := 0#32
  let v17 : Index := Scalar.indexCast c0_i32_29
  let c0 : Index := 0#32
  ![v16.toNat, 0, 0]
def k0_off5 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v20 : Index := Scalar.indexCast arg14
  let c0_30 : Index := 0#32
  ![v20.toNat, 0]
def k0_off6 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v29 : Index := Scalar.indexCast arg14
  let c0_i32_33 : BitVec 32 := 0#32
  let v30 : Index := Scalar.indexCast c0_i32_33
  let c16 : Index := 16#32
  ![v29.toNat, 0, 16]
def k0_off7 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v33 : Index := Scalar.indexCast arg14
  let c16_34 : Index := 16#32
  ![v33.toNat, 16]
def k0_off8 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v42 : Index := Scalar.indexCast arg14
  let c0_i32_37 : BitVec 32 := 0#32
  let v43 : Index := Scalar.indexCast c0_i32_37
  let c32 : Index := 32#32
  ![v42.toNat, 0, 32]
def k0_off9 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v46 : Index := Scalar.indexCast arg14
  let c32_38 : Index := 32#32
  ![v46.toNat, 32]
def k0_off10 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v55 : Index := Scalar.indexCast arg14
  let c0_i32_41 : BitVec 32 := 0#32
  let v56 : Index := Scalar.indexCast c0_i32_41
  let c48 : Index := 48#32
  ![v55.toNat, 0, 48]
def k0_off11 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v59 : Index := Scalar.indexCast arg14
  let c48_42 : Index := 48#32
  ![v59.toNat, 48]
def k0_off12 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v68 : Index := Scalar.indexCast arg14
  let c0_i32_45 : BitVec 32 := 0#32
  let v69 : Index := Scalar.indexCast c0_i32_45
  let c64 : Index := 64#32
  ![v68.toNat, 0, 64]
def k0_off13 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v72 : Index := Scalar.indexCast arg14
  let c64_46 : Index := 64#32
  ![v72.toNat, 64]
def k0_off14 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v81 : Index := Scalar.indexCast arg14
  let c0_i32_49 : BitVec 32 := 0#32
  let v82 : Index := Scalar.indexCast c0_i32_49
  let c80 : Index := 80#32
  ![v81.toNat, 0, 80]
def k0_off15 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v85 : Index := Scalar.indexCast arg14
  let c80_50 : Index := 80#32
  ![v85.toNat, 80]
def k0_off16 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v94 : Index := Scalar.indexCast arg14
  let c0_i32_53 : BitVec 32 := 0#32
  let v95 : Index := Scalar.indexCast c0_i32_53
  let c96 : Index := 96#32
  ![v94.toNat, 0, 96]
def k0_off17 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v98 : Index := Scalar.indexCast arg14
  let c96_54 : Index := 96#32
  ![v98.toNat, 96]
def k0_off18 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v107 : Index := Scalar.indexCast arg14
  let c0_i32_57 : BitVec 32 := 0#32
  let v108 : Index := Scalar.indexCast c0_i32_57
  let c112 : Index := 112#32
  ![v107.toNat, 0, 112]
def k0_off19 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v111 : Index := Scalar.indexCast arg14
  let c112_58 : Index := 112#32
  ![v111.toNat, 112]
def k0_off20 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v120 : Index := Scalar.indexCast arg14
  let c1_i32_61 : BitVec 32 := 1#32
  let v121 : Index := Scalar.indexCast c1_i32_61
  let c0_62 : Index := 0#32
  ![v120.toNat, 1, 0]
def k0_off21 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v124 : Index := Scalar.indexCast arg14
  let c128 : Index := 128#32
  ![v124.toNat, 128]
def k0_off22 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v133 : Index := Scalar.indexCast arg14
  let c1_i32_65 : BitVec 32 := 1#32
  let v134 : Index := Scalar.indexCast c1_i32_65
  let c16_66 : Index := 16#32
  ![v133.toNat, 1, 16]
def k0_off23 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v137 : Index := Scalar.indexCast arg14
  let c144 : Index := 144#32
  ![v137.toNat, 144]
def k0_off24 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v146 : Index := Scalar.indexCast arg14
  let c1_i32_69 : BitVec 32 := 1#32
  let v147 : Index := Scalar.indexCast c1_i32_69
  let c32_70 : Index := 32#32
  ![v146.toNat, 1, 32]
def k0_off25 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v150 : Index := Scalar.indexCast arg14
  let c160 : Index := 160#32
  ![v150.toNat, 160]
def k0_off26 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v159 : Index := Scalar.indexCast arg14
  let c1_i32_73 : BitVec 32 := 1#32
  let v160 : Index := Scalar.indexCast c1_i32_73
  let c48_74 : Index := 48#32
  ![v159.toNat, 1, 48]
def k0_off27 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v163 : Index := Scalar.indexCast arg14
  let c176 : Index := 176#32
  ![v163.toNat, 176]
def k0_off28 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v172 : Index := Scalar.indexCast arg14
  let c1_i32_77 : BitVec 32 := 1#32
  let v173 : Index := Scalar.indexCast c1_i32_77
  let c64_78 : Index := 64#32
  ![v172.toNat, 1, 64]
def k0_off29 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v176 : Index := Scalar.indexCast arg14
  let c192 : Index := 192#32
  ![v176.toNat, 192]
def k0_off30 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v185 : Index := Scalar.indexCast arg14
  let c1_i32_81 : BitVec 32 := 1#32
  let v186 : Index := Scalar.indexCast c1_i32_81
  let c80_82 : Index := 80#32
  ![v185.toNat, 1, 80]
def k0_off31 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v189 : Index := Scalar.indexCast arg14
  let c208 : Index := 208#32
  ![v189.toNat, 208]
def k0_off32 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v198 : Index := Scalar.indexCast arg14
  let c1_i32_85 : BitVec 32 := 1#32
  let v199 : Index := Scalar.indexCast c1_i32_85
  let c96_86 : Index := 96#32
  ![v198.toNat, 1, 96]
def k0_off33 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v202 : Index := Scalar.indexCast arg14
  let c224 : Index := 224#32
  ![v202.toNat, 224]
def k0_off34 (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let v211 : Index := Scalar.indexCast arg14
  let c1_i32_89 : BitVec 32 := 1#32
  let v212 : Index := Scalar.indexCast c1_i32_89
  let c112_90 : Index := 112#32
  ![v211.toNat, 1, 112]
def k0_off35 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let v215 : Index := Scalar.indexCast arg14
  let c240 : Index := 240#32
  ![v215.toNat, 240]
def k0_off36 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_12 : BitVec 32 := 0#32
  let c0_i32_13 : BitVec 32 := 0#32
  ![v2.toNat, 0, 0]
def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v3 : BitVec 32 := Scalar.addi v2 c128_i32
  let c512_i32_16 : BitVec 32 := 512#32
  let v11 : BitVec 32 := Scalar.remsi v3 c512_i32_16
  let c0_i32_29_r3 : BitVec 32 := 0#32
  ![v11.toNat, 0]
@[reducible] def k0_t2_loop : Scf.Loop 32 :=
  let c0_i32_21 : BitVec 32 := 0#32
  let c128_i32_22 : BitVec 32 := 128#32
  let v13 : BitVec 32 := Scalar.addi c0_i32_21 c128_i32_22
  let c1_i32_23 : BitVec 32 := 1#32
  ⟨c0_i32_21, v13, c1_i32_23⟩
def k0_off38 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v16 : Index := Scalar.indexCast arg14
  let c0_i32_29 : BitVec 32 := 0#32
  let v17 : Index := Scalar.indexCast c0_i32_29
  let c0 : Index := 0#32
  ![v16.toNat, 0, 0]
def k0_off39 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v20 : Index := Scalar.indexCast arg14
  let c0_30 : Index := 0#32
  ![v20.toNat, 0]
def k0_off40 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v29 : Index := Scalar.indexCast arg14
  let c0_i32_33 : BitVec 32 := 0#32
  let v30 : Index := Scalar.indexCast c0_i32_33
  let c16 : Index := 16#32
  ![v29.toNat, 0, 16]
def k0_off41 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v33 : Index := Scalar.indexCast arg14
  let c16_34 : Index := 16#32
  ![v33.toNat, 16]
def k0_off42 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v42 : Index := Scalar.indexCast arg14
  let c0_i32_37 : BitVec 32 := 0#32
  let v43 : Index := Scalar.indexCast c0_i32_37
  let c32 : Index := 32#32
  ![v42.toNat, 0, 32]
def k0_off43 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v46 : Index := Scalar.indexCast arg14
  let c32_38 : Index := 32#32
  ![v46.toNat, 32]
def k0_off44 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v55 : Index := Scalar.indexCast arg14
  let c0_i32_41 : BitVec 32 := 0#32
  let v56 : Index := Scalar.indexCast c0_i32_41
  let c48 : Index := 48#32
  ![v55.toNat, 0, 48]
def k0_off45 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v59 : Index := Scalar.indexCast arg14
  let c48_42 : Index := 48#32
  ![v59.toNat, 48]
def k0_off46 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v68 : Index := Scalar.indexCast arg14
  let c0_i32_45 : BitVec 32 := 0#32
  let v69 : Index := Scalar.indexCast c0_i32_45
  let c64 : Index := 64#32
  ![v68.toNat, 0, 64]
def k0_off47 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v72 : Index := Scalar.indexCast arg14
  let c64_46 : Index := 64#32
  ![v72.toNat, 64]
def k0_off48 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v81 : Index := Scalar.indexCast arg14
  let c0_i32_49 : BitVec 32 := 0#32
  let v82 : Index := Scalar.indexCast c0_i32_49
  let c80 : Index := 80#32
  ![v81.toNat, 0, 80]
def k0_off49 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v85 : Index := Scalar.indexCast arg14
  let c80_50 : Index := 80#32
  ![v85.toNat, 80]
def k0_off50 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v94 : Index := Scalar.indexCast arg14
  let c0_i32_53 : BitVec 32 := 0#32
  let v95 : Index := Scalar.indexCast c0_i32_53
  let c96 : Index := 96#32
  ![v94.toNat, 0, 96]
def k0_off51 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v98 : Index := Scalar.indexCast arg14
  let c96_54 : Index := 96#32
  ![v98.toNat, 96]
def k0_off52 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v107 : Index := Scalar.indexCast arg14
  let c0_i32_57 : BitVec 32 := 0#32
  let v108 : Index := Scalar.indexCast c0_i32_57
  let c112 : Index := 112#32
  ![v107.toNat, 0, 112]
def k0_off53 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v111 : Index := Scalar.indexCast arg14
  let c112_58 : Index := 112#32
  ![v111.toNat, 112]
def k0_off54 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v120 : Index := Scalar.indexCast arg14
  let c1_i32_61 : BitVec 32 := 1#32
  let v121 : Index := Scalar.indexCast c1_i32_61
  let c0_62 : Index := 0#32
  ![v120.toNat, 1, 0]
def k0_off55 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v124 : Index := Scalar.indexCast arg14
  let c128 : Index := 128#32
  ![v124.toNat, 128]
def k0_off56 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v133 : Index := Scalar.indexCast arg14
  let c1_i32_65 : BitVec 32 := 1#32
  let v134 : Index := Scalar.indexCast c1_i32_65
  let c16_66 : Index := 16#32
  ![v133.toNat, 1, 16]
def k0_off57 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v137 : Index := Scalar.indexCast arg14
  let c144 : Index := 144#32
  ![v137.toNat, 144]
def k0_off58 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v146 : Index := Scalar.indexCast arg14
  let c1_i32_69 : BitVec 32 := 1#32
  let v147 : Index := Scalar.indexCast c1_i32_69
  let c32_70 : Index := 32#32
  ![v146.toNat, 1, 32]
def k0_off59 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v150 : Index := Scalar.indexCast arg14
  let c160 : Index := 160#32
  ![v150.toNat, 160]
def k0_off60 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v159 : Index := Scalar.indexCast arg14
  let c1_i32_73 : BitVec 32 := 1#32
  let v160 : Index := Scalar.indexCast c1_i32_73
  let c48_74 : Index := 48#32
  ![v159.toNat, 1, 48]
def k0_off61 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v163 : Index := Scalar.indexCast arg14
  let c176 : Index := 176#32
  ![v163.toNat, 176]
def k0_off62 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v172 : Index := Scalar.indexCast arg14
  let c1_i32_77 : BitVec 32 := 1#32
  let v173 : Index := Scalar.indexCast c1_i32_77
  let c64_78 : Index := 64#32
  ![v172.toNat, 1, 64]
def k0_off63 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v176 : Index := Scalar.indexCast arg14
  let c192 : Index := 192#32
  ![v176.toNat, 192]
def k0_off64 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v185 : Index := Scalar.indexCast arg14
  let c1_i32_81 : BitVec 32 := 1#32
  let v186 : Index := Scalar.indexCast c1_i32_81
  let c80_82 : Index := 80#32
  ![v185.toNat, 1, 80]
def k0_off65 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v189 : Index := Scalar.indexCast arg14
  let c208 : Index := 208#32
  ![v189.toNat, 208]
def k0_off66 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v198 : Index := Scalar.indexCast arg14
  let c1_i32_85 : BitVec 32 := 1#32
  let v199 : Index := Scalar.indexCast c1_i32_85
  let c96_86 : Index := 96#32
  ![v198.toNat, 1, 96]
def k0_off67 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v202 : Index := Scalar.indexCast arg14
  let c224 : Index := 224#32
  ![v202.toNat, 224]
def k0_off68 (k0_t2 : Fin k0_t2_loop.trips) : Fin 3 → Nat :=
  let c0_i32_21 : BitVec 32 := 0#32
  let c1_i32_23 : BitVec 32 := 1#32
  let arg14 : BitVec 32 := Scf.iv c0_i32_21 c1_i32_23 k0_t2
  let v211 : Index := Scalar.indexCast arg14
  let c1_i32_89 : BitVec 32 := 1#32
  let v212 : Index := Scalar.indexCast c1_i32_89
  let c112_90 : Index := 112#32
  ![v211.toNat, 1, 112]
def k0_off69 (k0_t2 : Fin k0_t2_loop.trips) : Fin 2 → Nat :=
  let c0_i32_21 : BitVec 32 := 0#32
  let c1_i32_23 : BitVec 32 := 1#32
  let arg14 : BitVec 32 := Scf.iv c0_i32_21 c1_i32_23 k0_t2
  let v215 : Index := Scalar.indexCast arg14
  let c240 : Index := 240#32
  ![v215.toNat, 240]
def k0_off70 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v3 : BitVec 32 := Scalar.addi v2 c128_i32
  let c0_i32_29_r4 : BitVec 32 := 0#32
  let c0_i32_30_r4 : BitVec 32 := 0#32
  ![v3.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RowsIdeal.lean ====
abbrev S8192x256 : Shape := ⟨2, ![8192, 256]⟩
abbrev S8192 : Shape := ⟨1, ![8192]⟩
abbrev S1x512x256 : Shape := ⟨3, ![1, 512, 256]⟩
abbrev S16x512 : Shape := ⟨2, ![16, 512]⟩
abbrev S_ : Shape := ⟨0, ![]⟩
abbrev S16x512x1 : Shape := ⟨3, ![16, 512, 1]⟩
abbrev S1 : Shape := ⟨1, ![1]⟩
abbrev S1x1x1 : Shape := ⟨3, ![1, 1, 1]⟩
abbrev S16x512x256 : Shape := ⟨3, ![16, 512, 256]⟩

abbrev nBuf : Space → Nat
  | .hbm => 29
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S1x512x256, .f32⟩
  | .hbm, ⟨3, _⟩ => ⟨S16x512, .i32⟩
  | .hbm, ⟨4, _⟩ => ⟨S_, .i32⟩
  | .hbm, ⟨5, _⟩ => ⟨S16x512, .i32⟩
  | .hbm, ⟨6, _⟩ => ⟨S16x512, .i1⟩
  | .hbm, ⟨7, _⟩ => ⟨S_, .i32⟩
  | .hbm, ⟨8, _⟩ => ⟨S16x512, .i32⟩
  | .hbm, ⟨9, _⟩ => ⟨S16x512, .i32⟩
  | .hbm, ⟨10, _⟩ => ⟨S16x512, .i32⟩
  | .hbm, ⟨11, _⟩ => ⟨S16x512x1, .i32⟩
  | .hbm, ⟨12, _⟩ => ⟨S1, .i32⟩
  | .hbm, ⟨13, _⟩ => ⟨S_, .i32⟩
  | .hbm, ⟨14, _⟩ => ⟨S16x512x1, .i32⟩
  | .hbm, ⟨15, _⟩ => ⟨S16x512x1, .i1⟩
  | .hbm, ⟨16, _⟩ => ⟨S1x1x1, .i32⟩
  | .hbm, ⟨17, _⟩ => ⟨S16x512x1, .i32⟩
  | .hbm, ⟨18, _⟩ => ⟨S16x512x1, .i1⟩
  | .hbm, ⟨19, _⟩ => ⟨S16x512x1, .i1⟩
  | .hbm, ⟨20, _⟩ => ⟨S_, .i1⟩
  | .hbm, ⟨21, _⟩ => ⟨S16x512, .i1⟩
  | .hbm, ⟨22, _⟩ => ⟨S16x512x256, .f32⟩
  | .hbm, ⟨23, _⟩ => ⟨S16x512x256, .i1⟩
  | .hbm, ⟨24, _⟩ => ⟨S_, .f32⟩
  | .hbm, ⟨25, _⟩ => ⟨S16x512x256, .f32⟩
  | .hbm, ⟨26, _⟩ => ⟨S16x512x256, .f32⟩
  | .hbm, ⟨27, _⟩ => ⟨S16x512x256, .f32⟩
  | .hbm, ⟨28, _⟩ => ⟨S16x512x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== KernelIdeal.lean ====
abbrev S16x512x129 : Shape := ⟨3, ![16, 512, 129]⟩
abbrev S256x129 : Shape := ⟨2, ![256, 129]⟩
abbrev S256 : Shape := ⟨1, ![256]⟩
abbrev S8192x256 : Shape := ⟨2, ![8192, 256]⟩
abbrev S1x512x256 : Shape := ⟨3, ![1, 512, 256]⟩
abbrev S8192x129 : Shape := ⟨2, ![8192, 129]⟩
abbrev S1x256 : Shape := ⟨2, ![1, 256]⟩
abbrev S512x256 : Shape := ⟨2, ![512, 256]⟩
abbrev S8192 : Shape := ⟨1, ![8192]⟩
abbrev S1x1 : Shape := ⟨2, ![1, 1]⟩
abbrev S1x8192 : Shape := ⟨2, ![1, 8192]⟩
abbrev S256x8192 : Shape := ⟨2, ![256, 8192]⟩
abbrev S256x256 : Shape := ⟨2, ![256, 256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S8192x2x128 : Shape := ⟨3, ![8192, 2, 128]⟩
abbrev S128 : Shape := ⟨1, ![128]⟩
abbrev S128x2x128 : Shape := ⟨3, ![128, 2, 128]⟩
abbrev S128x256 : Shape := ⟨2, ![128, 256]⟩
abbrev S_ : Shape := ⟨0, ![]⟩
abbrev S1x1x16 : Shape := ⟨3, ![1, 1, 16]⟩
abbrev S16 : Shape := ⟨1, ![16]⟩
abbrev S1x16 : Shape := ⟨2, ![1, 16]⟩
abbrev S16x512x256 : Shape := ⟨3, ![16, 512, 256]⟩

abbrev nBuf : Table → Nat
  | .hbm => 17
  | .local .tc .vmem => 11
  | .local .scVector .vmem => 5
  | _ => 0

abbrev bufTy : (tb : Table) → Fin (nBuf tb) → BufTy
  | .hbm, ⟨0, _⟩ => ⟨S16x512x129, .f32⟩
  | .hbm, ⟨1, _⟩ => ⟨S256x129, .f32⟩
  | .hbm, ⟨2, _⟩ => ⟨S256, .f32⟩
  | .hbm, ⟨3, _⟩ => ⟨S8192x256, .f32⟩
  | .hbm, ⟨4, _⟩ => ⟨S1x512x256, .f32⟩
  | .hbm, ⟨5, _⟩ => ⟨S8192x129, .f32⟩
  | .hbm, ⟨6, _⟩ => ⟨S1x256, .f32⟩
  | .hbm, ⟨7, _⟩ => ⟨S512x256, .f32⟩
  | .hbm, ⟨8, _⟩ => ⟨S8192x256, .bf16⟩
  | .hbm, ⟨9, _⟩ => ⟨S8192, .i32⟩
  | .hbm, ⟨10, _⟩ => ⟨S1x1, .f32⟩
  | .hbm, ⟨11, _⟩ => ⟨S8192x2x128, .f32⟩
  | .hbm, ⟨12, _⟩ => ⟨S8192x2x128, .f32⟩
  | .hbm, ⟨13, _⟩ => ⟨S16x512x256, .f32⟩
  | .hbm, ⟨14, _⟩ => ⟨S_, .f32⟩
  | .hbm, ⟨15, _⟩ => ⟨S_, .f32⟩
  | .hbm, ⟨16, _⟩ => ⟨S_, .f32⟩
  | .local .tc .vmem, ⟨0, _⟩ => ⟨S256x129, .f32⟩
  | .local .tc .vmem, ⟨1, _⟩ => ⟨S256x129, .f32⟩
  | .local .tc .vmem, ⟨2, _⟩ => ⟨S256x129, .f32⟩
  | .local .tc .vmem, ⟨3, _⟩ => ⟨S1x256, .f32⟩
  | .local .tc .vmem, ⟨4, _⟩ => ⟨S8192x256, .f32⟩
  | .local .tc .vmem, ⟨5, _⟩ => ⟨S8192x256, .bf16⟩
  | .local .tc .vmem, ⟨6, _⟩ => ⟨S256, .i32⟩
  | .local .tc .vmem, ⟨7, _⟩ => ⟨S256, .i32⟩
  | .local .tc .vmem, ⟨8, _⟩ => ⟨S1x1, .f32⟩
  | .local .tc .vmem, ⟨9, _⟩ => ⟨S1x8192, .f32⟩
  | .local .tc .vmem, ⟨10, _⟩ => ⟨S256x8192, .f32⟩
  | .local .scVector .vmem, ⟨0, _⟩ => ⟨S128, .i32⟩
  | .local .scVector .vmem, ⟨1, _⟩ => ⟨S128, .i32⟩
  | .local .scVector .vmem, ⟨2, _⟩ => ⟨S128x2x128, .f32⟩
  | .local .scVector .vmem, ⟨3, _⟩ => ⟨S128x2x128, .f32⟩
  | .local .scVector .vmem, ⟨4, _⟩ => ⟨S128x256, .f32⟩
  | _, _ => ⟨S16x512x129, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v5_scv : Ref sig .scVector := ⟨.hbm, 11, rfl⟩
abbrev main_v4_0_scv : Ref sig .scVector := ⟨.hbm, 9, rfl⟩
abbrev main_v2_scv : Ref sig .scVector := ⟨.hbm, 7, rfl⟩
abbrev main_v6_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x129 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v3 : BitVec 32 := Scalar.addi v2 c128_i32
  ![v3.toNat]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c512_i32 : BitVec 32 := 512#32
  let v6 : BitVec 32 := Scalar.remsi v2 c512_i32
  let c0_i32_29_r2 : BitVec 32 := 0#32
  ![v6.toNat, 0]
@[reducible] def k1_t1_loop : Scf.Loop 32 :=
  let c0_i32_9 : BitVec 32 := 0#32
  let c128_i32_10 : BitVec 32 := 128#32
  let v8 : BitVec 32 := Scalar.addi c0_i32_9 c128_i32_10
  let c1_i32 : BitVec 32 := 1#32
  ⟨c0_i32_9, v8, c1_i32⟩
def k1_off4 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v16 : Index := Scalar.indexCast arg14
  let c0_i32_29 : BitVec 32 := 0#32
  let v17 : Index := Scalar.indexCast c0_i32_29
  let c0 : Index := 0#32
  ![v16.toNat, 0, 0]
def k1_off5 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v20 : Index := Scalar.indexCast arg14
  let c0_30 : Index := 0#32
  ![v20.toNat, 0]
def k1_off6 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v29 : Index := Scalar.indexCast arg14
  let c0_i32_33 : BitVec 32 := 0#32
  let v30 : Index := Scalar.indexCast c0_i32_33
  let c16 : Index := 16#32
  ![v29.toNat, 0, 16]
def k1_off7 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v33 : Index := Scalar.indexCast arg14
  let c16_34 : Index := 16#32
  ![v33.toNat, 16]
def k1_off8 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v42 : Index := Scalar.indexCast arg14
  let c0_i32_37 : BitVec 32 := 0#32
  let v43 : Index := Scalar.indexCast c0_i32_37
  let c32 : Index := 32#32
  ![v42.toNat, 0, 32]
def k1_off9 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v46 : Index := Scalar.indexCast arg14
  let c32_38 : Index := 32#32
  ![v46.toNat, 32]
def k1_off10 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v55 : Index := Scalar.indexCast arg14
  let c0_i32_41 : BitVec 32 := 0#32
  let v56 : Index := Scalar.indexCast c0_i32_41
  let c48 : Index := 48#32
  ![v55.toNat, 0, 48]
def k1_off11 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v59 : Index := Scalar.indexCast arg14
  let c48_42 : Index := 48#32
  ![v59.toNat, 48]
def k1_off12 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v68 : Index := Scalar.indexCast arg14
  let c0_i32_45 : BitVec 32 := 0#32
  let v69 : Index := Scalar.indexCast c0_i32_45
  let c64 : Index := 64#32
  ![v68.toNat, 0, 64]
def k1_off13 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v72 : Index := Scalar.indexCast arg14
  let c64_46 : Index := 64#32
  ![v72.toNat, 64]
def k1_off14 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v81 : Index := Scalar.indexCast arg14
  let c0_i32_49 : BitVec 32 := 0#32
  let v82 : Index := Scalar.indexCast c0_i32_49
  let c80 : Index := 80#32
  ![v81.toNat, 0, 80]
def k1_off15 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v85 : Index := Scalar.indexCast arg14
  let c80_50 : Index := 80#32
  ![v85.toNat, 80]
def k1_off16 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v94 : Index := Scalar.indexCast arg14
  let c0_i32_53 : BitVec 32 := 0#32
  let v95 : Index := Scalar.indexCast c0_i32_53
  let c96 : Index := 96#32
  ![v94.toNat, 0, 96]
def k1_off17 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v98 : Index := Scalar.indexCast arg14
  let c96_54 : Index := 96#32
  ![v98.toNat, 96]
def k1_off18 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v107 : Index := Scalar.indexCast arg14
  let c0_i32_57 : BitVec 32 := 0#32
  let v108 : Index := Scalar.indexCast c0_i32_57
  let c112 : Index := 112#32
  ![v107.toNat, 0, 112]
def k1_off19 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v111 : Index := Scalar.indexCast arg14
  let c112_58 : Index := 112#32
  ![v111.toNat, 112]
def k1_off20 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v120 : Index := Scalar.indexCast arg14
  let c1_i32_61 : BitVec 32 := 1#32
  let v121 : Index := Scalar.indexCast c1_i32_61
  let c0_62 : Index := 0#32
  ![v120.toNat, 1, 0]
def k1_off21 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v124 : Index := Scalar.indexCast arg14
  let c128 : Index := 128#32
  ![v124.toNat, 128]
def k1_off22 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v133 : Index := Scalar.indexCast arg14
  let c1_i32_65 : BitVec 32 := 1#32
  let v134 : Index := Scalar.indexCast c1_i32_65
  let c16_66 : Index := 16#32
  ![v133.toNat, 1, 16]
def k1_off23 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v137 : Index := Scalar.indexCast arg14
  let c144 : Index := 144#32
  ![v137.toNat, 144]
def k1_off24 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v146 : Index := Scalar.indexCast arg14
  let c1_i32_69 : BitVec 32 := 1#32
  let v147 : Index := Scalar.indexCast c1_i32_69
  let c32_70 : Index := 32#32
  ![v146.toNat, 1, 32]
def k1_off25 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v150 : Index := Scalar.indexCast arg14
  let c160 : Index := 160#32
  ![v150.toNat, 160]
def k1_off26 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v159 : Index := Scalar.indexCast arg14
  let c1_i32_73 : BitVec 32 := 1#32
  let v160 : Index := Scalar.indexCast c1_i32_73
  let c48_74 : Index := 48#32
  ![v159.toNat, 1, 48]
def k1_off27 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v163 : Index := Scalar.indexCast arg14
  let c176 : Index := 176#32
  ![v163.toNat, 176]
def k1_off28 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v172 : Index := Scalar.indexCast arg14
  let c1_i32_77 : BitVec 32 := 1#32
  let v173 : Index := Scalar.indexCast c1_i32_77
  let c64_78 : Index := 64#32
  ![v172.toNat, 1, 64]
def k1_off29 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v176 : Index := Scalar.indexCast arg14
  let c192 : Index := 192#32
  ![v176.toNat, 192]
def k1_off30 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v185 : Index := Scalar.indexCast arg14
  let c1_i32_81 : BitVec 32 := 1#32
  let v186 : Index := Scalar.indexCast c1_i32_81
  let c80_82 : Index := 80#32
  ![v185.toNat, 1, 80]
def k1_off31 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v189 : Index := Scalar.indexCast arg14
  let c208 : Index := 208#32
  ![v189.toNat, 208]
def k1_off32 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v198 : Index := Scalar.indexCast arg14
  let c1_i32_85 : BitVec 32 := 1#32
  let v199 : Index := Scalar.indexCast c1_i32_85
  let c96_86 : Index := 96#32
  ![v198.toNat, 1, 96]
def k1_off33 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v202 : Index := Scalar.indexCast arg14
  let c224 : Index := 224#32
  ![v202.toNat, 224]
def k1_off34 (k1_t1 : Fin k1_t1_loop.trips) : Fin 3 → Nat :=
  let c0_i32_9 : BitVec 32 := 0#32
  let c1_i32 : BitVec 32 := 1#32
  let arg14 : BitVec 32 := Scf.iv c0_i32_9 c1_i32 k1_t1
  let v211 : Index := Scalar.indexCast arg14
  let c1_i32_89 : BitVec 32 := 1#32
  let v212 : Index := Scalar.indexCast c1_i32_89
  let c112_90 : Index := 112#32
  ![v211.toNat, 1, 112]
def k1_off35 (k1_t1 : Fin k1_t1_loop.trips) : Fin 2 → Nat :=
  let c0_i32_9 : BitVec 32 := 0#32
  let c1_i32 : BitVec 32 := 1#32
  let arg14 : BitVec 32 := Scf.iv c0_i32_9 c1_i32 k1_t1
  let v215 : Index := Scalar.indexCast arg14
  let c240 : Index := 240#32
  ![v215.toNat, 240]
def k1_off36 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_12 : BitVec 32 := 0#32
  let c0_i32_13 : BitVec 32 := 0#32
  ![v2.toNat, 0, 0]
def k1_off37 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v3 : BitVec 32 := Scalar.addi v2 c128_i32
  let c512_i32_16 : BitVec 32 := 512#32
  let v11 : BitVec 32 := Scalar.remsi v3 c512_i32_16
  let c0_i32_29_r3 : BitVec 32 := 0#32
  ![v11.toNat, 0]
@[reducible] def k1_t2_loop : Scf.Loop 32 :=
  let c0_i32_21 : BitVec 32 := 0#32
  let c128_i32_22 : BitVec 32 := 128#32
  let v13 : BitVec 32 := Scalar.addi c0_i32_21 c128_i32_22
  let c1_i32_23 : BitVec 32 := 1#32
  ⟨c0_i32_21, v13, c1_i32_23⟩
def k1_off38 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v16 : Index := Scalar.indexCast arg14
  let c0_i32_29 : BitVec 32 := 0#32
  let v17 : Index := Scalar.indexCast c0_i32_29
  let c0 : Index := 0#32
  ![v16.toNat, 0, 0]
def k1_off39 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v20 : Index := Scalar.indexCast arg14
  let c0_30 : Index := 0#32
  ![v20.toNat, 0]
def k1_off40 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v29 : Index := Scalar.indexCast arg14
  let c0_i32_33 : BitVec 32 := 0#32
  let v30 : Index := Scalar.indexCast c0_i32_33
  let c16 : Index := 16#32
  ![v29.toNat, 0, 16]
def k1_off41 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v33 : Index := Scalar.indexCast arg14
  let c16_34 : Index := 16#32
  ![v33.toNat, 16]
def k1_off42 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v42 : Index := Scalar.indexCast arg14
  let c0_i32_37 : BitVec 32 := 0#32
  let v43 : Index := Scalar.indexCast c0_i32_37
  let c32 : Index := 32#32
  ![v42.toNat, 0, 32]
def k1_off43 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v46 : Index := Scalar.indexCast arg14
  let c32_38 : Index := 32#32
  ![v46.toNat, 32]
def k1_off44 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v55 : Index := Scalar.indexCast arg14
  let c0_i32_41 : BitVec 32 := 0#32
  let v56 : Index := Scalar.indexCast c0_i32_41
  let c48 : Index := 48#32
  ![v55.toNat, 0, 48]
def k1_off45 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v59 : Index := Scalar.indexCast arg14
  let c48_42 : Index := 48#32
  ![v59.toNat, 48]
def k1_off46 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v68 : Index := Scalar.indexCast arg14
  let c0_i32_45 : BitVec 32 := 0#32
  let v69 : Index := Scalar.indexCast c0_i32_45
  let c64 : Index := 64#32
  ![v68.toNat, 0, 64]
def k1_off47 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v72 : Index := Scalar.indexCast arg14
  let c64_46 : Index := 64#32
  ![v72.toNat, 64]
def k1_off48 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v81 : Index := Scalar.indexCast arg14
  let c0_i32_49 : BitVec 32 := 0#32
  let v82 : Index := Scalar.indexCast c0_i32_49
  let c80 : Index := 80#32
  ![v81.toNat, 0, 80]
def k1_off49 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v85 : Index := Scalar.indexCast arg14
  let c80_50 : Index := 80#32
  ![v85.toNat, 80]
def k1_off50 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v94 : Index := Scalar.indexCast arg14
  let c0_i32_53 : BitVec 32 := 0#32
  let v95 : Index := Scalar.indexCast c0_i32_53
  let c96 : Index := 96#32
  ![v94.toNat, 0, 96]
def k1_off51 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v98 : Index := Scalar.indexCast arg14
  let c96_54 : Index := 96#32
  ![v98.toNat, 96]
def k1_off52 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v107 : Index := Scalar.indexCast arg14
  let c0_i32_57 : BitVec 32 := 0#32
  let v108 : Index := Scalar.indexCast c0_i32_57
  let c112 : Index := 112#32
  ![v107.toNat, 0, 112]
def k1_off53 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v111 : Index := Scalar.indexCast arg14
  let c112_58 : Index := 112#32
  ![v111.toNat, 112]
def k1_off54 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v120 : Index := Scalar.indexCast arg14
  let c1_i32_61 : BitVec 32 := 1#32
  let v121 : Index := Scalar.indexCast c1_i32_61
  let c0_62 : Index := 0#32
  ![v120.toNat, 1, 0]
def k1_off55 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v124 : Index := Scalar.indexCast arg14
  let c128 : Index := 128#32
  ![v124.toNat, 128]
def k1_off56 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v133 : Index := Scalar.indexCast arg14
  let c1_i32_65 : BitVec 32 := 1#32
  let v134 : Index := Scalar.indexCast c1_i32_65
  let c16_66 : Index := 16#32
  ![v133.toNat, 1, 16]
def k1_off57 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v137 : Index := Scalar.indexCast arg14
  let c144 : Index := 144#32
  ![v137.toNat, 144]
def k1_off58 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v146 : Index := Scalar.indexCast arg14
  let c1_i32_69 : BitVec 32 := 1#32
  let v147 : Index := Scalar.indexCast c1_i32_69
  let c32_70 : Index := 32#32
  ![v146.toNat, 1, 32]
def k1_off59 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v150 : Index := Scalar.indexCast arg14
  let c160 : Index := 160#32
  ![v150.toNat, 160]
def k1_off60 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v159 : Index := Scalar.indexCast arg14
  let c1_i32_73 : BitVec 32 := 1#32
  let v160 : Index := Scalar.indexCast c1_i32_73
  let c48_74 : Index := 48#32
  ![v159.toNat, 1, 48]
def k1_off61 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v163 : Index := Scalar.indexCast arg14
  let c176 : Index := 176#32
  ![v163.toNat, 176]
def k1_off62 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v172 : Index := Scalar.indexCast arg14
  let c1_i32_77 : BitVec 32 := 1#32
  let v173 : Index := Scalar.indexCast c1_i32_77
  let c64_78 : Index := 64#32
  ![v172.toNat, 1, 64]
def k1_off63 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v176 : Index := Scalar.indexCast arg14
  let c192 : Index := 192#32
  ![v176.toNat, 192]
def k1_off64 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v185 : Index := Scalar.indexCast arg14
  let c1_i32_81 : BitVec 32 := 1#32
  let v186 : Index := Scalar.indexCast c1_i32_81
  let c80_82 : Index := 80#32
  ![v185.toNat, 1, 80]
def k1_off65 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v189 : Index := Scalar.indexCast arg14
  let c208 : Index := 208#32
  ![v189.toNat, 208]
def k1_off66 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v198 : Index := Scalar.indexCast arg14
  let c1_i32_85 : BitVec 32 := 1#32
  let v199 : Index := Scalar.indexCast c1_i32_85
  let c96_86 : Index := 96#32
  ![v198.toNat, 1, 96]
def k1_off67 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v202 : Index := Scalar.indexCast arg14
  let c224 : Index := 224#32
  ![v202.toNat, 224]
def k1_off68 (k1_t2 : Fin k1_t2_loop.trips) : Fin 3 → Nat :=
  let c0_i32_21 : BitVec 32 := 0#32
  let c1_i32_23 : BitVec 32 := 1#32
  let arg14 : BitVec 32 := Scf.iv c0_i32_21 c1_i32_23 k1_t2
  let v211 : Index := Scalar.indexCast arg14
  let c1_i32_89 : BitVec 32 := 1#32
  let v212 : Index := Scalar.indexCast c1_i32_89
  let c112_90 : Index := 112#32
  ![v211.toNat, 1, 112]
def k1_off69 (k1_t2 : Fin k1_t2_loop.trips) : Fin 2 → Nat :=
  let c0_i32_21 : BitVec 32 := 0#32
  let c1_i32_23 : BitVec 32 := 1#32
  let arg14 : BitVec 32 := Scf.iv c0_i32_21 c1_i32_23 k1_t2
  let v215 : Index := Scalar.indexCast arg14
  let c240 : Index := 240#32
  ![v215.toNat, 240]
def k1_off70 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v3 : BitVec 32 := Scalar.addi v2 c128_i32
  let c0_i32_29_r4 : BitVec 32 := 0#32
  let c0_i32_30_r4 : BitVec 32 := 0#32
  ![v3.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x512x129 : Shape := ⟨3, ![16, 512, 129]⟩
abbrev S256x129 : Shape := ⟨2, ![256, 129]⟩
abbrev S256 : Shape := ⟨1, ![256]⟩
abbrev S8192x256 : Shape := ⟨2, ![8192, 256]⟩
abbrev S1x512x256 : Shape := ⟨3, ![1, 512, 256]⟩
abbrev S16x512x256 : Shape := ⟨3, ![16, 512, 256]⟩
abbrev S1x1x256 : Shape := ⟨3, ![1, 1, 256]⟩
abbrev S_ : Shape := ⟨0, ![]⟩
abbrev S16x512 : Shape := ⟨2, ![16, 512]⟩
abbrev S16x512x1 : Shape := ⟨3, ![16, 512, 1]⟩
abbrev S8192 : Shape := ⟨1, ![8192]⟩
abbrev S16x512x8192 : Shape := ⟨3, ![16, 512, 8192]⟩
abbrev S1x1x8192 : Shape := ⟨3, ![1, 1, 8192]⟩
abbrev S1 : Shape := ⟨1, ![1]⟩
abbrev S1x1x1 : Shape := ⟨3, ![1, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S16x512x129, .f32⟩
  | .hbm, ⟨1, _⟩ => ⟨S256x129, .f32⟩
  | .hbm, ⟨2, _⟩ => ⟨S256, .f32⟩
  | .hbm, ⟨3, _⟩ => ⟨S8192x256, .f32⟩
  | .hbm, ⟨4, _⟩ => ⟨S1x512x256, .f32⟩
  | .hbm, ⟨5, _⟩ => ⟨S16x512x256, .f32⟩
  | .hbm, ⟨6, _⟩ => ⟨S1x1x256, .f32⟩
  | .hbm, ⟨7, _⟩ => ⟨S16x512x256, .f32⟩
  | .hbm, ⟨8, _⟩ => ⟨S16x512x256, .f32⟩
  | .hbm, ⟨9, _⟩ => ⟨S16x512x256, .f32⟩
  | .hbm, ⟨10, _⟩ => ⟨S_, .f32⟩
  | .hbm, ⟨11, _⟩ => ⟨S16x512, .f32⟩
  | .hbm, ⟨12, _⟩ => ⟨S16x512x1, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S16x512x8192, .f32⟩
  | .hbm, ⟨17, _⟩ => ⟨S_, .f32⟩
  | .hbm, ⟨18, _⟩ => ⟨S16x512x8192, .f32⟩
  | .hbm, ⟨19, _⟩ => ⟨S16x512x8192, .f32⟩
  | .hbm, ⟨20, _⟩ => ⟨S16x512x8192, .f32⟩
  | .hbm, ⟨21, _⟩ => ⟨S16x512x8192, .f32⟩
  | .hbm, ⟨22, _⟩ => ⟨S1x1x8192, .f32⟩
  | .hbm, ⟨23, _⟩ => ⟨S16x512x8192, .f32⟩
  | .hbm, ⟨24, _⟩ => ⟨S16x512x8192, .f32⟩
  | .hbm, ⟨25, _⟩ => ⟨S16x512x8192, .i32⟩
  | .hbm, ⟨26, _⟩ => ⟨S_, .f32⟩
  | .hbm, ⟨27, _⟩ => ⟨S_, .i32⟩
  | .hbm, ⟨28, _⟩ => ⟨S16x512, .f32⟩
  | .hbm, ⟨29, _⟩ => ⟨S16x512, .i32⟩
  | .hbm, ⟨30, _⟩ => ⟨S_, .i32⟩
  | .hbm, ⟨31, _⟩ => ⟨S16x512, .i32⟩
  | .hbm, ⟨32, _⟩ => ⟨S16x512, .i1⟩
  | .hbm, ⟨33, _⟩ => ⟨S_, .i32⟩
  | .hbm, ⟨34, _⟩ => ⟨S16x512, .i32⟩
  | .hbm, ⟨35, _⟩ => ⟨S16x512, .i32⟩
  | .hbm, ⟨36, _⟩ => ⟨S16x512, .i32⟩
  | .hbm, ⟨37, _⟩ => ⟨S16x512x1, .i32⟩
  | .hbm, ⟨38, _⟩ => ⟨S1, .i32⟩
  | .hbm, ⟨39, _⟩ => ⟨S_, .i32⟩
  | .hbm, ⟨40, _⟩ => ⟨S16x512x1, .i32⟩
  | .hbm, ⟨41, _⟩ => ⟨S16x512x1, .i1⟩
  | .hbm, ⟨42, _⟩ => ⟨S1x1x1, .i32⟩
  | .hbm, ⟨43, _⟩ => ⟨S16x512x1, .i32⟩
  | .hbm, ⟨44, _⟩ => ⟨S16x512x1, .i1⟩
  | .hbm, ⟨45, _⟩ => ⟨S16x512x1, .i1⟩
  | .hbm, ⟨46, _⟩ => ⟨S_, .i1⟩
  | .hbm, ⟨47, _⟩ => ⟨S16x512, .i1⟩
  | .hbm, ⟨48, _⟩ => ⟨S16x512x256, .f32⟩
  | .hbm, ⟨49, _⟩ => ⟨S16x512x256, .i1⟩
  | .hbm, ⟨50, _⟩ => ⟨S_, .f32⟩
  | .hbm, ⟨51, _⟩ => ⟨S16x512x256, .f32⟩
  | .hbm, ⟨52, _⟩ => ⟨S16x512x256, .f32⟩
  | .hbm, ⟨53, _⟩ => ⟨S16x512x256, .f32⟩
  | .hbm, ⟨54, _⟩ => ⟨S16x512x256, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S16x512x256, .f32⟩
  | .hbm, ⟨60, _⟩ => ⟨S16x512x256, .f32⟩
  | .hbm, ⟨61, _⟩ => ⟨S16x512x256, .f32⟩
  | .hbm, ⟨62, _⟩ => ⟨S16x512x256, .f32⟩
  | _, _ => ⟨S16x512x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v17 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_2 : Ref sig .tc := ⟨.hbm, 55, rfl⟩
abbrev main_v21 : Ref sig .tc := ⟨.hbm, 56, rfl⟩
abbrev main_cst_3 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩

abbrev nD : Nat := 1
abbrev τ : Topo := Topo.v7x

variable {F : FTy → Type} [FloatOps F]
-- ==== Proof.Rows.lean ====
/-
  The addition of the position rows, one row at a time: a trip of the kernel's loop adds, sixteen lanes at a time, row `i`
  of the position block to row `i` of the gathered rows. `mix g p n` is what the rows' buffer holds once the first
  `n` elements, in row-major order, have been added to; each load-load-load-store group moves it sixteen elements on
  (`group`), a trip a whole row (`trip1`, `trip2`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import Idealize.ShloMosaic.Lib.Pipeline.Value
public import Idealize.ShloMosaic.Lib.Pointwise.Index
public import proofs.«01_k».proof.Proof.Gen.GatherIdeal
public import proofs.«01_k».proof.Proof.Gen.GatherIdeal.Skeleton

@[expose] public section

noncomputable section

namespace Cert.Proof.Rows

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × Counters

local notation "𝕄" => MT nD τ sig (HIx 1) (Elt F) ℕ UU ℕ

abbrev 𝒱₀ : Variants := Variants.none

variable [FloatOps F]

/-- The place of the position block that element `y` of the gathered rows is added to. -/
def posIx (y : S128x2x128.Idx) : S128x256.Idx :=
  ix2 (n0 := 128) (n1 := 256) (y 0) ⟨128 * (y 1).val + (y 2).val, by
    have h1 : (y 1).val < 2 := (y 1).isLt
    have h2 : (y 2).val < 128 := (y 2).isLt
    omega⟩

/-- Rows `g` with the first `n` elements, in row-major order, added to by the position block `p`. -/
def mix (g : S128x2x128.Idx → Elt F .f32) (p : S128x256.Idx → Elt F .f32) (n : ℕ) : S128x2x128.Idx → Elt F .f32 := fun y =>
  if 256 * (y 0).val + 128 * (y 1).val + (y 2).val < n then FloatOps.addf (g y) (p (posIx y)) else g y

theorem mix_zero (g : S128x2x128.Idx → Elt F .f32) (p : S128x256.Idx → Elt F .f32) : mix g p 0 = g := by
  funext y; simp [mix]

theorem mix_all (g : S128x2x128.Idx → Elt F .f32) (p : S128x256.Idx → Elt F .f32) :
    mix g p (256 * 128) = fun y => FloatOps.addf (g y) (p (posIx y)) := by
  funext y
  have h0 : (y 0).val < 128 := (y 0).isLt
  have h1 : (y 1).val < 2 := (y 1).isLt
  have h2 : (y 2).val < 128 := (y 2).isLt
  unfold mix; rw [if_pos (by omega)]

/-- Sixteen lanes of the rows plus sixteen lanes of the position block. -/
def padd (a : Vec F S1x1x16 .f32) (b : Vec F S1x16 .f32) : FVec F S1x1x16 .f32 :=
  shapeCast S1x1x16 (addf (shapeCast S16 a shapeCasts_S1x1x16_S16) (shapeCast S16 b shapeCasts_S1x16_S16)) shapeCasts_S16_S1x1x16

def lane3 (l : Fin 16) : S1x1x16.Idx := ix3 (0 : Fin 1) (0 : Fin 1) l
def lane2 (l : Fin 16) : S1x16.Idx := ix2 (0 : Fin 1) l

theorem padd_apply (a : Vec F S1x1x16 .f32) (b : Vec F S1x16 .f32) (l : Fin 16) :
    padd a b (lane3 l) = FloatOps.addf (a (lane3 l)) (b (lane2 l)) := by
  unfold padd
  rw [shapeCast_apply _ _ (lane3 l) (ix1 l) (by
    rw [Shape.rowMajor_val_one, Shape.rowMajor_val_three]
    show l.val = (0 * 1 + 0) * 16 + l.val; omega)]
  show FloatOps.addf (shapeCast S16 a _ (ix1 l)) (shapeCast S16 b _ (ix1 l)) = _
  rw [shapeCast_apply a _ (ix1 l) (lane3 l) (by
    rw [Shape.rowMajor_val_one, Shape.rowMajor_val_three]
    show (0 * 1 + 0) * 16 + l.val = l.val; omega),
    shapeCast_apply b _ (ix1 l) (lane2 l) (by
    rw [Shape.rowMajor_val_one, Shape.rowMajor_val_two]
    show 0 * 16 + l.val = l.val; omega)]

section Group

variable (thr : Thread nD τ) (m8 : Memref sig thr.2.kind .vmem S128x2x128 .f32) (m10 : Memref sig thr.2.kind .vmem S128x256 .f32)

/-- The rows' buffer, reading `G`. -/
def rowsAt (G : S128x2x128.Idx → Elt F .f32) : sProp 𝕄 :=
  iprop(∃ f, ⌜m8.view.read (Elt F) f = G⌝ ∗ m8.view.loc thr ↦{fullShare} f)
/-- The position block, reading `p`. -/
def posAt (p : S128x256.Idx → Elt F .f32) : sProp 𝕄 :=
  iprop(∃ f, ⌜m10.view.read (Elt F) f = p⌝ ∗ m10.view.loc thr ↦{fullShare} f)

theorem stored (g : S128x2x128.Idx → Elt F .f32) (p : S128x256.Idx → Elt F .f32) (i h l : ℕ) (hh : h < 2) (hl : l + 16 ≤ 128)
    (o8 : Fin 3 → ℕ) (i8 : ∀ a, o8 a + S1x1x16.size a ≤ S128x2x128.size a)
    (o10 : Fin 2 → ℕ) (i10 : ∀ a, o10 a + S1x16.size a ≤ S128x256.size a)
    (e8 : o8 = ![i, h, l]) (e10 : o10 = ![i, 128 * h + l]) (n : ℕ) (hn : n = 256 * i + 128 * h + l)
    (f : Buf (Elt F) (m8.view.loc thr)) (hf : m8.view.read (Elt F) f = mix g p n)
    (fp : Buf (Elt F) (m10.view.loc thr)) (hfp : m10.view.read (Elt F) fp = p)
    (w : S1x1x16.Idx → Elt F .f32) (hw : ∀ j, w (lane3 j) = FloatOps.addf
      (m8.view.readAt (Elt F) (Rect.unit (s := S128x2x128) o8 S1x1x16.size i8).toLoadRect f (lane3 j))
        (m10.view.readAt (Elt F) (Rect.unit (s := S128x256) o10 S1x16.size i10).toLoadRect fp (lane2 j))) :
    m8.view.read (Elt F) ((m8.access (Rect.unit (s := S128x2x128) o8 S1x1x16.size i8)).write (Elt F) f w Finset.univ) = mix g p (n + 16) := by
  subst e8 e10 hn
  funext y
  have h0 : (y 0).val < 128 := (y 0).isLt
  have h1 : (y 1).val < 2 := (y 1).isLt
  have h2 : (y 2).val < 128 := (y 2).isLt
  show m8.view.read (Elt F) (m8.view.writes (Elt F) f [⟨Rect.unit (s := S128x2x128) ![i, h, l] S1x1x16.size i8, w⟩]) y = _
  by_cases hy : (y 0).val = i ∧ (y 1).val = h ∧ l ≤ (y 2).val ∧ (y 2).val < l + 16
  · obtain ⟨hy0, hy1, hy2, hy3⟩ := hy
    rw [View.read_writes_cons_hit_of_coords m8.view f _ _ _ (lane3 ⟨(y 2).val - l, by omega⟩) y (by
      intro a; fin_cases a
      · show (y 0).val = i + 1 * 0; omega
      · show (y 1).val = h + 1 * 0; omega
      · show (y 2).val = l + 1 * ((y 2).val - l); omega)]
    rw [hw]
    have ea : m8.view.readAt (Elt F) (Rect.unit (s := S128x2x128) ![i, h, l] S1x1x16.size i8).toLoadRect f (lane3 ⟨(y 2).val - l, by omega⟩) = g y := by
      show m8.view.read (Elt F) f ((Rect.unit (s := S128x2x128) ![i, h, l] S1x1x16.size i8).emb (lane3 ⟨(y 2).val - l, by omega⟩)) = _
      rw [Rect.emb_eq_of_coords _ _ y (by
        intro a; fin_cases a
        · show (y 0).val = i + 1 * 0; omega
        · show (y 1).val = h + 1 * 0; omega
        · show (y 2).val = l + 1 * ((y 2).val - l); omega), hf]
      unfold mix; rw [if_neg (by omega)]
    have eb : m10.view.readAt (Elt F) (Rect.unit (s := S128x256) ![i, 128 * h + l] S1x16.size i10).toLoadRect fp (lane2 ⟨(y 2).val - l, by omega⟩) = p (posIx y) := by
      show m10.view.read (Elt F) fp ((Rect.unit (s := S128x256) ![i, 128 * h + l] S1x16.size i10).emb _) = _
      rw [Rect.emb_eq_of_coords _ _ (posIx y) (by
        intro a; fin_cases a
        · show (y 0).val = i + 1 * 0; omega
        · show 128 * (y 1).val + (y 2).val = 128 * h + l + 1 * ((y 2).val - l); omega), hfp]
    rw [ea, eb]
    unfold mix; rw [if_pos (by omega)]
  · rw [View.read_writes_cons_miss _ _ _ _ _ (by
      intro hm
      obtain ⟨x, rfl⟩ := (Rect.unit (s := S128x2x128) ![i, h, l] S1x1x16.size i8).exists_idx_of_mem hm
      apply hy
      have x0 : (x 0).val < 1 := (x 0).isLt
      have x1 : (x 1).val < 1 := (x 1).isLt
      have x2 : (x 2).val < 16 := (x 2).isLt
      refine ⟨?_, ?_, ?_, ?_⟩
      · show i + 1 * (x 0).val = i; omega
      · show h + 1 * (x 1).val = h; omega
      · show l ≤ l + 1 * (x 2).val; omega
      · show l + 1 * (x 2).val < l + 16; omega), View.writes_nil, hf]
    unfold mix
    by_cases hlt : 256 * (y 0).val + 128 * (y 1).val + (y 2).val < 256 * i + 128 * h + l
    · rw [if_pos hlt, if_pos (by omega)]
    · rw [if_neg hlt, if_neg (by omega)]

open Idealize.ShloMosaic.Pipeline in
/-- One group of a trip: sixteen lanes of the rows read, sixteen of the position block, the lanes of the rows read again
    and unused, the sums stored. -/
theorem group {Λ : Labels} (defs : Defs nD τ sig (Elt F) Λ) (𝒱 : Variants) (E : Set ℕ) {α : Type} {Q : α → sProp 𝕄}
    (g : S128x2x128.Idx → Elt F .f32) (p : S128x256.Idx → Elt F .f32) (i h l : ℕ) (hh : h < 2) (hl : l + 16 ≤ 128)
    (o8 : Fin 3 → ℕ) (i8 : ∀ a, o8 a + S1x1x16.size a ≤ S128x2x128.size a)
    (o10 : Fin 2 → ℕ) (i10 : ∀ a, o10 a + S1x16.size a ≤ S128x256.size a)
    (e8 : o8 = ![i, h, l]) (e10 : o10 = ![i, 128 * h + l]) (n : ℕ) (hn : n = 256 * i + 128 * h + l)
    (l1 l3 : m8.view.LoadsAt (Rect.unit (s := S128x2x128) o8 S1x1x16.size i8).toLoadRect)
    (l2 : m10.view.LoadsAt (Rect.unit (s := S128x256) o10 S1x16.size i10).toLoadRect)
    (hx : (m8.access (Rect.unit (s := S128x2x128) o8 S1x1x16.size i8)).Stores Finset.univ)
    (hm : (Finset.univ : Finset (Rect.unit (s := S128x2x128) o8 S1x1x16.size i8).shape.Idx) = Finset.univ ∨ ∀ a, (Rect.unit (s := S128x2x128) o8 S1x1x16.size i8).stride a = 1)
    (pay : Vec F S1x1x16 .f32 → Vec F S1x16 .f32 → FVec F S1x1x16 .f32) (hpay : pay = padd)
    (k : PUnit → Prog (TpuEff nD τ sig (Elt F) Λ thr.2) α) :
    iprop(rowsAt thr m8 (mix g p n) ∗ posAt thr m10 p)
      ⊢ iprop((iprop(rowsAt thr m8 (mix g p (n + 16)) ∗ posAt thr m10 p) -∗ wp frame (wpE defs 𝒱 thr none) E (k ⟨⟩) Q)
        -∗ wp frame (wpE defs 𝒱 thr none) E
          (.op (.load m8 (Rect.unit (s := S128x2x128) o8 S1x1x16.size i8).toLoadRect l1) fun a =>
            .op (.load m10 (Rect.unit (s := S128x256) o10 S1x16.size i10).toLoadRect l2) fun b =>
              .op (.load m8 (Rect.unit (s := S128x2x128) o8 S1x1x16.size i8).toLoadRect l3) fun _ =>
                .op (.store m8 (Rect.unit (s := S128x2x128) o8 S1x1x16.size i8) (pay a b) Finset.univ hx hm) k) Q) := by
  subst hpay
  unfold rowsAt posAt
  iintro ⟨⟨%f, %hf, Hr⟩, ⟨%fp, %hfp, Hp⟩⟩ HK
  iapply (wp_load 𝒱 thr none E (Finset.subset_univ _)) $$ Hr
  iintro Hr
  iapply (wp_load 𝒱 thr none E (Finset.subset_univ _)) $$ Hp
  iintro Hp
  iapply (wp_load 𝒱 thr none E (Finset.subset_univ _)) $$ Hr
  iintro Hr
  iapply (wp_store 𝒱 thr none E (m := m8) (r := Rect.unit (s := S128x2x128) o8 S1x1x16.size i8) (f := f) (Finset.subset_univ _)) $$ Hr
  iintro Hr
  iapply HK
  isplitl [Hr]
  · iexists _; isplitr
    swap; · iexact Hr
    ipureintro
    exact stored thr m8 m10 g p i h l hh hl o8 i8 o10 i10 e8 e10 n hn f hf fp hfp _ (fun j => padd_apply _ _ j)
  · iexists fp; isplitr
    · ipureintro; exact hfp
    · iexact Hp

end Group

set_option maxHeartbeats 4000000 in
/-- A trip of the kernel's loop number 1: row `t` of the position block added to row `t` of the gathered rows. -/
theorem trip1 (d : Dev nD) (E : Set ℕ) (i : grid0.Coords) (arg2 : Memref sig .scVector .hbm S8192x2x128 .f32) (harg2 : arg2.IsWhole) (arg3 : Memref sig .scVector .hbm S8192 .i32) (harg3 : arg3.IsWhole) (arg4 : Memref sig .scVector .hbm S512x256 .f32) (harg4 : arg4.IsWhole) (arg5 : Memref sig .scVector .hbm S8192x2x128 .f32) (harg5 : arg5.IsWhole) (arg6 : Memref sig .scVector .vmem S128 .i32) (harg6 : arg6.IsWhole) (arg7 : Memref sig .scVector .vmem S128 .i32) (harg7 : arg7.IsWhole) (arg8 : Memref sig .scVector .vmem S128x2x128 .f32) (harg8 : arg8.IsWhole) (arg9 : Memref sig .scVector .vmem S128x2x128 .f32) (harg9 : arg9.IsWhole) (arg10 : Memref sig .scVector .vmem S128x256 .f32) (harg10 : arg10.IsWhole) (arg11 : DmaSems sig S_) (arg12 : DmaSems sig S_) (arg13 : DmaSems sig S_) (v16_r0 : DmaSems sig S_) (v16_r1 : DmaSems sig S_) (v16_r2 : DmaSems sig S_) (v16_r3 : DmaSems sig S_) (v16_r4 : DmaSems sig S_)
    (g : S128x2x128.Idx → Elt F .f32) (p : S128x256.Idx → Elt F .f32) (t : Fin k0_t1_loop.trips) (u : Unit) :
    iprop(rowsAt (V d ((i 0).castLE hcore0) ((i 1).castLE hsub0)) arg8 (mix g p (256 * t.val)) ∗ posAt (V d ((i 0).castLE hcore0) ((i 1).castLE hsub0)) arg10 p)
      ⊢ wp frame (wpE (defs₀ (F := F)) 𝒱₀ (V d ((i 0).castLE hcore0) ((i 1).castLE hsub0)) none) E (k0_t1_body (F := F) i arg2 harg2 arg3 harg3 arg4 harg4 arg5 harg5 arg6 harg6 arg7 harg7 arg8 harg8 arg9 harg9 arg10 harg10 arg11 arg12 arg13 v16_r0 v16_r1 v16_r2 v16_r3 v16_r4 t u)
        fun _ => iprop(rowsAt (V d ((i 0).castLE hcore0) ((i 1).castLE hsub0)) arg8 (mix g p (256 * (t.val + 1))) ∗ posAt (V d ((i 0).castLE hcore0) ((i 1).castLE hsub0)) arg10 p) := by
  unfold k0_t1_body
  simp only [k0_part1_eq_skeleton, k0_part2_eq_skeleton, k0_part3_eq_skeleton, k0_part4_eq_skeleton, k0_part5_eq_skeleton, k0_part1_skel, k0_part2_skel, k0_part3_skel, k0_part4_skel, k0_part5_skel, bind_assoc, pure_bind, Prog.bind_lift]
  iintro H
  iapply (group (V d ((i 0).castLE hcore0) ((i 1).castLE hsub0)) arg8 arg10 (defs₀ (F := F)) 𝒱₀ E g p t.val 0 0 (by omega) (by omega) _ _ _ _ (k0_off4_eq t) (k0_off5_eq t)
    _ (by omega) _ _ _ _ _ _ rfl) $$ H
  iintro H
  iapply (group (V d ((i 0).castLE hcore0) ((i 1).castLE hsub0)) arg8 arg10 (defs₀ (F := F)) 𝒱₀ E g p t.val 0 16 (by omega) (by omega) _ _ _ _ (k0_off6_eq t) (k0_off7_eq t)
    _ (by omega) _ _ _ _ _ _ rfl) $$ H
  iintro H
  iapply (group (V d ((i 0).castLE hcore0) ((i 1).castLE hsub0)) arg8 arg10 (defs₀ (F := F)) 𝒱₀ E g p t.val 0 32 (by omega) (by omega) _ _ _ _ (k0_off8_eq t) (k0_off9_eq t)
    _ (by omega) _ _ _ _ _ _ rfl) $$ H
  iintro H
  iapply (group (V d ((i 0).castLE hcore0) ((i 1).castLE hsub0)) arg8 arg10 (defs₀ (F := F)) 𝒱₀ E g p t.val 0 48 (by omega) (by omega) _ _ _ _ (k0_off10_eq t) (k0_off11_eq t)
    _ (by omega) _ _ _ _ _ _ rfl) $$ H
  iintro H
  iapply (group (V d ((i 0).castLE hcore0) ((i 1).castLE hsub0)) arg8 arg10 (defs₀ (F := F)) 𝒱₀ E g p t.val 0 64 (by omega) (by omega) _ _ _ _ (k0_off12_eq t) (k0_off13_eq t)
    _ (by omega) _ _ _ _ _ _ rfl) $$ H
  iintro H
  iapply (group (V d ((i 0).castLE hcore0) ((i 1).castLE hsub0)) arg8 arg10 (defs₀ (F := F)) 𝒱₀ E g p t.val 0 80 (by omega) (by omega) _ _ _ _ (k0_off14_eq t) (k0_off15_eq t)
    _ (by omega) _ _ _ _ _ _ rfl) $$ H
  iintro H
  iapply (group (V d ((i 0).castLE hcore0) ((i 1).castLE hsub0)) arg8 arg10 (defs₀ (F := F)) 𝒱₀ E g p t.val 0 96 (by omega) (by omega) _ _ _ _ (k0_off16_eq t) (k0_off17_eq t)
    _ (by omega) _ _ _ _ _ _ rfl) $$ H
  iintro H
  iapply (group (V d ((i 0).castLE hcore0) ((i 1).castLE hsub0)) arg8 arg10 (defs₀ (F := F)) 𝒱₀ E g p t.val 0 112 (by omega) (by omega) _ _ _ _ (k0_off18_eq t) (k0_off19_eq t)
    _ (by omega) _ _ _ _ _ _ rfl) $$ H
  iintro H
  iapply (group (V d ((i 0).castLE hcore0) ((i 1).castLE hsub0)) arg8 arg10 (defs₀ (F := F)) 𝒱₀ E g p t.val 1 0 (by omega) (by omega) _ _ _ _ (k0_off20_eq t) (k0_off21_eq t)
    _ (by omega) _ _ _ _ _ _ rfl) $$ H
  iintro H
  iapply (group (V d ((i 0).castLE hcore0) ((i 1).castLE hsub0)) arg8 arg10 (defs₀ (F := F)) 𝒱₀ E g p t.val 1 16 (by omega) (by omega) _ _ _ _ (k0_off22_eq t) (k0_off23_eq t)
    _ (by omega) _ _ _ _ _ _ rfl) $$ H
  iintro H
  iapply (group (V d ((i 0).castLE hcore0) ((i 1).castLE hsub0)) arg8 arg10 (defs₀ (F := F)) 𝒱₀ E g p t.val 1 32 (by omega) (by omega) _ _ _ _ (k0_off24_eq t) (k0_off25_eq t)
    _ (by omega) _ _ _ _ _ _ rfl) $$ H
  iintro H
  iapply (group (V d ((i 0).castLE hcore0) ((i 1).castLE hsub0)) arg8 arg10 (defs₀ (F := F)) 𝒱₀ E g p t.val 1 48 (by omega) (by omega) _ _ _ _ (k0_off26_eq t) (k0_off27_eq t)
    _ (by omega) _ _ _ _ _ _ rfl) $$ H
  iintro H
  iapply (group (V d ((i 0).castLE hcore0) ((i 1).castLE hsub0)) arg8 arg10 (defs₀ (F := F)) 𝒱₀ E g p t.val 1 64 (by omega) (by omega) _ _ _ _ (k0_off28_eq t) (k0_off29_eq t)
    _ (by omega) _ _ _ _ _ _ rfl) $$ H
  iintro H
  iapply (group (V d ((i 0).castLE hcore0) ((i 1).castLE hsub0)) arg8 arg10 (defs₀ (F := F)) 𝒱₀ E g p t.val 1 80 (by omega) (by omega) _ _ _ _ (k0_off30_eq t) (k0_off31_eq t)
    _ (by omega) _ _ _ _ _ _ rfl) $$ H
  iintro H
  iapply (group (V d ((i 0).castLE hcore0) ((i 1).castLE hsub0)) arg8 arg10 (defs₀ (F := F)) 𝒱₀ E g p t.val 1 96 (by omega) (by omega) _ _ _ _ (k0_off32_eq t) (k0_off33_eq t)
    _ (by omega) _ _ _ _ _ _ rfl) $$ H
  iintro H
  iapply (group (V d ((i 0).castLE hcore0) ((i 1).castLE hsub0)) arg8 arg10 (defs₀ (F := F)) 𝒱₀ E g p t.val 1 112 (by omega) (by omega) _ _ _ _ (k0_off34_eq t) (k0_off35_eq t)
    _ (by omega) _ _ _ _ _ _ rfl) $$ H
  iintro H
  rw [show 256 * t.val + 16 + 16 + 16 + 16 + 16 + 16 + 16 + 16 + 16 + 16 + 16 + 16 + 16 + 16 + 16 + 16 = 256 * (t.val + 1) by omega]
  rw [wp_pure]; imodintro
  iexact H

set_option maxHeartbeats 4000000 in
/-- A trip of the kernel's loop number 2: row `t` of the position block added to row `t` of the gathered rows. -/
theorem trip2 (d : Dev nD) (E : Set ℕ) (i : grid0.Coords) (arg2 : Memref sig .scVector .hbm S8192x2x128 .f32) (harg2 : arg2.IsWhole) (arg3 : Memref sig .scVector .hbm S8192 .i32) (harg3 : arg3.IsWhole) (arg4 : Memref sig .scVector .hbm S512x256 .f32) (harg4 : arg4.IsWhole) (arg5 : Memref sig .scVector .hbm S8192x2x128 .f32) (harg5 : arg5.IsWhole) (arg6 : Memref sig .scVector .vmem S128 .i32) (harg6 : arg6.IsWhole) (arg7 : Memref sig .scVector .vmem S128 .i32) (harg7 : arg7.IsWhole) (arg8 : Memref sig .scVector .vmem S128x2x128 .f32) (harg8 : arg8.IsWhole) (arg9 : Memref sig .scVector .vmem S128x2x128 .f32) (harg9 : arg9.IsWhole) (arg10 : Memref sig .scVector .vmem S128x256 .f32) (harg10 : arg10.IsWhole) (arg11 : DmaSems sig S_) (arg12 : DmaSems sig S_) (arg13 : DmaSems sig S_) (v16_r0 : DmaSems sig S_) (v16_r1 : DmaSems sig S_) (v16_r2 : DmaSems sig S_) (v16_r3 : DmaSems sig S_) (v16_r4 : DmaSems sig S_)
    (g : S128x2x128.Idx → Elt F .f32) (p : S128x256.Idx → Elt F .f32) (t : Fin k0_t2_loop.trips) (u : Unit) :
    iprop(rowsAt (V d ((i 0).castLE hcore0) ((i 1).castLE hsub0)) arg9 (mix g p (256 * t.val)) ∗ posAt (V d ((i 0).castLE hcore0) ((i 1).castLE hsub0)) arg10 p)
      ⊢ wp frame (wpE (defs₀ (F := F)) 𝒱₀ (V d ((i 0).castLE hcore0) ((i 1).castLE hsub0)) none) E (k0_t2_body (F := F) i arg2 harg2 arg3 harg3 arg4 harg4 arg5 harg5 arg6 harg6 arg7 harg7 arg8 harg8 arg9 harg9 arg10 harg10 arg11 arg12 arg13 v16_r0 v16_r1 v16_r2 v16_r3 v16_r4 t u)
        fun _ => iprop(rowsAt (V d ((i 0).castLE hcore0) ((i 1).castLE hsub0)) arg9 (mix g p (256 * (t.val + 1))) ∗ posAt (V d ((i 0).castLE hcore0) ((i 1).castLE hsub0)) arg10 p) := by
  unfold k0_t2_body
  simp only [k0_part6_eq_skeleton, k0_part7_eq_skeleton, k0_part8_eq_skeleton, k0_part9_eq_skeleton, k0_part10_eq_skeleton, k0_part6_skel, k0_part7_skel, k0_part8_skel, k0_part9_skel, k0_part10_skel, bind_assoc, pure_bind, Prog.bind_lift]
  iintro H
  iapply (group (V d ((i 0).castLE hcore0) ((i 1).castLE hsub0)) arg9 arg10 (defs₀ (F := F)) 𝒱₀ E g p t.val 0 0 (by omega) (by omega) _ _ _ _ (k0_off38_eq t) (k0_off39_eq t)
    _ (by omega) _ _ _ _ _ _ rfl) $$ H
  iintro H
  iapply (group (V d ((i 0).castLE hcore0) ((i 1).castLE hsub0)) arg9 arg10 (defs₀ (F := F)) 𝒱₀ E g p t.val 0 16 (by omega) (by omega) _ _ _ _ (k0_off40_eq t) (k0_off41_eq t)
    _ (by omega) _ _ _ _ _ _ rfl) $$ H
  iintro H
  iapply (group (V d ((i 0).castLE hcore0) ((i 1).castLE hsub0)) arg9 arg10 (defs₀ (F := F)) 𝒱₀ E g p t.val 0 32 (by omega) (by omega) _ _ _ _ (k0_off42_eq t) (k0_off43_eq t)
    _ (by omega) _ _ _ _ _ _ rfl) $$ H
  iintro H
  iapply (group (V d ((i 0).castLE hcore0) ((i 1).castLE hsub0)) arg9 arg10 (defs₀ (F := F)) 𝒱₀ E g p t.val 0 48 (by omega) (by omega) _ _ _ _ (k0_off44_eq t) (k0_off45_eq t)
    _ (by omega) _ _ _ _ _ _ rfl) $$ H
  iintro H
  iapply (group (V d ((i 0).castLE hcore0) ((i 1).castLE hsub0)) arg9 arg10 (defs₀ (F := F)) 𝒱₀ E g p t.val 0 64 (by omega) (by omega) _ _ _ _ (k0_off46_eq t) (k0_off47_eq t)
    _ (by omega) _ _ _ _ _ _ rfl) $$ H
  iintro H
  iapply (group (V d ((i 0).castLE hcore0) ((i 1).castLE hsub0)) arg9 arg10 (defs₀ (F := F)) 𝒱₀ E g p t.val 0 80 (by omega) (by omega) _ _ _ _ (k0_off48_eq t) (k0_off49_eq t)
    _ (by omega) _ _ _ _ _ _ rfl) $$ H
  iintro H
  iapply (group (V d ((i 0).castLE hcore0) ((i 1).castLE hsub0)) arg9 arg10 (defs₀ (F := F)) 𝒱₀ E g p t.val 0 96 (by omega) (by omega) _ _ _ _ (k0_off50_eq t) (k0_off51_eq t)
    _ (by omega) _ _ _ _ _ _ rfl) $$ H
  iintro H
  iapply (group (V d ((i 0).castLE hcore0) ((i 1).castLE hsub0)) arg9 arg10 (defs₀ (F := F)) 𝒱₀ E g p t.val 0 112 (by omega) (by omega) _ _ _ _ (k0_off52_eq t) (k0_off53_eq t)
    _ (by omega) _ _ _ _ _ _ rfl) $$ H
  iintro H
  iapply (group (V d ((i 0).castLE hcore0) ((i 1).castLE hsub0)) arg9 arg10 (defs₀ (F := F)) 𝒱₀ E g p t.val 1 0 (by omega) (by omega) _ _ _ _ (k0_off54_eq t) (k0_off55_eq t)
    _ (by omega) _ _ _ _ _ _ rfl) $$ H
  iintro H
  iapply (group (V d ((i 0).castLE hcore0) ((i 1).castLE hsub0)) arg9 arg10 (defs₀ (F := F)) 𝒱₀ E g p t.val 1 16 (by omega) (by omega) _ _ _ _ (k0_off56_eq t) (k0_off57_eq t)
    _ (by omega) _ _ _ _ _ _ rfl) $$ H
  iintro H
  iapply (group (V d ((i 0).castLE hcore0) ((i 1).castLE hsub0)) arg9 arg10 (defs₀ (F := F)) 𝒱₀ E g p t.val 1 32 (by omega) (by omega) _ _ _ _ (k0_off58_eq t) (k0_off59_eq t)
    _ (by omega) _ _ _ _ _ _ rfl) $$ H
  iintro H
  iapply (group (V d ((i 0).castLE hcore0) ((i 1).castLE hsub0)) arg9 arg10 (defs₀ (F := F)) 𝒱₀ E g p t.val 1 48 (by omega) (by omega) _ _ _ _ (k0_off60_eq t) (k0_off61_eq t)
    _ (by omega) _ _ _ _ _ _ rfl) $$ H
  iintro H
  iapply (group (V d ((i 0).castLE hcore0) ((i 1).castLE hsub0)) arg9 arg10 (defs₀ (F := F)) 𝒱₀ E g p t.val 1 64 (by omega) (by omega) _ _ _ _ (k0_off62_eq t) (k0_off63_eq t)
    _ (by omega) _ _ _ _ _ _ rfl) $$ H
  iintro H
  iapply (group (V d ((i 0).castLE hcore0) ((i 1).castLE hsub0)) arg9 arg10 (defs₀ (F := F)) 𝒱₀ E g p t.val 1 80 (by omega) (by omega) _ _ _ _ (k0_off64_eq t) (k0_off65_eq t)
    _ (by omega) _ _ _ _ _ _ rfl) $$ H
  iintro H
  iapply (group (V d ((i 0).castLE hcore0) ((i 1).castLE hsub0)) arg9 arg10 (defs₀ (F := F)) 𝒱₀ E g p t.val 1 96 (by omega) (by omega) _ _ _ _ (k0_off66_eq t) (k0_off67_eq t)
    _ (by omega) _ _ _ _ _ _ rfl) $$ H
  iintro H
  iapply (group (V d ((i 0).castLE hcore0) ((i 1).castLE hsub0)) arg9 arg10 (defs₀ (F := F)) 𝒱₀ E g p t.val 1 112 (by omega) (by omega) _ _ _ _ (k0_off68_eq t) (k0_off69_eq t)
    _ (by omega) _ _ _ _ _ _ rfl) $$ H
  iintro H
  rw [show 256 * t.val + 16 + 16 + 16 + 16 + 16 + 16 + 16 + 16 + 16 + 16 + 16 + 16 + 16 + 16 + 16 + 16 = 256 * (t.val + 1) by omega]
  rw [wp_pure]; imodintro
  iexact H

end Cert.Proof.Rows

end
-- ==== Proof.Tile.lean ====
/-
  One tile of the SparseCore call: what the launch deals it (read shares of the indices, the table and the position
  rows, its two blocks of 128 rows of the result), the run of its body, and what it hands back — the two blocks holding
  the gathered rows plus the position rows.
-/
module

public import proofs.«01_k».proof.Proof.Rows

@[expose] public section

noncomputable section

namespace Cert.Proof.Rows

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-! ## The arrays of the call -/

abbrev xLoc (d : Dev nD) : Loc nD τ sig := (SparseCore.T d).loc main_v1
abbrev iLoc (d : Dev nD) : Loc nD τ sig := (SparseCore.T d).loc main_arg1
abbrev pLoc (d : Dev nD) : Loc nD τ sig := (SparseCore.T d).loc main_v0
abbrev oLoc (d : Dev nD) : Loc nD τ sig := (SparseCore.T d).loc main_v2

local notation "xV" => (Memref.whole Cert.GatherIdeal.main_v1_scv : Memref Cert.GatherIdeal.sig Kind.scVector Space.hbm Cert.GatherIdeal.S8192x2x128 EltTy.f32)
local notation "iV" => (Memref.whole Cert.GatherIdeal.main_arg1_scv : Memref Cert.GatherIdeal.sig Kind.scVector Space.hbm Cert.GatherIdeal.S8192 EltTy.i32)
local notation "pV" => (Memref.whole Cert.GatherIdeal.main_v0_scv : Memref Cert.GatherIdeal.sig Kind.scVector Space.hbm Cert.GatherIdeal.S512x256 EltTy.f32)
local notation "oV" => (Memref.whole Cert.GatherIdeal.main_v2_scv : Memref Cert.GatherIdeal.sig Kind.scVector Space.hbm Cert.GatherIdeal.S8192x2x128 EltTy.f32)
local notation "aV" => (Memref.whole Cert.GatherIdeal.cc0_scratch0 : Memref Cert.GatherIdeal.sig Kind.scVector Space.vmem Cert.GatherIdeal.S128 EltTy.i32)
local notation "bV" => (Memref.whole Cert.GatherIdeal.cc0_scratch1 : Memref Cert.GatherIdeal.sig Kind.scVector Space.vmem Cert.GatherIdeal.S128 EltTy.i32)
local notation "rV" => (Memref.whole Cert.GatherIdeal.cc0_scratch2 : Memref Cert.GatherIdeal.sig Kind.scVector Space.vmem Cert.GatherIdeal.S128x2x128 EltTy.f32)
local notation "sV" => (Memref.whole Cert.GatherIdeal.cc0_scratch3 : Memref Cert.GatherIdeal.sig Kind.scVector Space.vmem Cert.GatherIdeal.S128x2x128 EltTy.f32)
local notation "qV" => (Memref.whole Cert.GatherIdeal.cc0_scratch4 : Memref Cert.GatherIdeal.sig Kind.scVector Space.vmem Cert.GatherIdeal.S128x256 EltTy.f32)

/-- The number of the block of 128 rows that tile `(c, s)` writes `k`-th. -/
abbrev rowOf (c s k : ℕ) : ℕ := 512 * s + 256 * c + 128 * k

variable [FloatOps F]

/-- Row `y 0` of the result: the table's row at the row's index, plus the position row `y 0 mod 512`. -/
def outVal (X : S8192x2x128.Idx → Elt F .f32) (I : S8192.Idx → Elt F .i32) (P : S512x256.Idx → Elt F .f32) : S8192x2x128.Idx → Elt F .f32 := fun y =>
  FloatOps.addf
    (X (ix3 (n0 := 8192) (n1 := 2) (n2 := 128) ⟨(I (ix1 (n0 := 8192) (y 0))).toNat % 8192, Nat.mod_lt _ (by decide)⟩ (y 1) (y 2)))
    (P (ix2 (n0 := 512) (n1 := 256) ⟨(y 0).val % 512, Nat.mod_lt _ (by decide)⟩ ⟨128 * (y 1).val + (y 2).val, by
      have h1 : (y 1).val < 2 := (y 1).isLt
      have h2 : (y 2).val < 128 := (y 2).isLt
      omega⟩))

variable (X : (d : Dev nD) → Buf (Elt F) (xLoc d)) (I : (d : Dev nD) → Buf (Elt F) (iLoc d)) (P : (d : Dev nD) → Buf (Elt F) (pLoc d))

/-- What the proof asks of the indices: every one is below 8192. -/
def InRange : Prop := ∀ (d : Dev nD) (j : S8192.Idx), (I d j : BitVec 32).toNat < 8192

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The windows of the arrays as the body slices them. -/
abbrev iA (L : grid0.Coords) : Memref sig .scVector .hbm S128 .i32 := (iV).slice (Rect.unit (s := S8192) (k0_off1 L) S128.size (k0_off1_inb L)) (fun _ => rfl)
abbrev iB (L : grid0.Coords) : Memref sig .scVector .hbm S128 .i32 := (iV).slice (Rect.unit (s := S8192) (k0_off2 L) S128.size (k0_off2_inb L)) (fun _ => rfl)
abbrev pA (L : grid0.Coords) : Memref sig .scVector .hbm S128x256 .f32 := (pV).slice (Rect.unit (s := S512x256) (k0_off3 L) S128x256.size (k0_off3_inb L)) (fun _ => rfl)
abbrev pB (L : grid0.Coords) : Memref sig .scVector .hbm S128x256 .f32 := (pV).slice (Rect.unit (s := S512x256) (k0_off37 L) S128x256.size (k0_off37_inb L)) (fun _ => rfl)
abbrev oA (L : grid0.Coords) : Memref sig .scVector .hbm S128x2x128 .f32 := (oV).slice (Rect.unit (s := S8192x2x128) (k0_off36 L) S128x2x128.size (k0_off36_inb L)) (fun _ => rfl)
abbrev oB (L : grid0.Coords) : Memref sig .scVector .hbm S128x2x128 .f32 := (oV).slice (Rect.unit (s := S8192x2x128) (k0_off70 L) S128x2x128.size (k0_off70_inb L)) (fun _ => rfl)

/-- The eight cells the body names. -/
def dsem : Fin 8 → DmaSem sig := ![cc0_scratch5.sem, cc0_scratch6.sem, cc0_scratch7.sem, cc0_scoped0.sem, cc0_scoped1.sem, cc0_scoped2.sem, cc0_scoped3.sem, cc0_scoped4.sem]
abbrev dcell (d : Dev nD) (c : Fin τ.nSC) (i : Fin τ.nSub) (k : Fin 8) : GSem nD τ sig := (V d c i, .dma (dsem k))
abbrev cells0 (d : Dev nD) (L : grid0.Coords) : sProp 𝕄 :=
  iprop(semVal (VT d L, SemLoc.dma cc0_scratch5.sem) 0 ∗ semVal (VT d L, SemLoc.dma cc0_scratch6.sem) 0 ∗ semVal (VT d L, SemLoc.dma cc0_scratch7.sem) 0
    ∗ semVal (VT d L, SemLoc.dma cc0_scoped0.sem) 0 ∗ semVal (VT d L, SemLoc.dma cc0_scoped1.sem) 0 ∗ semVal (VT d L, SemLoc.dma cc0_scoped2.sem) 0
    ∗ semVal (VT d L, SemLoc.dma cc0_scoped3.sem) 0 ∗ semVal (VT d L, SemLoc.dma cc0_scoped4.sem) 0)

omit [FloatOps F] in
theorem dcell_mem (c : Fin τ.nSC) (i : Fin τ.nSub) (k : Fin 8) : dcell d c i k ∈ ownCells (V d c i) :=
  mem_ownCells.mpr ⟨rfl, (show ∀ k : Fin 8, (SemLoc.dma (dsem k) : SemLoc sig).isScoped .scVector = true by decide) _⟩
omit [FloatOps F] in
theorem dsem_inj : ∀ a b : Fin 8, dsem a = dsem b → a = b := by decide

omit [FloatOps F] in
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq] at this; exact dsem_inj a b this)]
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

abbrev dref (L : grid0.Coords) (b : Ref sig .scVector) : DevRef τ sig := (Proc.scVector (cV L) (jV L)).devRef b
/-- The subcore's own buffers other than the five the body names. -/
abbrev restRefs (L : grid0.Coords) : Finset (DevRef τ sig) :=
  (((((ownRefs (τ := τ) (.scVector (cV L) (jV L))).erase (dref L cc0_scratch0)).erase (dref L cc0_scratch1)).erase
    (dref L cc0_scratch2)).erase (dref L cc0_scratch3)).erase (dref L cc0_scratch4)

omit [FloatOps F] in
theorem dref_ne (a b : Ref sig .scVector) (h : a ≠ b) : dref L a ≠ dref L b := fun e => h (Proc.devRef_injective _ e)

omit [FloatOps F] in
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := dref L cc0_scratch0) rfl)).trans ?_
  rw [SparseCore.bigSep_erase' (Finset.mem_erase.mpr ⟨dref_ne L cc0_scratch1 cc0_scratch0 (by decide),
      SparseCore.Cfg.mem_ownRefs_of_owner (p := Proc.scVector (cV L) (jV L)) (b := dref L cc0_scratch1) rfl⟩),
    SparseCore.bigSep_erase' (Finset.mem_erase.mpr ⟨dref_ne L cc0_scratch2 cc0_scratch1 (by decide), Finset.mem_erase.mpr ⟨dref_ne L cc0_scratch2 cc0_scratch0 (by decide),
      SparseCore.Cfg.mem_ownRefs_of_owner (p := Proc.scVector (cV L) (jV L)) (b := dref L cc0_scratch2) rfl⟩⟩),
    SparseCore.bigSep_erase' (Finset.mem_erase.mpr ⟨dref_ne L cc0_scratch3 cc0_scratch2 (by decide), Finset.mem_erase.mpr ⟨dref_ne L cc0_scratch3 cc0_scratch1 (by decide),
      Finset.mem_erase.mpr ⟨dref_ne L cc0_scratch3 cc0_scratch0 (by decide),
      SparseCore.Cfg.mem_ownRefs_of_owner (p := Proc.scVector (cV L) (jV L)) (b := dref L cc0_scratch3) rfl⟩⟩⟩),
    SparseCore.bigSep_erase' (Finset.mem_erase.mpr ⟨dref_ne L cc0_scratch4 cc0_scratch3 (by decide), Finset.mem_erase.mpr ⟨dref_ne L cc0_scratch4 cc0_scratch2 (by decide),
      Finset.mem_erase.mpr ⟨dref_ne L cc0_scratch4 cc0_scratch1 (by decide), Finset.mem_erase.mpr ⟨dref_ne L cc0_scratch4 cc0_scratch0 (by decide),
      SparseCore.Cfg.mem_ownRefs_of_owner (p := Proc.scVector (cV L) (jV L)) (b := dref L cc0_scratch4) rfl⟩⟩⟩⟩)]

omit [FloatOps F] in
theorem read_iA (x : S128.Idx) : (iA L).view.read (Elt F) (I d) x = I d ((iA L).view.emb x) := (View.read_apply _ _).trans (cast_eq _ _)
omit [FloatOps F] in
theorem read_iB (x : S128.Idx) : (iB L).view.read (Elt F) (I d) x = I d ((iB L).view.emb x) := (View.read_apply _ _).trans (cast_eq _ _)

omit [FloatOps F] in
theorem inA (hI : InRange I) (g : Buf (Elt F) ((aV).view.loc (VT d L))) (pay : S128.Idx → Elt F .i32) (hpay : pay = ReadAs.same.apply ((iA L).view.read (Elt F) (I d))) :
    ∀ x, (View.read (Elt F) (aV).view ((aV).view.writes (Elt F) g [⟨Rect.whole cc0_scratch0.ty.shape, pay⟩]) x).toNat < 8192 := by
  subst hpay; intro x
  rw [View.read_writes_whole]
  show (((iA L).view.read (Elt F) (I d)) x : BitVec 32).toNat < 8192
  rw [read_iA]; exact hI d _
omit [FloatOps F] in
theorem inB (hI : InRange I) (g : Buf (Elt F) ((bV).view.loc (VT d L))) (pay : S128.Idx → Elt F .i32) (hpay : pay = ReadAs.same.apply ((iB L).view.read (Elt F) (I d))) :
    ∀ x, (View.read (Elt F) (bV).view ((bV).view.writes (Elt F) g [⟨Rect.whole cc0_scratch1.ty.shape, pay⟩]) x).toNat < 8192 := by
  subst hpay; intro x
  rw [View.read_writes_whole]
  show (((iB L).view.read (Elt F) (I d)) x : BitVec 32).toNat < 8192
  rw [read_iB]; exact hI d _

/-- The position rows of the first block, of the second. -/
abbrev pvA : S128x256.Idx → Elt F .f32 := (pA L).view.read (Elt F) (P d)
abbrev pvB : S128x256.Idx → Elt F .f32 := (pB L).view.read (Elt F) (P d)

omit [FloatOps F] in
/-- What an indexed copy of whole rows delivers, index by index. -/
theorem gather_rows (x1 : S8192x2x128.Idx → Elt F .f32) (idx : S128.Idx → Elt F .i32) (hn : S128.numel = 128) (h : ∀ x, (idx x).toNat < 8192) (y : S128x2x128.Idx) :
    SparseCore.gatherPayload gathers_S8192x2x128_S128x2x128 x1 (SparseCore.rows (o := 128) (z := 8192) idx hn h) y
      = x1 (ix3 (n0 := 8192) (n1 := 2) (n2 := 128) ⟨(idx (ix1 (n0 := 128) (y 0))).toNat, h _⟩ (y 1) (y 2)) := by
  unfold SparseCore.gatherPayload
  refine congrArg x1 (funext fun b => Fin.ext ?_)
  match b with
  | 0 => refine (congrArg Fin.val (Shape.Gathers.idx_axis gathers_S8192x2x128_S128x2x128 (SparseCore.rows (o := 128) (z := 8192) idx hn h) y)).trans ?_
         show (idx (S128.rowMajor.symm ((y 0).cast _))).toNat = (idx (ix1 (n0 := 128) (y 0))).toNat
         refine congrArg (fun j => (idx j).toNat) ?_
         rw [Equiv.symm_apply_eq]
         refine Fin.ext ?_
         rw [Shape.rowMajor_val_one]; rfl
  | 1 => exact Shape.Gathers.idx_of_ne gathers_S8192x2x128_S128x2x128 _ y 1 (by decide)
  | 2 => exact Shape.Gathers.idx_of_ne gathers_S8192x2x128_S128x2x128 _ y 2 (by decide)

omit [FloatOps F] in
theorem idxA (x : Fin 128) : ∃ h : rowOf (L 0).val (L 1).val 0 + x.val < 8192,
    (iA L).view.emb (ix1 (n0 := 128) x) = (ix1 (n0 := 8192) ⟨rowOf (L 0).val (L 1).val 0 + x.val, h⟩ : S8192.Idx) := by
  have hv : ((iA L).view.emb (ix1 (n0 := 128) x) 0 : ℕ) = rowOf (L 0).val (L 1).val 0 + x.val := by
    show (k0_off1 L) 0 + 1 * x.val = _
    rw [k0_off1_eq]; show 512 * (L 1).val + 256 * (L 0).val + 1 * x.val = _
    unfold rowOf; omega
  have h : rowOf (L 0).val (L 1).val 0 + x.val < 8192 := hv ▸ ((iA L).view.emb (ix1 (n0 := 128) x) 0).isLt
  exact ⟨h, by funext b; match b with | 0 => exact Fin.ext hv⟩

omit [FloatOps F] in
/-- The gathered rows of the block: row `y 0` is the table's row at the block's index `y 0`. -/
theorem gathA (hI : InRange I) (pay : S128.Idx → Elt F .i32) (hpay : pay = ReadAs.same.apply ((iA L).view.read (Elt F) (I d)))
    (idx : S128.Idx → Elt F .i32) (hidx : idx = pay) (hn : S128.numel = 128) (h : ∀ x, (idx x).toNat < 8192) (y : S128x2x128.Idx) :
    SparseCore.gatherPayload gathers_S8192x2x128_S128x2x128
        (((xV).slice (Rect.unit (s := S8192x2x128) ![0, 0, 0] S8192x2x128.size inb_S8192x2x128_S8192x2x128_0_0_0) (fun _ => rfl)).view.read (Elt F) (X d))
        (SparseCore.rows (o := 128) (z := 8192) idx hn h) y
      = X d (ix3 (n0 := 8192) (n1 := 2) (n2 := 128) ⟨(I d ((iA L).view.emb (ix1 (n0 := 128) (y 0)))).toNat % 8192, Nat.mod_lt _ (by decide)⟩ (y 1) (y 2)) := by
  rw [gather_rows]
  have e : idx (ix1 (n0 := 128) (y 0)) = I d ((iA L).view.emb (ix1 (n0 := 128) (y 0))) := by
    rw [hidx, hpay]; exact read_iA I d L _
  refine (View.read_apply _ _).trans ((cast_eq _ _).trans ?_)
  refine congrArg (X d) (funext fun b => Fin.ext ?_)
  match b with
  | 0 => show 0 + 1 * (idx (ix1 (n0 := 128) (y 0))).toNat = (I d ((iA L).view.emb (ix1 (n0 := 128) (y 0)))).toNat % 8192
         rw [e, Nat.mod_eq_of_lt (hI d _)]; omega
  | 1 => show 0 + 1 * (y 1).val = (y 1).val; omega
  | 2 => show 0 + 1 * (y 2).val = (y 2).val; omega

/-- The block of the result, written with the sums, holds the result's values. -/
theorem outA (oo : Buf (Elt F) (oLoc d)) (pay : S128x2x128.Idx → Elt F .f32) (g : S128x2x128.Idx → Elt F .f32) (p : S128x256.Idx → Elt F .f32)
    (hpay : pay = fun y => FloatOps.addf (g y) (p (posIx y)))
    (hg : ∀ y, g y = X d (ix3 (n0 := 8192) (n1 := 2) (n2 := 128) ⟨(I d ((iA L).view.emb (ix1 (n0 := 128) (y 0)))).toNat % 8192, Nat.mod_lt _ (by decide)⟩ (y 1) (y 2)))
    (hp : p = ReadAs.same.apply ((pA L).view.read (Elt F) (P d))) (b : S8192x2x128.Idx) (hb : b ∈ (oA L).view.set) :
    (oA L).view.writes (Elt F) oo [⟨Rect.whole S128x2x128, pay⟩] b = outVal (X d) (I d) (P d) b := by
  obtain ⟨y, -, rfl⟩ := Finset.mem_map.mp hb
  have hr : (oA L).view.read (Elt F) ((oA L).view.writes (Elt F) oo [⟨Rect.whole S128x2x128, pay⟩]) y = pay y := congrFun (View.read_writes_whole _ _ _) y
  refine Eq.trans ?_ (hr.trans ?_)
  · exact ((View.read_apply _ _).trans (cast_eq _ _)).symm
  have e0 : ((oA L).view.emb y 0 : ℕ) = rowOf (L 0).val (L 1).val 0 + (y 0).val := by
    show (k0_off36 L) 0 + 1 * (y 0).val = _
    rw [k0_off36_eq]; show 512 * (L 1).val + 256 * (L 0).val + 1 * (y 0).val = _
    unfold rowOf; omega
  have e1 : ((oA L).view.emb y 1 : ℕ) = (y 1).val := by
    show (k0_off36 L) 1 + 1 * (y 1).val = _
    rw [k0_off36_eq]; show 0 + 1 * (y 1).val = _; omega
  have e2 : ((oA L).view.emb y 2 : ℕ) = (y 2).val := by
    show (k0_off36 L) 2 + 1 * (y 2).val = _
    rw [k0_off36_eq]; show 0 + 1 * (y 2).val = _; omega
  have b0 : (L 0).val < 2 := (L 0).isLt
  have b1 : (L 1).val < 16 := (L 1).isLt
  have b2 : (y 0).val < 128 := (y 0).isLt
  obtain ⟨hlt, hix⟩ := idxA L (y 0)
  subst hpay
  refine congrArg₂ FloatOps.addf ?_ ?_
  · refine (hg y).trans ?_
    rw [hix]
    refine congrArg (X d) (funext fun a => Fin.ext ?_)
    match a with
    | 0 => refine congrArg (fun j => (I d j).toNat % 8192) ?_
           refine funext fun c => Fin.ext ?_
           match c with | 0 => exact e0.symm
    | 1 => exact e1.symm
    | 2 => exact e2.symm
  · rw [hp]
    refine (View.read_apply _ _).trans ((cast_eq _ _).trans ?_)
    refine congrArg (P d) (funext fun a => Fin.ext ?_)
    match a with
    | 0 => show (k0_off3 L) 0 + 1 * (y 0).val = ((oA L).view.emb y 0 : ℕ) % 512
           rw [e0, k0_off3_eq]; show (512 * (L 1).val + 256 * (L 0).val) % 512 + 1 * (y 0).val = _
           unfold rowOf; omega
    | 1 => show (k0_off3 L) 1 + 1 * (128 * (y 1).val + (y 2).val) = 128 * ((oA L).view.emb y 1 : ℕ) + ((oA L).view.emb y 2 : ℕ)
           rw [e1, e2, k0_off3_eq]; show 0 + 1 * (128 * (y 1).val + (y 2).val) = _; omega

omit [FloatOps F] in
theorem idxB (x : Fin 128) : ∃ h : rowOf (L 0).val (L 1).val 1 + x.val < 8192,
    (iB L).view.emb (ix1 (n0 := 128) x) = (ix1 (n0 := 8192) ⟨rowOf (L 0).val (L 1).val 1 + x.val, h⟩ : S8192.Idx) := by
  have hv : ((iB L).view.emb (ix1 (n0 := 128) x) 0 : ℕ) = rowOf (L 0).val (L 1).val 1 + x.val := by
    show (k0_off2 L) 0 + 1 * x.val = _
    rw [k0_off2_eq]; show 512 * (L 1).val + 256 * (L 0).val + 128 + 1 * x.val = _
    unfold rowOf; omega
  have h : rowOf (L 0).val (L 1).val 1 + x.val < 8192 := hv ▸ ((iB L).view.emb (ix1 (n0 := 128) x) 0).isLt
  exact ⟨h, by funext b; match b with | 0 => exact Fin.ext hv⟩

omit [FloatOps F] in
/-- The gathered rows of the block: row `y 0` is the table's row at the block's index `y 0`. -/
theorem gathB (hI : InRange I) (pay : S128.Idx → Elt F .i32) (hpay : pay = ReadAs.same.apply ((iB L).view.read (Elt F) (I d)))
    (idx : S128.Idx → Elt F .i32) (hidx : idx = pay) (hn : S128.numel = 128) (h : ∀ x, (idx x).toNat < 8192) (y : S128x2x128.Idx) :
    SparseCore.gatherPayload gathers_S8192x2x128_S128x2x128
        (((xV).slice (Rect.unit (s := S8192x2x128) ![0, 0, 0] S8192x2x128.size inb_S8192x2x128_S8192x2x128_0_0_0) (fun _ => rfl)).view.read (Elt F) (X d))
        (SparseCore.rows (o := 128) (z := 8192) idx hn h) y
      = X d (ix3 (n0 := 8192) (n1 := 2) (n2 := 128) ⟨(I d ((iB L).view.emb (ix1 (n0 := 128) (y 0)))).toNat % 8192, Nat.mod_lt _ (by decide)⟩ (y 1) (y 2)) := by
  rw [gather_rows]
  have e : idx (ix1 (n0 := 128) (y 0)) = I d ((iB L).view.emb (ix1 (n0 := 128) (y 0))) := by
    rw [hidx, hpay]; exact read_iB I d L _
  refine (View.read_apply _ _).trans ((cast_eq _ _).trans ?_)
  refine congrArg (X d) (funext fun b => Fin.ext ?_)
  match b with
  | 0 => show 0 + 1 * (idx (ix1 (n0 := 128) (y 0))).toNat = (I d ((iB L).view.emb (ix1 (n0 := 128) (y 0)))).toNat % 8192
         rw [e, Nat.mod_eq_of_lt (hI d _)]; omega
  | 1 => show 0 + 1 * (y 1).val = (y 1).val; omega
  | 2 => show 0 + 1 * (y 2).val = (y 2).val; omega

/-- The block of the result, written with the sums, holds the result's values. -/
theorem outB (oo : Buf (Elt F) (oLoc d)) (pay : S128x2x128.Idx → Elt F .f32) (g : S128x2x128.Idx → Elt F .f32) (p : S128x256.Idx → Elt F .f32)
    (hpay : pay = fun y => FloatOps.addf (g y) (p (posIx y)))
    (hg : ∀ y, g y = X d (ix3 (n0 := 8192) (n1 := 2) (n2 := 128) ⟨(I d ((iB L).view.emb (ix1 (n0 := 128) (y 0)))).toNat % 8192, Nat.mod_lt _ (by decide)⟩ (y 1) (y 2)))
    (hp : p = ReadAs.same.apply ((pB L).view.read (Elt F) (P d))) (b : S8192x2x128.Idx) (hb : b ∈ (oB L).view.set) :
    (oB L).view.writes (Elt F) oo [⟨Rect.whole S128x2x128, pay⟩] b = outVal (X d) (I d) (P d) b := by
  obtain ⟨y, -, rfl⟩ := Finset.mem_map.mp hb
  have hr : (oB L).view.read (Elt F) ((oB L).view.writes (Elt F) oo [⟨Rect.whole S128x2x128, pay⟩]) y = pay y := congrFun (View.read_writes_whole _ _ _) y
  refine Eq.trans ?_ (hr.trans ?_)
  · exact ((View.read_apply _ _).trans (cast_eq _ _)).symm
  have e0 : ((oB L).view.emb y 0 : ℕ) = rowOf (L 0).val (L 1).val 1 + (y 0).val := by
    show (k0_off70 L) 0 + 1 * (y 0).val = _
    rw [k0_off70_eq]; show 512 * (L 1).val + 256 * (L 0).val + 128 + 1 * (y 0).val = _
    unfold rowOf; omega
  have e1 : ((oB L).view.emb y 1 : ℕ) = (y 1).val := by
    show (k0_off70 L) 1 + 1 * (y 1).val = _
    rw [k0_off70_eq]; show 0 + 1 * (y 1).val = _; omega
  have e2 : ((oB L).view.emb y 2 : ℕ) = (y 2).val := by
    show (k0_off70 L) 2 + 1 * (y 2).val = _
    rw [k0_off70_eq]; show 0 + 1 * (y 2).val = _; omega
  have b0 : (L 0).val < 2 := (L 0).isLt
  have b1 : (L 1).val < 16 := (L 1).isLt
  have b2 : (y 0).val < 128 := (y 0).isLt
  obtain ⟨hlt, hix⟩ := idxB L (y 0)
  subst hpay
  refine congrArg₂ FloatOps.addf ?_ ?_
  · refine (hg y).trans ?_
    rw [hix]
    refine congrArg (X d) (funext fun a => Fin.ext ?_)
    match a with
    | 0 => refine congrArg (fun j => (I d j).toNat % 8192) ?_
           refine funext fun c => Fin.ext ?_
           match c with | 0 => exact e0.symm
    | 1 => exact e1.symm
    | 2 => exact e2.symm
  · rw [hp]
    refine (View.read_apply _ _).trans ((cast_eq _ _).trans ?_)
    refine congrArg (P d) (funext fun a => Fin.ext ?_)
    match a with
    | 0 => show (k0_off37 L) 0 + 1 * (y 0).val = ((oB L).view.emb y 0 : ℕ) % 512
           rw [e0, k0_off37_eq]; show (512 * (L 1).val + 256 * (L 0).val + 128) % 512 + 1 * (y 0).val = _
           unfold rowOf; omega
    | 1 => show (k0_off37 L) 1 + 1 * (128 * (y 1).val + (y 2).val) = 128 * ((oB L).view.emb y 1 : ℕ) + ((oB L).view.emb y 2 : ℕ)
           rw [e1, e2, k0_off37_eq]; show 0 + 1 * (128 * (y 1).val + (y 2).val) = _; omega

/-- The loop's invariant at its first trip, from the two buffers. -/
theorem enter (thr : Thread nD τ) (m8 : Memref sig thr.2.kind .vmem S128x2x128 .f32) (m10 : Memref sig thr.2.kind .vmem S128x256 .f32)
    (h8 : m8.view.set = Finset.univ) (h10 : m10.view.set = Finset.univ)
    (g : S128x2x128.Idx → Elt F .f32) (p : S128x256.Idx → Elt F .f32) (f : Buf (Elt F) (m8.view.loc thr)) (fp : Buf (Elt F) (m10.view.loc thr))
    (hf : m8.view.read (Elt F) f = g) (hfp : m10.view.read (Elt F) fp = p) :
    (iprop((m8.view.loc thr ↦[m8.view.set]{fullShare} f) ∗ (m10.view.loc thr ↦[m10.view.set]{fullShare} fp)) : sProp 𝕄)
      ⊢ iprop(rowsAt thr m8 (mix g p (256 * 0)) ∗ posAt thr m10 p) := by
  unfold rowsAt posAt
  rw [h8, h10, Nat.mul_zero, mix_zero]
  iintro ⟨H1, H2⟩
  isplitl [H1]
  · iexists f; isplitr
    · ipureintro; exact hf
    · iexact H1
  · iexists fp; isplitr
    · ipureintro; exact hfp
    · iexact H2

/-- After the last trip: the rows' buffer holds the sums, the position block is given back. -/
theorem leave (thr : Thread nD τ) (m8 : Memref sig thr.2.kind .vmem S128x2x128 .f32) (m10 : Memref sig thr.2.kind .vmem S128x256 .f32)
    (h8 : m8.view.set = Finset.univ) (h10 : m10.view.set = Finset.univ)
    (g : S128x2x128.Idx → Elt F .f32) (p : S128x256.Idx → Elt F .f32) (n : ℕ) (hn : n = 128) :
    (iprop(rowsAt thr m8 (mix g p (256 * n)) ∗ posAt thr m10 p) : sProp 𝕄)
      ⊢ iprop((∃ f, ⌜m8.view.read (Elt F) f = fun y => FloatOps.addf (g y) (p (posIx y))⌝ ∗ (m8.view.loc thr ↦[m8.view.set]{fullShare} f))
          ∗ ∃ fp, m10.view.loc thr ↦[m10.view.set]{fullShare} fp) := by
  subst hn
  unfold rowsAt posAt
  rw [h8, h10, mix_all]
  iintro ⟨⟨%f, %hf, H1⟩, ⟨%fp, %hfp, H2⟩⟩
  isplitl [H1]
  · iexists f; isplitr
    · ipureintro; exact hf
    · iexact H1
  · iexists fp; iexact H2

set_option maxHeartbeats 4000000 in
/-- The body run from the pieces the launch dealt it, in the body's spelling. -/
theorem tile_run (hI : InRange I) (q : PosShare TreeShare) (q0 q1 : PosShare TreeShare) (O : CellTallies nD τ sig (HIx 1)) (W : Waits sig (HIx 1))
    (oo : Buf (Elt F) (oLoc d)) (a0 : Buf (Elt F) ((aV).view.loc (VT d L))) (b0 : Buf (Elt F) ((bV).view.loc (VT d L)))
    (r0 : Buf (Elt F) ((rV).view.loc (VT d L))) (s0 : Buf (Elt F) ((sV).view.loc (VT d L))) (p0 : Buf (Elt F) ((qV).view.loc (VT d L))) :
    (iprop(Transfers.MayWaits (VT d L) (default : HIx 1) O
        ∗ ((iV).view.loc (VT d L) ↦{q} I d) ∗ ((pV).view.loc (VT d L) ↦{q} P d)
        ∗ ((xV).view.loc (VT d L) ↦{q0} X d) ∗ ((xV).view.loc (VT d L) ↦{q1} X d)
        ∗ ((oA L).view.loc (VT d L) ↦[(oA L).view.set]{fullShare} oo) ∗ ((oB L).view.loc (VT d L) ↦[(oB L).view.set]{fullShare} oo)
        ∗ ((aV).view.loc (VT d L) ↦[(aV).view.set]{fullShare} a0) ∗ ((bV).view.loc (VT d L) ↦[(bV).view.set]{fullShare} b0)
        ∗ ((rV).view.loc (VT d L) ↦[(rV).view.set]{fullShare} r0) ∗ ((sV).view.loc (VT d L) ↦[(sV).view.set]{fullShare} s0)
        ∗ ((qV).view.loc (VT d L) ↦[(qV).view.set]{fullShare} p0)
        ∗ cells0 d L ∗ owes (VT d L) O W) : sProp 𝕄)
      ⊢ wp frame (wpE (defs₀ (F := F)) 𝒱₀ (VT d L) none) Set.univ
          (cc0_sc_gather L xV (Memref.isWhole_whole _) iV (Memref.isWhole_whole _) pV (Memref.isWhole_whole _) oV (Memref.isWhole_whole _)
            aV (Memref.isWhole_whole _) bV (Memref.isWhole_whole _) rV (Memref.isWhole_whole _) sV (Memref.isWhole_whole _) qV (Memref.isWhole_whole _)
            cc0_scratch5 cc0_scratch6 cc0_scratch7 cc0_scoped0 cc0_scoped1 cc0_scoped2 cc0_scoped3 cc0_scoped4)
          fun _ => iprop(((iV).view.loc (VT d L) ↦{q} I d) ∗ ((pV).view.loc (VT d L) ↦{q} P d)
        ∗ ((xV).view.loc (VT d L) ↦{q0} X d) ∗ ((xV).view.loc (VT d L) ↦{q1} X d)
        ∗ ((oA L).view.loc (VT d L) ↦[(oA L).view.set]{fullShare} outVal (X d) (I d) (P d)) ∗ ((oB L).view.loc (VT d L) ↦[(oB L).view.set]{fullShare} outVal (X d) (I d) (P d))
        ∗ (∃ f, (aV).view.loc (VT d L) ↦{fullShare} f) ∗ (∃ f, (bV).view.loc (VT d L) ↦{fullShare} f)
        ∗ (∃ f, (rV).view.loc (VT d L) ↦{fullShare} f) ∗ (∃ f, (sV).view.loc (VT d L) ↦{fullShare} f)
        ∗ (∃ f, (qV).view.loc (VT d L) ↦{fullShare} f)
        ∗ cells0 d L ∗ ∃ W', ⌜∀ p ∈ W', p ∈ W ∨ p.2 = none⌝ ∗ owes (VT d L) O W') := by
  iintro ⟨#Hmw, HI, HP, HX0, HX1, HOA, HOB, Ha, Hb, Hr, Hs, Hq, ⟨Hc0, Hc1, Hc2, Hc3, Hc4, Hc5, Hc6, Hc7⟩, HO⟩
  sl_unfold [cc0_sc_gather, k0_part11]
  sl_exec
  have hinA := fun g => inA I d L hI g (tile_run.sl.dma0 I d L) rfl
  sl_exec
  have hinB := fun g => inB I d L hI g (tile_run.sl.dma0_1 I d L) rfl
  sl_exec
  ihave Hrq := (enter (VT d L) rV qV (View.set_whole _) (View.set_whole _) _ (tile_run.sl.dma0_2 P d L) _ _ (View.read_writes_whole _ _ _) (View.read_writes_whole _ _ _)) $$ [Hr Hq]
  · isplitl [Hr] <;> iassumption
  iapply (Scf.wp_for_bind Idealize.ShloMosaic.frame (wpE (defs₀ (F := F)) 𝒱₀ (VT d L) none) Set.univ _ _ _ k0_t1_ok ⟨⟩
    (k0_t1_body L xV (Memref.isWhole_whole _) iV (Memref.isWhole_whole _) pV (Memref.isWhole_whole _) oV (Memref.isWhole_whole _) aV (Memref.isWhole_whole _) bV (Memref.isWhole_whole _) rV (Memref.isWhole_whole _) sV (Memref.isWhole_whole _) qV (Memref.isWhole_whole _) cc0_scratch5 cc0_scratch6 cc0_scratch7 cc0_scoped0 cc0_scoped1 cc0_scoped2 cc0_scoped3 cc0_scoped4)
    (fun n _ => iprop(rowsAt (VT d L) rV (mix (tile_run.sl.gather0 X I d L hinA) (tile_run.sl.dma0_2 P d L) (256 * n)) ∗ posAt (VT d L) qV (tile_run.sl.dma0_2 P d L)))
    (fun t u => trip1 d Set.univ L xV (Memref.isWhole_whole _) iV (Memref.isWhole_whole _) pV (Memref.isWhole_whole _) oV (Memref.isWhole_whole _) aV (Memref.isWhole_whole _) bV (Memref.isWhole_whole _) rV (Memref.isWhole_whole _) sV (Memref.isWhole_whole _) qV (Memref.isWhole_whole _) cc0_scratch5 cc0_scratch6 cc0_scratch7 cc0_scoped0 cc0_scoped1 cc0_scoped2 cc0_scoped3 cc0_scoped4 _ _ t u)) $$ Hrq
  iintro %u Hrq
  ihave Hrq := (leave (VT d L) rV qV (View.set_whole _) (View.set_whole _) _ (tile_run.sl.dma0_2 P d L) _ (by decide)) $$ Hrq
  icases Hrq with ⟨⟨%fr, %hfr, Hr⟩, ⟨%fq, Hq⟩⟩
  sl_exec
  ihave Hsq := (enter (VT d L) sV qV (View.set_whole _) (View.set_whole _) _ (tile_run.sl.dma0_4 P d L) _ _ (View.read_writes_whole _ _ _) (View.read_writes_whole _ _ _)) $$ [Hs Hq]
  · isplitl [Hs] <;> iassumption
  iapply (Scf.wp_for_bind Idealize.ShloMosaic.frame (wpE (defs₀ (F := F)) 𝒱₀ (VT d L) none) Set.univ _ _ _ k0_t2_ok ⟨⟩
    (k0_t2_body L xV (Memref.isWhole_whole _) iV (Memref.isWhole_whole _) pV (Memref.isWhole_whole _) oV (Memref.isWhole_whole _) aV (Memref.isWhole_whole _) bV (Memref.isWhole_whole _) rV (Memref.isWhole_whole _) sV (Memref.isWhole_whole _) qV (Memref.isWhole_whole _) cc0_scratch5 cc0_scratch6 cc0_scratch7 cc0_scoped0 cc0_scoped1 cc0_scoped2 cc0_scoped3 cc0_scoped4)
    (fun n _ => iprop(rowsAt (VT d L) sV (mix (tile_run.sl.gather0_1 X I d L hinB) (tile_run.sl.dma0_4 P d L) (256 * n)) ∗ posAt (VT d L) qV (tile_run.sl.dma0_4 P d L)))
    (fun t u => trip2 d Set.univ L xV (Memref.isWhole_whole _) iV (Memref.isWhole_whole _) pV (Memref.isWhole_whole _) oV (Memref.isWhole_whole _) aV (Memref.isWhole_whole _) bV (Memref.isWhole_whole _) rV (Memref.isWhole_whole _) sV (Memref.isWhole_whole _) qV (Memref.isWhole_whole _) cc0_scratch5 cc0_scratch6 cc0_scratch7 cc0_scoped0 cc0_scoped1 cc0_scoped2 cc0_scoped3 cc0_scoped4 _ _ t u)) $$ Hsq
  iintro %u' Hsq
  ihave Hsq := (leave (VT d L) sV qV (View.set_whole _) (View.set_whole _) _ (tile_run.sl.dma0_4 P d L) _ (by decide)) $$ Hsq
  icases Hsq with ⟨⟨%fs, %hfs, Hs⟩, ⟨%fq', Hq⟩⟩
  sl_exec
  have hgA : ∀ y, tile_run.sl.gather0 X I d L hinA y = _ := fun y => gathA X I d L hI _ rfl _ (View.read_writes_whole _ _ _) rfl (hinA _) y
  have hgB : ∀ y, tile_run.sl.gather0_1 X I d L hinB y = _ := fun y => gathB X I d L hI _ rfl _ (View.read_writes_whole _ _ _) rfl (hinB _) y
  have hoA := outA X I P d L oo (tile_run.sl.dma0_3 d L fr) _ _ hfr hgA rfl
  have hoB := outB X I P d L oo (tile_run.sl.dma0_5 d L fs) _ _ hfs hgB rfl
  ihave HOA := (Entails.of_eq (pointsTo_congr hoA)) $$ HOA
  ihave HOB := (Entails.of_eq (pointsTo_congr hoB)) $$ HOB
  have hwa : (aV).view.set = Finset.univ := View.set_whole _
  have hwb : (bV).view.set = Finset.univ := View.set_whole _
  have hwr : (rV).view.set = Finset.univ := View.set_whole _
  have hws : (sV).view.set = Finset.univ := View.set_whole _
  have hwq : (qV).view.set = Finset.univ := View.set_whole _
  sl_step
  rw [hwa, hwb, hwr, hws, hwq]
  isplitl [HI]; · iexact HI
  isplitl [HP]; · iexact HP
  isplitl [HX0]; · iexact HX0
  isplitl [HX1]; · iexact HX1
  isplitl [HOA]; · iexact HOA
  isplitl [HOB]; · iexact HOB
  isplitl [Ha]; · iexists _; iexact Ha
  isplitl [Hb]; · iexists _; iexact Hb
  isplitl [Hr]; · iexists _; iexact Hr
  isplitl [Hs]; · iexists _; iexact Hs
  isplitl [Hq]; · iexists _; iexact Hq
  isplitl [Hc0 Hc1 Hc2 Hc3 Hc4 Hc5 Hc6 Hc7]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexists _; isplitr
  swap; · iexact HO
  ipureintro; intro p hp
  iterate 8 (rcases Finset.mem_insert.mp hp with hp | hp; · exact .inr (hp ▸ rfl))
  exact .inl hp

end Tile

end Cert.Proof.Rows

end
-- ==== Proof.Launch.lean ====
/-
  The SparseCore call as the launch theorem takes it: each tile's task from the pieces it is dealt to the pieces it
  hands back, how the arrays of the call are cut into the 32 tiles' pieces (read shares of the indices, the table and
  the position rows; the result by blocks of 128 rows, two to a tile), and how the results join.
-/
module

public import proofs.«01_k».proof.Proof.Tile

@[expose] public section

noncomputable section

namespace Cert.Proof.Rows

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.GatherIdeal.main_v1_scv : Memref Cert.GatherIdeal.sig Kind.scVector Space.hbm Cert.GatherIdeal.S8192x2x128 EltTy.f32)
local notation "iV" => (Memref.whole Cert.GatherIdeal.main_arg1_scv : Memref Cert.GatherIdeal.sig Kind.scVector Space.hbm Cert.GatherIdeal.S8192 EltTy.i32)
local notation "pV" => (Memref.whole Cert.GatherIdeal.main_v0_scv : Memref Cert.GatherIdeal.sig Kind.scVector Space.hbm Cert.GatherIdeal.S512x256 EltTy.f32)
local notation "oV" => (Memref.whole Cert.GatherIdeal.main_v2_scv : Memref Cert.GatherIdeal.sig Kind.scVector Space.hbm Cert.GatherIdeal.S8192x2x128 EltTy.f32)
local notation "aV" => (Memref.whole Cert.GatherIdeal.cc0_scratch0 : Memref Cert.GatherIdeal.sig Kind.scVector Space.vmem Cert.GatherIdeal.S128 EltTy.i32)
local notation "bV" => (Memref.whole Cert.GatherIdeal.cc0_scratch1 : Memref Cert.GatherIdeal.sig Kind.scVector Space.vmem Cert.GatherIdeal.S128 EltTy.i32)
local notation "rV" => (Memref.whole Cert.GatherIdeal.cc0_scratch2 : Memref Cert.GatherIdeal.sig Kind.scVector Space.vmem Cert.GatherIdeal.S128x2x128 EltTy.f32)
local notation "sV" => (Memref.whole Cert.GatherIdeal.cc0_scratch3 : Memref Cert.GatherIdeal.sig Kind.scVector Space.vmem Cert.GatherIdeal.S128x2x128 EltTy.f32)
local notation "qV" => (Memref.whole Cert.GatherIdeal.cc0_scratch4 : Memref Cert.GatherIdeal.sig Kind.scVector Space.vmem Cert.GatherIdeal.S128x256 EltTy.f32)

abbrev EH : Emb UH (MT nD τ sig (HIx 1) (Elt F) ℕ UU ℕ) := embL

/-! ## The blocks of the result and the shares -/

def coordsV (c : Fin (grid0.bound 0)) (s : Fin (grid0.bound 1)) : grid0.Coords :=
  fun | 0 => c | 1 => s | ⟨_ + 2, h⟩ => absurd h (Nat.not_lt.2 (Nat.le_add_left _ _))

/-- The tile of an index pair. -/
abbrev LT (p : Fin 2 × Fin 16) : grid0.Coords := coordsV p.1 p.2
/-- The two blocks of a tile. -/
def oSet (p : (Fin 2 × Fin 16) × Fin 2) : Finset S8192x2x128.Idx := if p.2 = 0 then (oA (LT p.1)).view.set else (oB (LT p.1)).view.set
/-- A tile's read share. -/
def qT (p : Fin 2 × Fin 16) : PosShare TreeShare := Transfers.dealOf fullShare Finset.univ (finProdFinEquiv p : Fin (2 * 16))

theorem mem_oA (L : grid0.Coords) (b : S8192x2x128.Idx) :
    b ∈ (oA L).view.set ↔ 512 * (L 1).val + 256 * (L 0).val ≤ (b 0).val ∧ (b 0).val < 512 * (L 1).val + 256 * (L 0).val + 128 := by
  constructor
  · intro hb
    obtain ⟨y, -, rfl⟩ := Finset.mem_map.mp hb
    have e0 : ((oA L).view.emb y 0 : ℕ) = 512 * (L 1).val + 256 * (L 0).val + (y 0).val := by
      show (k0_off36 L) 0 + 1 * (y 0).val = _
      rw [k0_off36_eq]; show 512 * (L 1).val + 256 * (L 0).val + 1 * (y 0).val = _; omega
    have b2 : (y 0).val < 128 := (y 0).isLt
    omega
  · intro ⟨h0, h1⟩
    refine Finset.mem_map.mpr ⟨(ix3 (n0 := 128) (n1 := 2) (n2 := 128) ⟨(b 0).val - (512 * (L 1).val + 256 * (L 0).val), by omega⟩ (b 1) (b 2) : S128x2x128.Idx), Finset.mem_univ _, ?_⟩
    funext a; refine Fin.ext ?_
    match a with
    | 0 => show (k0_off36 L) 0 + 1 * ((b 0).val - (512 * (L 1).val + 256 * (L 0).val)) = (b 0).val
           rw [k0_off36_eq]; show 512 * (L 1).val + 256 * (L 0).val + 1 * ((b 0).val - (512 * (L 1).val + 256 * (L 0).val)) = _; omega
    | 1 => show (k0_off36 L) 1 + 1 * (b 1).val = (b 1).val
           rw [k0_off36_eq]; show 0 + 1 * (b 1).val = _; omega
    | 2 => show (k0_off36 L) 2 + 1 * (b 2).val = (b 2).val
           rw [k0_off36_eq]; show 0 + 1 * (b 2).val = _; omega

theorem mem_oB (L : grid0.Coords) (b : S8192x2x128.Idx) :
    b ∈ (oB L).view.set ↔ 512 * (L 1).val + 256 * (L 0).val + 128 ≤ (b 0).val ∧ (b 0).val < 512 * (L 1).val + 256 * (L 0).val + 256 := by
  constructor
  · intro hb
    obtain ⟨y, -, rfl⟩ := Finset.mem_map.mp hb
    have e0 : ((oB L).view.emb y 0 : ℕ) = 512 * (L 1).val + 256 * (L 0).val + 128 + (y 0).val := by
      show (k0_off70 L) 0 + 1 * (y 0).val = _
      rw [k0_off70_eq]; show 512 * (L 1).val + 256 * (L 0).val + 128 + 1 * (y 0).val = _; omega
    have b2 : (y 0).val < 128 := (y 0).isLt
    omega
  · intro ⟨h0, h1⟩
    refine Finset.mem_map.mpr ⟨(ix3 (n0 := 128) (n1 := 2) (n2 := 128) ⟨(b 0).val - (512 * (L 1).val + 256 * (L 0).val + 128), by omega⟩ (b 1) (b 2) : S128x2x128.Idx), Finset.mem_univ _, ?_⟩
    funext a; refine Fin.ext ?_
    match a with
    | 0 => show (k0_off70 L) 0 + 1 * ((b 0).val - (512 * (L 1).val + 256 * (L 0).val + 128)) = (b 0).val
           rw [k0_off70_eq]; show 512 * (L 1).val + 256 * (L 0).val + 128 + 1 * ((b 0).val - (512 * (L 1).val + 256 * (L 0).val + 128)) = _; omega
    | 1 => show (k0_off70 L) 1 + 1 * (b 1).val = (b 1).val
           rw [k0_off70_eq]; show 0 + 1 * (b 1).val = _; omega
    | 2 => show (k0_off70 L) 2 + 1 * (b 2).val = (b 2).val
           rw [k0_off70_eq]; show 0 + 1 * (b 2).val = _; omega

theorem mem_oSet (p : (Fin 2 × Fin 16) × Fin 2) (b : S8192x2x128.Idx) :
    b ∈ oSet p ↔ 512 * p.1.2.val + 256 * p.1.1.val + 128 * p.2.val ≤ (b 0).val ∧ (b 0).val < 512 * p.1.2.val + 256 * p.1.1.val + 128 * p.2.val + 128 := by
  obtain ⟨⟨c, s⟩, k⟩ := p
  unfold oSet
  match k with
  | 0 => rw [if_pos rfl, mem_oA]; exact Iff.rfl
  | 1 => rw [if_neg (by decide : ¬ (1 : Fin 2) = 0), mem_oB]; exact Iff.rfl

theorem oSet_disjoint : ∀ p ∈ (Finset.univ : Finset ((Fin 2 × Fin 16) × Fin 2)), ∀ p' ∈ (Finset.univ : Finset ((Fin 2 × Fin 16) × Fin 2)), p ≠ p' → Disjoint (oSet p) (oSet p') := by
  intro p _ p' _ hne
  refine Finset.disjoint_left.mpr fun b hb hb' => hne ?_
  rw [mem_oSet] at hb hb'
  obtain ⟨⟨c, s⟩, k⟩ := p
  obtain ⟨⟨c', s'⟩, k'⟩ := p'
  have h1 := c.isLt; have h2 := c'.isLt; have h3 := k.isLt; have h4 := k'.isLt
  dsimp only at hb hb'
  have e1 : s.val = s'.val := by omega
  have e2 : c.val = c'.val := by omega
  have e3 : k.val = k'.val := by omega
  rw [Fin.ext e1, Fin.ext e2, Fin.ext e3]

theorem oSet_cover : (Finset.univ : Finset ((Fin 2 × Fin 16) × Fin 2)).biUnion oSet = Finset.univ := by
  refine Finset.eq_univ_of_forall fun b => ?_
  have hb : (b 0).val < 8192 := (b 0).isLt
  refine Finset.mem_biUnion.mpr ⟨((⟨(b 0).val / 256 % 2, by omega⟩, ⟨(b 0).val / 512, by omega⟩), ⟨(b 0).val / 128 % 2, by omega⟩), Finset.mem_univ _, ?_⟩
  rw [mem_oSet]; dsimp only; omega

theorem o_tiles (d : Dev nD) (f : Buf (Elt F) (oLoc d)) :
    (oLoc d ↦{fullShare} f : sProp 𝕄) = bigSep Finset.univ fun p : Fin 2 × Fin 16 => iprop((oLoc d ↦[oSet (p, 0)]{fullShare} f) ∗ oLoc d ↦[oSet (p, 1)]{fullShare} f) := by
  rw [show (oLoc d ↦{fullShare} f : sProp 𝕄) = bigSep Finset.univ fun p : (Fin 2 × Fin 16) × Fin 2 => oLoc d ↦[oSet p]{fullShare} f by
    rw [← pointsTo_biUnion Finset.univ (ℓ := oLoc d) oSet oSet_disjoint, oSet_cover], BI.bigSep_univ_prod]
  exact bigSep_congr fun i _ => bigSep_fin_two _

theorem shares {ℓ : Loc nD τ sig} (f : Buf (Elt F) ℓ) :
    (ℓ ↦{fullShare} f : sProp 𝕄) = bigSep Finset.univ fun p : Fin 2 × Fin 16 => ℓ ↦{qT p} f := by
  rw [Transfers.pointsTo_deal (ℓ := ℓ) (S := Finset.univ) (f := f) (Finset.univ : Finset (Fin (2 * 16))) ⟨0, Finset.mem_univ _⟩ fullShare,
    bigSep_univ_equiv (finProdFinEquiv : Fin 2 × Fin 16 ≃ Fin (2 * 16))]
  rfl

variable [FloatOps F]

variable (X : (d : Dev nD) → Buf (Elt F) (xLoc d)) (I : (d : Dev nD) → Buf (Elt F) (iLoc d)) (P : (d : Dev nD) → Buf (Elt F) (pLoc d))
variable (O₀ : (d : Dev nD) → Buf (Elt F) (oLoc d))

/-- What a tile is dealt, its blocks of the result at contents `f`. -/
def piece (d : Dev nD) (p : Fin 2 × Fin 16) (f : Buf (Elt F) (oLoc d)) : sProp 𝕄 :=
  iprop((iLoc d ↦{qT p} I d) ∗ (pLoc d ↦{qT p} P d) ∗ (xLoc d ↦{qT p} X d) ∗ (oLoc d ↦[oSet (p, 0)]{fullShare} f) ∗ oLoc d ↦[oSet (p, 1)]{fullShare} f)

instance piece_storable (d : Dev nD) (p : Fin 2 × Fin 16) (f : Buf (Elt F) (oLoc d)) : BI.Storable (upEmb : UEmb _ 𝕄) (piece X I P d p f) := by
  unfold piece; infer_instance

/-- The result of the call. -/
abbrev OV (d : Dev nD) : Buf (Elt F) (oLoc d) := outVal (X d) (I d) (P d)

/-- The tiles' pieces together are the four arrays. -/
theorem pieces_all (d : Dev nD) (f : Buf (Elt F) (oLoc d)) :
    (bigSep Finset.univ fun c : Fin 2 => bigSep Finset.univ fun s : Fin 16 => piece X I P d (c, s) f)
      = (iprop((iLoc d ↦{fullShare} I d) ∗ (pLoc d ↦{fullShare} P d) ∗ (xLoc d ↦{fullShare} X d) ∗ oLoc d ↦{fullShare} f) : sProp 𝕄) := by
  rw [← BI.bigSep_univ_prod (fun p : Fin 2 × Fin 16 => piece X I P d p f)]
  unfold piece
  rw [bigSep_sep', bigSep_sep', bigSep_sep', ← o_tiles, ← shares, ← shares, ← shares]

/-- The call's pieces: a core takes its tiles' together. -/
def PC : (K (F := F)).Pay (nD := nD) (Val := Elt F) (Name := ℕ) (U := UU) where
  st := fun q d c => match q with | 0 => bigSep Finset.univ fun s : Fin 16 => piece X I P d (Fin.cast nCore_zero c, s) (O₀ d)
  dn := fun q d c => match q with | 0 => bigSep Finset.univ fun s : Fin 16 => piece X I P d (Fin.cast nCore_zero c, s) (OV X I P d)
  go := fun q d c i => match q with | 0 => piece X I P d (Fin.cast nCore_zero c, Fin.cast nSub_zero i) (O₀ d)
  td := fun q d c i => match q with | 0 => piece X I P d (Fin.cast nCore_zero c, Fin.cast nSub_zero i) (OV X I P d)
  x := fun _ _ => iprop(emp)

instance PC_storable : (PC X I P O₀).IsStorable where
  st q d c := match q with
    | 0 => (inferInstance : BI.Storable (upEmb : UEmb _ 𝕄) (bigSep Finset.univ fun s : Fin 16 => piece X I P d (Fin.cast nCore_zero c, s) (O₀ d)))
  dn q d c := match q with
    | 0 => (inferInstance : BI.Storable (upEmb : UEmb _ 𝕄) (bigSep Finset.univ fun s : Fin 16 => piece X I P d (Fin.cast nCore_zero c, s) (OV X I P d)))
  go q d c i := match q with | 0 => piece_storable X I P d _ _
  td q d c i := match q with | 0 => piece_storable X I P d _ _

/-! ## One tile's task -/

section Body

variable (d : Dev nD)

omit [FloatOps F] in
/-- A read share of the table as what stays and two read tokens. -/
theorem xToks (q : PosShare TreeShare) (f : Buf (Elt F) (xLoc d)) :
    (xLoc d ↦{q} f : sProp 𝕄) ⊣⊢ iprop((xLoc d ↦{Transfers.shareDrop q 2} f) ∗ (xLoc d ↦{Transfers.shareTokN q 0} f) ∗ (xLoc d ↦{Transfers.shareTokN q 1} f)) := by
  have h : (xLoc d ↦{q} f : sProp 𝕄) ⊣⊢ iprop((xLoc d ↦{Transfers.shareDrop q 2} f) ∗ bigSep (Finset.range 2) fun i => xLoc d ↦{Transfers.shareTokN q i} f) :=
    Transfers.pointsTo_toks_range (ℓ := xLoc d) (S := Finset.univ) (f := f) q 2
  rw [show Finset.range 2 = {0, 1} by decide, SparseCore.bigSep_insert' (by decide), bigSep_singleton] at h
  exact h

set_option maxHeartbeats 1000000 in
theorem tile_body (hF : (K (F := F)).Facts) (hI : InRange I) (p : Fin 2 × Fin 16) (O : CellTallies nD τ sig (HIx 1)) (W : Waits sig (HIx 1)) (hO : ∀ g, O g none = 0) :
    iprop(levAts (K (F := F)).L (K (F := F)).lev ∗ emp ∗ piece X I P d p (O₀ d)
        ∗ scopedBufs (VT d (LT p)) ∗ scopedSems0 (VT d (LT p)) ∗ owes (VT d (LT p)) O W)
      ⊢ wp frame (wpE (defs₀ (F := F)) 𝒱₀ (VT d (LT p)) none) Set.univ
          (cc0_sc_gather (LT p) xV (Memref.isWhole_whole _) iV (Memref.isWhole_whole _) pV (Memref.isWhole_whole _) oV (Memref.isWhole_whole _)
            aV (Memref.isWhole_whole _) bV (Memref.isWhole_whole _) rV (Memref.isWhole_whole _) sV (Memref.isWhole_whole _) qV (Memref.isWhole_whole _)
            cc0_scratch5 cc0_scratch6 cc0_scratch7 cc0_scoped0 cc0_scoped1 cc0_scoped2 cc0_scoped3 cc0_scoped4)
          fun _ => iprop(piece X I P d p (OV X I P d) ∗ scopedBufs (VT d (LT p)) ∗ scopedSems0 (VT d (LT p))
            ∗ ∃ W', ⌜∀ p ∈ W', p ∈ W ∨ p.2 = none ∨ p.2 = some (0 : Fin 1)⌝ ∗ owes (VT d (LT p)) O W') := by
  rw [(K (F := F)).scopedBufs_V hF d (cV (LT p)) (jV (LT p)), SparseCore.Cfg.scopedSems0_V (Val := Elt F) d (cV (LT p)) (jV (LT p)), ownSems0_V, ownBufs_V]
  unfold piece
  have hwa : (aV).view.set = Finset.univ := View.set_whole _
  have hwb : (bV).view.set = Finset.univ := View.set_whole _
  have hwr : (rV).view.set = Finset.univ := View.set_whole _
  have hws : (sV).view.set = Finset.univ := View.set_whole _
  have hwq : (qV).view.set = Finset.univ := View.set_whole _
  iintro ⟨#Hlv, -, ⟨Hi, Hp, Hx, Ho0, Ho1⟩, ⟨⟨%a0, Ha⟩, ⟨%b0, Hb⟩, ⟨%r0, Hr⟩, ⟨%s0, Hs⟩, ⟨%p0, Hq⟩, Hbufs⟩, ⟨HC, Hsems⟩, HO⟩
  ihave Hmw := (show levAts (K (F := F)).L (K (F := F)).lev ⊢ Transfers.MayWaits (VT d (LT p)) (default : HIx 1) O from
    (K (F := F)).mayWaits_none (thr := VT d (LT p)) hO) $$ Hlv
  ihave Hx' := (xToks d (qT p) (X d)).1 $$ Hx
  icases Hx' with ⟨Hxr, Hx0, Hx1⟩
  iapply (wp_wand_r Idealize.ShloMosaic.frame (wpE (defs₀ (F := F)) 𝒱₀ (VT d (LT p)) none) Set.univ)
  isplitl [Hi Hp Hx0 Hx1 Ho0 Ho1 Ha Hb Hr Hs Hq HC HO]
  · iapply (tile_run X I P d (LT p) hI (qT p) (Transfers.shareTokN (qT p) 0) (Transfers.shareTokN (qT p) 1) O W (O₀ d) a0 b0 r0 s0 p0)
    rw [hwa, hwb, hwr, hws, hwq]
    isplitr; · iexact Hmw
    isplitl [Hi]; · iexact Hi
    isplitl [Hp]; · iexact Hp
    isplitl [Hx0]; · iexact Hx0
    isplitl [Hx1]; · iexact Hx1
    isplitl [Ho0]; · iexact Ho0
    isplitl [Ho1]; · iexact Ho1
    isplitl [Ha]; · iexact Ha
    isplitl [Hb]; · iexact Hb
    isplitl [Hr]; · iexact Hr
    isplitl [Hs]; · iexact Hs
    isplitl [Hq]; · iexact Hq
    isplitl [HC]; · iexact HC
    iexact HO
  iintro %_ ⟨Hi, Hp, Hx0, Hx1, Ho0, Ho1, Ha, Hb, Hr, Hs, Hq, HC, ⟨%W', %hW', HO⟩⟩
  ihave Hx := (xToks d (qT p) (X d)).2 $$ [Hxr Hx0 Hx1]
  · isplitl [Hxr]; · iexact Hxr
    isplitl [Hx0]; · iexact Hx0
    iexact Hx1
  isplitl [Hi Hp Hx Ho0 Ho1]
  · isplitl [Hi]; · iexact Hi
    isplitl [Hp]; · iexact Hp
    isplitl [Hx]; · iexact Hx
    isplitl [Ho0]; · iexact Ho0
    iexact Ho1
  isplitl [Ha Hb Hr Hs Hq Hbufs]
  · isplitl [Ha]; · iexact Ha
    isplitl [Hb]; · iexact Hb
    isplitl [Hr]; · iexact Hr
    isplitl [Hs]; · iexact Hs
    isplitl [Hq]; · iexact Hq
    iexact Hbufs
  isplitl [HC Hsems]
  · isplitl [HC]; · iexact HC
    iexact Hsems
  iexists W'; isplitr
  · ipureintro; exact fun w hw => (hW' w hw).imp_right Or.inl
  · iexact HO

theorem defs₀_vector (c : Fin τ.nSC) (s : Fin τ.nSub) :
    defs₀ (F := F) (.scVector c s) 0 ()
      = SparseCore.onTile hcore0 hsub0 (fun c s => cc0_sc_gather (coordsV c s)
          xV (Memref.isWhole_whole _) iV (Memref.isWhole_whole _) pV (Memref.isWhole_whole _) oV (Memref.isWhole_whole _)
            aV (Memref.isWhole_whole _) bV (Memref.isWhole_whole _) rV (Memref.isWhole_whole _) sV (Memref.isWhole_whole _) qV (Memref.isWhole_whole _)
            cc0_scratch5 cc0_scratch6 cc0_scratch7 cc0_scoped0 cc0_scoped1 cc0_scoped2 cc0_scoped3 cc0_scoped4) ⟨⟩ c s := rfl

end Body

theorem tileObl (hI : InRange I) : (K (F := F)).TileObl (D (F := F)) 𝒱 (PC X I P O₀) v₀ 0 := by
  intro d c i O W hO _ _
  simp only [show (PC X I P O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body X I P O₀ d facts hI (Fin.cast nCore_zero c, Fin.cast nSub_zero i) O W hO

theorem vecSplit : (K (F := F)).VecSplit' (PC X I P O₀) 0 := by
  intro d c
  show (bigSep Finset.univ fun s : Fin 16 => piece X I P d (Fin.cast nCore_zero c, s) (O₀ d)) ⊢ |={Set.univ}=> iprop(
      (bigSep Finset.univ fun i : Fin 16 => piece X I P d (Fin.cast nCore_zero c, i) (O₀ d))
      ∗ ((bigSep Finset.univ fun i : Fin 16 => piece X I P d (Fin.cast nCore_zero c, i) (OV X I P d))
          -∗ bigSep Finset.univ fun s : Fin 16 => piece X I P d (Fin.cast nCore_zero c, s) (OV X I P d)))
  iintro H; imodintro
  isplitl [H]; · iexact H
  iintro H; iexact H

/-- What the call takes, what it hands back: the four arrays. -/
theorem st0_eq (d : Dev nD) : (bigSep Finset.univ fun c : Fin ((K (F := F)).nCore 0) => (PC X I P O₀).st 0 d c)
    = iprop((iLoc d ↦{fullShare} I d) ∗ (pLoc d ↦{fullShare} P d) ∗ (xLoc d ↦{fullShare} X d) ∗ oLoc d ↦{fullShare} O₀ d) :=
  pieces_all X I P d (O₀ d)
theorem dn0_eq (d : Dev nD) : (bigSep Finset.univ fun c : Fin ((K (F := F)).nCore 0) => (PC X I P O₀).dn 0 d c)
    = iprop((iLoc d ↦{fullShare} I d) ∗ (pLoc d ↦{fullShare} P d) ∗ (xLoc d ↦{fullShare} X d) ∗ oLoc d ↦{fullShare} OV X I P d) :=
  pieces_all X I P d (OV X I P d)

end Cert.Proof.Rows

end
-- ==== Proof.Main.lean ====
/-
  The gather program's @main: the two reshapes of its operands, the SparseCore call, the reshape of its result; the
  run of the whole program to the closed form of the result, over any reading of the floats.
-/
module

public import proofs.«01_k».proof.Proof.Launch
public import proofs.«01_k».proof.Defs
public import Idealize.ShloMosaic.Lib.SparseCore.Quiescent
public import Idealize.ShloMosaic.Lib.StableHlo.Run
public import proofs.«01_k».proof.Proof.Gen.Gather
public import proofs.«01_k».proof.Proof.Gen.Pre_idx_in_range

@[expose] public section

noncomputable section

namespace Cert.Proof.Rows

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

abbrev cLoc (d : Dev nD) : Loc nD τ sig := (SparseCore.T d).loc main_arg0
abbrev eLoc (d : Dev nD) : Loc nD τ sig := (SparseCore.T d).loc main_arg2
abbrev rLoc (d : Dev nD) : Loc nD τ sig := (SparseCore.T d).loc main_v3

/-- The table, the indices and the position rows as the call takes them. -/
def X0 (d : Dev nD) : Buf (Elt F) (xLoc d) := shapeCast S8192x2x128 (m (cLoc d) : S8192x256.Idx → Elt F .f32) shapeCasts_S8192x256_S8192x2x128
def I0 (d : Dev nD) : Buf (Elt F) (iLoc d) := m (iLoc d)
def P0 (d : Dev nD) : Buf (Elt F) (pLoc d) := shapeCast S512x256 (m (eLoc d) : S1x512x256.Idx → Elt F .f32) shapeCasts_S1x512x256_S512x256
def O0 (d : Dev nD) : Buf (Elt F) (oLoc d) := m (oLoc d)
/-- The program's result. -/
def Rv (d : Dev nD) : Buf (Elt F) (rLoc d) :=
  shapeCast S16x512x256 (outVal (X0 m d) (I0 m d) (P0 m d) : S8192x2x128.Idx → Elt F .f32) shapeCasts_S8192x2x128_S16x512x256

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PC (X0 m) (I0 m) (P0 m) (O0 m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (PC (F := F) (X0 m) (I0 m) (P0 m) (O0 m)).x q thr) = bigSep Finset.univ fun _ => iprop(emp) from
    bigSep_congr fun _ _ => bigSep_univ_of_subsingleton (0 : Fin 1), bigSep_emp']
  iempintro

abbrev c' : DevRef τ sig := Proc.devRef .tc (main_arg0 : Ref sig .tc)
abbrev i' : DevRef τ sig := Proc.devRef .tc (main_arg1 : Ref sig .tc)
abbrev e' : DevRef τ sig := Proc.devRef .tc (main_arg2 : Ref sig .tc)
abbrev p' : DevRef τ sig := Proc.devRef .tc (main_v0 : Ref sig .tc)
abbrev x' : DevRef τ sig := Proc.devRef .tc (main_v1 : Ref sig .tc)
abbrev o' : DevRef τ sig := Proc.devRef .tc (main_v2 : Ref sig .tc)
abbrev r' : DevRef τ sig := Proc.devRef .tc (main_v3 : Ref sig .tc)
abbrev opP : HloOp τ sig (Elt F) := StableHlo.reshape main_arg2 main_v0 (rfl : (.f32 : EltTy) = .f32) shapeCasts_S1x512x256_S512x256
abbrev opX : HloOp τ sig (Elt F) := StableHlo.reshape main_arg0 main_v1 (rfl : (.f32 : EltTy) = .f32) shapeCasts_S8192x256_S8192x2x128
abbrev opR : HloOp τ sig (Elt F) := StableHlo.reshape main_v2 main_v3 (rfl : (.f32 : EltTy) = .f32) shapeCasts_S8192x2x128_S16x512x256

abbrev S7 : Finset (DevRef τ sig) := {c', i', e', p', x', o', r'}

omit [FloatOps F] in
theorem held_S7 (d : Dev nD) (W : Valuation τ sig (Elt F)) :
    (held (T d) S7 W : sProp 𝕄)
      = iprop((cLoc d ↦{fullShare} W c') ∗ (iLoc d ↦{fullShare} W i') ∗ (eLoc d ↦{fullShare} W e') ∗ (pLoc d ↦{fullShare} W p')
          ∗ (xLoc d ↦{fullShare} W x') ∗ (oLoc d ↦{fullShare} W o') ∗ rLoc d ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((cLoc d ↦{fullShare} W main_arg0) ∗ (iLoc d ↦{fullShare} W main_arg1) ∗ (eLoc d ↦{fullShare} W main_arg2) ∗ (pLoc d ↦{fullShare} W main_v0)
          ∗ (xLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

def V0 (d : Dev nD) : Valuation τ sig (Elt F) := fun b => m (d, b)
def V2 (d : Dev nD) : Valuation τ sig (Elt F) := (opX (F := F)).result ((opP (F := F)).result (V0 m d))
/-- After the call. -/
def V3 (d : Dev nD) : Valuation τ sig (Elt F) := Function.update (V2 m d) o' (OV (X0 m) (I0 m) (P0 m) d)

theorem unscoped_held (d : Dev nD) : (unscopedBufs d (fun b => m ((SparseCore.T d).loc b)) : sProp 𝕄) = held (T d) S7 (V0 m d) := by
  rw [unscopedBufs_eq, held_S7]; rfl

theorem V2_other (d : Dev nD) (b : DevRef τ sig) (hp : b ≠ p') (hx : b ≠ x') : V2 m d b = m (d, b) := by
  unfold V2
  rw [(opX (F := F)).result_of_not_mem _ (show b ∉ ({x'} : Finset (DevRef τ sig)) by simpa using hx),
    (opP (F := F)).result_of_not_mem _ (show b ∉ ({p'} : Finset (DevRef τ sig)) by simpa using hp)]
  rfl
theorem V2_p (d : Dev nD) : V2 m d p' = P0 m d := by
  unfold V2
  rw [(opX (F := F)).result_of_not_mem _ (show p' ∉ ({x'} : Finset (DevRef τ sig)) by decide)]
  exact StableHlo.reshape_result _ _ _ _ _ _ _
theorem V2_x (d : Dev nD) : V2 m d x' = X0 m d := by
  refine (StableHlo.reshape_result _ _ _ _ _ _ _).trans ?_
  show shapeCast S8192x2x128 ((opP (F := F)).result (V0 m d) c') _ = _
  rw [(opP (F := F)).result_of_not_mem _ (show c' ∉ ({p'} : Finset (DevRef τ sig)) by decide)]
  rfl

theorem V3_o (d : Dev nD) : V3 m d o' = OV (X0 m) (I0 m) (P0 m) d := Function.update_self _ _ _
theorem V3_ne (d : Dev nD) (b : DevRef τ sig) (h : b ≠ o') : V3 m d b = V2 m d b := Function.update_of_ne h _ _

theorem held_V2 (d : Dev nD) :
    (held (T d) S7 ((opX (F := F)).result ((opP (F := F)).result (V0 m d))) : sProp 𝕄)
      = iprop((cLoc d ↦{fullShare} m (cLoc d)) ∗ (iLoc d ↦{fullShare} I0 m d) ∗ (eLoc d ↦{fullShare} m (eLoc d)) ∗ (pLoc d ↦{fullShare} P0 m d)
          ∗ (xLoc d ↦{fullShare} X0 m d) ∗ (oLoc d ↦{fullShare} O0 m d) ∗ rLoc d ↦{fullShare} V2 m d r') := by
  show held (SparseCore.T d) S7 (V2 m d) = _
  rw [held_S7, V2_p, V2_x, V2_other m d c' (by decide) (by decide), V2_other m d i' (by decide) (by decide), V2_other m d e' (by decide) (by decide),
    V2_other m d o' (by decide) (by decide)]
  rfl
theorem held_V4 (d : Dev nD) :
    (held (T d) S7 ((opR (F := F)).result (V3 m d)) : sProp 𝕄)
      = iprop((cLoc d ↦{fullShare} m (cLoc d)) ∗ (iLoc d ↦{fullShare} I0 m d) ∗ (eLoc d ↦{fullShare} m (eLoc d)) ∗ (pLoc d ↦{fullShare} P0 m d)
          ∗ (xLoc d ↦{fullShare} X0 m d) ∗ (oLoc d ↦{fullShare} OV (X0 m) (I0 m) (P0 m) d) ∗ rLoc d ↦{fullShare} Rv m d) := by
  have hr : ∀ b : DevRef τ sig, b ≠ r' → (opR (F := F)).result (V3 m d) b = V3 m d b := fun b hb =>
    (opR (F := F)).result_of_not_mem _ (show b ∉ ({r'} : Finset (DevRef τ sig)) by simpa using hb)
  have hR : (opR (F := F)).result (V3 m d) r' = Rv m d := by
    refine (StableHlo.reshape_result _ _ _ _ _ _ _).trans ?_
    show shapeCast S16x512x256 (V3 m d o') _ = _
    rw [V3_o]; rfl
  rw [held_S7, hR, hr c' (by decide), hr i' (by decide), hr e' (by decide), hr p' (by decide), hr x' (by decide), hr o' (by decide), V3_o,
    V3_ne m d c' (by decide), V3_ne m d i' (by decide), V3_ne m d e' (by decide), V3_ne m d p' (by decide), V3_ne m d x' (by decide),
    V2_p, V2_x, V2_other m d c' (by decide) (by decide), V2_other m d i' (by decide) (by decide), V2_other m d e' (by decide) (by decide)]
  rfl

theorem hP : (opP (F := F)).bufs ⊆ S7 := show ({e', p'} : Finset (DevRef τ sig)) ⊆ S7 by decide
theorem hX : (opX (F := F)).bufs ⊆ S7 := show ({c', x'} : Finset (DevRef τ sig)) ⊆ S7 by decide
theorem hR : (opR (F := F)).bufs ⊆ S7 := show ({o', r'} : Finset (DevRef τ sig)) ⊆ S7 by decide

/-- What @main leaves the claims: the arguments at their launch contents, the result at its closed form. -/
abbrev FIN (d : Dev nD) : sProp 𝕄 :=
  iprop((cLoc d ↦{fullShare} m (cLoc d)) ∗ (iLoc d ↦{fullShare} m (iLoc d)) ∗ (eLoc d ↦{fullShare} m (eLoc d)) ∗ rLoc d ↦{fullShare} Rv m d)

theorem hmain (κ : GSem nD τ sig → ℕ) (d : Dev nD) :
    iprop((K (F := F)).ctx EH (PC (X0 m) (I0 m) (P0 m) (O0 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opP) (S := S7) hP (V := V0 m d)) $$ [Hb Hheld]
  · isplitl [Hb] <;> iassumption
  iintro ⟨Hb, Hheld⟩
  rw [wp_ret]; imodintro
  iapply (wp_hlo_within 𝒱 (SparseCore.T d) none Set.univ (op := opX) (S := S7) hX (V := (opP (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Hc, Hi, He, Hp, Hx, Ho, Hr⟩
  iapply ((K (F := F)).wp_run (D (F := F)) 𝒱 (EH := EH) (P := PC (X0 m) (I0 m) (P0 m) (O0 m)) κ d 0) $$ [Hst Hc Hi He Hp Hx Ho Hr Hb Hts]
  isplitr; · iexact Hctx
  isplitl [Hst]; · iexact Hst
  isplitl [Hi Hp Hx Ho]
  · rw [st0_eq]
    isplitl [Hi]; · iexact Hi
    isplitl [Hp]; · iexact Hp
    isplitl [Hx]; · iexact Hx
    iexact Ho
  iintro ⟨Hst, Hdn⟩
  ihave Hdn' := (Entails.of_eq (dn0_eq (X0 m) (I0 m) (P0 m) (O0 m) d)) $$ Hdn
  icases Hdn' with ⟨Hi, Hp, Hx, Ho⟩
  iapply (wp_hlo_within 𝒱 (SparseCore.T d) none Set.univ (op := opR) (S := S7) hR (V := V3 m d)) $$ [Hb Hc Hi He Hp Hx Ho Hr]
  · isplitl [Hb]; · iexact Hb
    rw [held_S7, V3_o, V3_ne m d c' (by decide), V3_ne m d i' (by decide), V3_ne m d e' (by decide), V3_ne m d p' (by decide), V3_ne m d x' (by decide),
      V3_ne m d r' (by decide), V2_p, V2_x, V2_other m d c' (by decide) (by decide), V2_other m d i' (by decide) (by decide), V2_other m d e' (by decide) (by decide)]
    isplitl [Hc]; · iexact Hc
    isplitl [Hi]; · iexact Hi
    isplitl [He]; · iexact He
    isplitl [Hp]; · iexact Hp
    isplitl [Hx]; · iexact Hx
    isplitl [Ho]; · iexact Ho
    iexact Hr
  iintro ⟨Hb, Hheld⟩
  ihave Hh := (Entails.of_eq (held_V4 (F := F) m d)) $$ Hheld
  icases Hh with ⟨Hc, Hi, He, -, -, -, Hr⟩
  rw [wp_ret]; imodintro; imodintro
  isplitl [Hst]; · iexact Hst
  isplitr [Hb Hts]
  · isplitl [Hc]; · iexact Hc
    isplitl [Hi]; · iexact Hi
    isplitl [He]; · iexact He
    iexact Hr
  isplitl [Hb] <;> iassumption

/-- What the claims read of the final state. -/
def fq (d : Dev nD) (s' : Phys nD τ sig (Elt F)) : Prop :=
  s'.mem.mem (rLoc d) = Rv m d ∧ s'.mem.mem (cLoc d) = m (cLoc d) ∧ s'.mem.mem (iLoc d) = m (iLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Hc, Hi, He, Hr⟩, HSI⟩
  ihave H := (persistent_entails_right (SI_pointsTo_agree (st := s') (ℓ := cLoc d) (I := Finset.univ) (q := fullShare) (f := m (cLoc d)))) $$ [HSI Hc]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h3, HSI, -⟩
  ihave H := (SI_pointsTo_agree (st := s') (ℓ := rLoc d) (I := Finset.univ) (q := fullShare) (f := Rv m d)) $$ [HSI Hr]
  · isplitl [HSI] <;> iassumption
  icases H with %h4
  ipureintro
  exact ⟨funext fun i => h4 i (Finset.mem_univ i), funext fun i => h1 i (Finset.mem_univ i), funext fun i => h2 i (Finset.mem_univ i), funext fun i => h3 i (Finset.mem_univ i)⟩

def QC : PUnit × MemSt nD τ sig (Elt F) → Prop := fun r =>
  (∀ d : Dev nD, r.2.mem (rLoc d) = Rv m d ∧ r.2.mem (cLoc d) = m (cLoc d) ∧ r.2.mem (iLoc d) = m (iLoc d) ∧ r.2.mem (eLoc d) = m (eLoc d)) ∧ r.2.sem = fun _ => 0

theorem run_main [∀ e, Nonempty (Elt F e)] (hI : InRange (I0 m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := PC (X0 m) (I0 m) (P0 m) (O0 m)) (A := ∅) facts v₀
    (fun q hq => match q with | 0 => nomatch hq)
    (fun q _ => match q with | 0 => tileObl (X0 m) (I0 m) (P0 m) (O0 m) hI)
    (fun q _ => match q with | 0 => SparseCore.Cfg.VecSplit.of_plain (vecSplit (X0 m) (I0 m) (P0 m) (O0 m)))
    m ρ main (fun _ => iprop(emp)) (FIN m) (u₀ (F := F)) (sep_elim_left.trans (hu₀ m)) (hmain m ρ) (fq m) (hfin m) (QC m) (fun _ h hz => ⟨h, hz⟩)

/-- An index that passes the range test, as a natural. -/
theorem below (v : BitVec 32) (e : IntOp.andi (IntOp.cmpi .sge v 0#32) (IntOp.cmpi .slt v 8192#32) = 1#1) : v.toNat < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem ok_bits (m : (ℓ : Loc nD τ sig) → Buf (Elt Bits) ℓ) (h : Cert.Pre_Gather m) : InRange (I0 (F := Bits) m) := by
  intro d j
  have e := congrFun (h d) j
  simp only [Pre_idx_in_range.fn, andi, cmpi, broadcastInDim, constantI] at e
  exact below _ e

theorem ok_ideal (m : (ℓ : Loc nD τ sig) → Buf (Elt Ideal) ℓ) (h : Cert.Pre_GatherIdeal m) : InRange (I0 (F := Ideal) m) := by
  intro d j
  have e := congrFun (h d) j
  simp only [Pre_idx_in_range.fn, andi, cmpi, broadcastInDim, constantI] at e
  exact below _ e

/-- The program over words runs, and leaves its arguments. -/
theorem frame_bits : Cert.quiescent_Gather := fun m ρ hpre =>
  (θ_run Cert.GatherIdeal.defs _ _).mono (fun _ h => ⟨fun c => (h.1 c).2, h.2⟩) (run_main (F := Bits) m ρ (ok_bits m hpre))

/-- The program over exact values likewise. -/
theorem frame_ideal : Cert.quiescent_GatherIdeal := fun m ρ hpre =>
  (θ_run Cert.GatherIdeal.defs _ _).mono (fun _ h => ⟨fun c => (h.1 c).2, h.2⟩) (run_main (F := Ideal) m ρ (ok_ideal m hpre))

end Cert.Proof.Rows

end
-- ==== Proof.RowsRef.lean ====
/-
  The rows' reference, index by index: with every index below the table's height the bounds masks of `jnp.take` let every
  row through, so entry (b, t, j) is the codebook's entry (index of (b, t), j) plus the position row's entry (t, j); and the
  gather program's result, read through its reshapes, is the same.
-/
module

public import proofs.«01_k».proof.Proof.Main
public import proofs.«01_k».proof.Proof.Gen.RowsIdeal
public import proofs.«01_k».proof.Proof.Gen.RowsIdeal.Run
public import Idealize.ShloMosaic.Lib.ValueIdxCore
public import Idealize.ShloMosaic.PureOps.Reduce

@[expose] public section

noncomputable section

namespace Cert.Proof.RowsRef

open Cert.RowsIdeal Cert.RowsIdeal.Gen

open Idealize.ShloMosaic Idealize.SL.Sem
open Idealize.ShloMosaic.ValueIdx (select_one select_zero)
open Idealize.ShloMosaic.TcCoe

variable {F : FTy → Type} [FloatOps F]

/-- A conjunction over an axis of words that are all 1, from 1, is 1. -/
theorem foldl_ones {ι : Type} (x : ι → BitVec 1) (h : ∀ i, x i = 1#1) (l : List ι) :
    l.foldl (fun r i => IntOp.andi r (x i)) 1#1 = 1#1 := by
  induction l with
  | nil => rfl
  | cons a l ih => rw [List.foldl_cons, h a]; exact ih

/-- A word below 8192, read as a signed number. -/
theorem toInt_small (v : BitVec 32) (h : v.toNat < 8192) : v.toInt = v.toNat := by
  rw [BitVec.toInt_eq_toNat_cond]; omega

theorem slt_zero (v : BitVec 32) (h : v.toNat < 8192) : IntOp.cmpi .slt v 0#32 = 0#1 := by
  have e : v.slt 0#32 = false := by
    rw [BitVec.slt_eq_decide, toInt_small v h]; simp
  show BitVec.ofBool (v.slt 0#32) = 0#1
  rw [e]; rfl
theorem sge_zero (v : BitVec 32) (h : v.toNat < 8192) : IntOp.cmpi .sge v 0#32 = 1#1 := by
  have e : (0#32).sle v = true := by
    rw [BitVec.sle_eq_decide, toInt_small v h]; simp
  show BitVec.ofBool ((0#32).sle v) = 1#1
  rw [e]; rfl
theorem sle_top (v : BitVec 32) (h : v.toNat < 8192) : IntOp.cmpi .sle v 8191#32 = 1#1 := by
  have e : v.sle 8191#32 = true := by
    rw [BitVec.sle_eq_decide, toInt_small v h]; simp; omega
  show BitVec.ofBool (v.sle 8191#32) = 1#1
  rw [e]; rfl

/-- The gather of whole rows: entry (b, t, j) is the table's entry at the row the index (b, t) names. -/
theorem gather_rows_apply {α : Type} (x : S8192x256.Idx → α) (i : IVec S16x512x1 32) (hi : ∀ k, (i k).toNat < 8192) (b : Fin 16) (t : Fin 512) (j : Fin 256) :
    Host.gather gather_S8192x256_S16x512x1_S16x512x256_2_0_n_n_0_2_1256 x i (ix3 (n0 := 16) (n1 := 512) (n2 := 256) b t j)
      = x (ix2 (n0 := 8192) (n1 := 256) ⟨(i (ix3 (n0 := 16) (n1 := 512) (n2 := 1) b t 0)).toNat, hi _⟩ j) := by
  unfold Host.gather
  congr 1
  funext a
  refine Fin.ext ?_
  set d := gather_S8192x256_S16x512x1_S16x512x256_2_0_n_n_0_2_1256 with hd
  show d.start (ix3 b t j) i a + d.batchCoord (ix3 b t j) a + d.offCoord (ix3 b t j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix3 b t j) ⟨List.idxOf (0 : Fin 2) d.startIndexMap, List.idxOf_lt_length_iff.2 (List.mem_singleton.mpr rfl)⟩
        = ix3 (n0 := 16) (n1 := 512) (n2 := 1) b t 0 := by
      funext b'; refine Fin.ext ?_
      match b' with
      | ⟨0, _⟩ => rfl
      | ⟨1, _⟩ => rfl
      | ⟨2, _⟩ => rfl
    rw [hsi]
    have h := hi (ix3 (n0 := 16) (n1 := 512) (n2 := 1) b t 0)
    show min ((i (ix3 (n0 := 16) (n1 := 512) (n2 := 1) b t 0)).toInt.toNat) (8192 - 1) = (i (ix3 (n0 := 16) (n1 := 512) (n2 := 1) b t 0)).toNat
    rw [toInt_small _ h, Int.toNat_natCast]
    omega
  · rw [GatherDims.batchCoord_eq_zero _ _ _ List.not_mem_nil]
    have hs : d.start (ix3 b t j) i 1 = 0 := by
      unfold GatherDims.start
      rw [dif_neg (show ¬ (1 : Fin 2) ∈ d.startIndexMap by decide)]
    rw [hs]
    simp only [Nat.zero_add, Nat.add_zero]
    rfl

/-- The index with a negative one counted from the end, one to a row. -/
def wrapped (J : IVec S16x512 32) : IVec S16x512x1 32 :=
  broadcastInDim S16x512x1 ![0, 1] bcast_S16x512_S16x512x1_0_1
    (select (cmpi .slt J (broadcastInDim S16x512 ![] bcast_S_S16x512 (constantI S_ 32 0#32)))
      (addi J (broadcastInDim S16x512 ![] bcast_S_S16x512 (constantI S_ 32 8192#32))) J)

/-- `jnp.take` of rows: the index wrapped, the mask of its bounds, the gather and the fill. -/
def take (C : S8192x256.Idx → Elt F .f32) (J : IVec S16x512 32) : S16x512x256.Idx → Elt F .f32 :=
  select (broadcastInDim S16x512x256 ![0, 1] bcast_S16x512_S16x512x256_0_1
      (Host.reduce IntOp.andi
        (andi (cmpi .sge (wrapped J) (broadcastInDim S16x512x1 ![] bcast_S_S16x512x1 (constantI S_ 32 0#32)))
          (cmpi .sle (wrapped J) (broadcastInDim S16x512x1 ![0, 1, 2] bcast_S1x1x1_S16x512x1_0_1_2 (broadcastInDim S1x1x1 ![2] bcast_S1_S1x1x1_2 (constantI S1 32 8191#32)))))
        (constantI S_ 1 1#1) reducesTo_S16x512x1_S16x512_d2 h_S_))
    (Host.gather gather_S8192x256_S16x512x1_S16x512x256_2_0_n_n_0_2_1256 C (wrapped J))
    (broadcastInDim S16x512x256 ![] bcast_S_S16x512x256 (constant S_ .f32 0x7FC00000#32))

/-- With every index below 8192 it is the rows. -/
theorem take_apply (C : S8192x256.Idx → Elt F .f32) (J : IVec S16x512 32) (hJ : ∀ k, (J k).toNat < 8192) (b : Fin 16) (t : Fin 512) (j : Fin 256) :
    take C J (ix3 (n0 := 16) (n1 := 512) (n2 := 256) b t j) = C (ix2 (n0 := 8192) (n1 := 256) ⟨(J (ix2 (n0 := 16) (n1 := 512) b t)).toNat, hJ _⟩ j) := by
  unfold take
  generalize hw0 : wrapped J = w
  have hw : w = broadcastInDim S16x512x1 ![0, 1] bcast_S16x512_S16x512x1_0_1 J := by
    subst hw0
    refine congrArg (fun z : IVec S16x512 32 => broadcastInDim S16x512x1 ![0, 1] bcast_S16x512_S16x512x1_0_1 z) (funext fun k => ?_)
    show Scalar.select (IntOp.cmpi .slt (J k) 0#32) _ (J k) = J k
    rw [slt_zero _ (hJ k), select_zero]
  have hwk : ∀ k, (w k).toNat < 8192 := fun k => by rw [hw]; exact hJ _
  have hred : ∀ k, Host.reduce IntOp.andi
        (andi (cmpi .sge w (broadcastInDim S16x512x1 ![] bcast_S_S16x512x1 (constantI S_ 32 0#32)))
          (cmpi .sle w (broadcastInDim S16x512x1 ![0, 1, 2] bcast_S1x1x1_S16x512x1_0_1_2 (broadcastInDim S1x1x1 ![2] bcast_S1_S1x1x1_2 (constantI S1 32 8191#32)))))
        (constantI S_ 1 1#1) reducesTo_S16x512x1_S16x512_d2 h_S_ k = 1#1 := fun k => by
    rw [Host.reduce_eq_foldl]
    refine foldl_ones _ (fun i => ?_) _
    show IntOp.andi (IntOp.cmpi .sge (w i) 0#32) (IntOp.cmpi .sle (w i) 8191#32) = 1#1
    rw [sge_zero _ (hwk i), sle_top _ (hwk i)]; rfl
  show Scalar.select (Host.reduce IntOp.andi _ _ _ _ _) _ _ = _
  rw [hred, select_one, gather_rows_apply C w hwk b t j]
  congr 2
  refine Fin.ext ?_
  show (w _).toNat = _
  rw [hw]
  show (J _).toNat = _
  congr 2
  funext a
  match a with
  | ⟨0, _⟩ => rfl
  | ⟨1, _⟩ => rfl

/-- The reference's result as a function of its arguments. -/
def refVal (C : S8192x256.Idx → Elt F .f32) (I : IVec S8192 32) (P : S1x512x256.Idx → Elt F .f32) : S16x512x256.Idx → Elt F .f32 :=
  addf (take C (shapeCast S16x512 I shapeCasts_S8192_S16x512)) (broadcastInDim S16x512x256 ![0, 1, 2] bcast_S1x512x256_S16x512x256_0_1_2 P)

theorem row_lt (b : Fin 16) (t : Fin 512) : b.val * 512 + t.val < 8192 := by omega

/-- The program's result, read through its reshapes, is the reference's. -/
theorem value_eq (C : S8192x256.Idx → Elt F .f32) (I : IVec S8192 32) (hI : ∀ k, (I k).toNat < 8192) (P : S1x512x256.Idx → Elt F .f32) :
    (shapeCast S16x512x256 (Cert.Proof.Rows.outVal (F := F)
        (shapeCast Cert.GatherIdeal.S8192x2x128 C Cert.GatherIdeal.Gen.shapeCasts_S8192x256_S8192x2x128) I
        (shapeCast Cert.GatherIdeal.S512x256 P Cert.GatherIdeal.Gen.shapeCasts_S1x512x256_S512x256) : Cert.GatherIdeal.S8192x2x128.Idx → Elt F .f32)
      Cert.GatherIdeal.Gen.shapeCasts_S8192x2x128_S16x512x256) = refVal C I P := by
  funext y
  obtain ⟨b, t, j, rfl⟩ : ∃ (b : Fin 16) (t : Fin 512) (j : Fin 256), y = ix3 (n0 := 16) (n1 := 512) (n2 := 256) b t j :=
    ⟨y 0, y 1, y 2, by funext a; match a with | ⟨0, _⟩ => rfl | ⟨1, _⟩ => rfl | ⟨2, _⟩ => rfl⟩
  have hb := b.isLt; have ht := t.isLt; have hj := j.isLt
  let r : Fin 8192 := ⟨b.val * 512 + t.val, row_lt b t⟩
  let h : Fin 2 := ⟨j.val / 128, by omega⟩
  let l : Fin 128 := ⟨j.val % 128, by omega⟩
  rw [shapeCast_apply _ _ _ (ix3 (n0 := 8192) (n1 := 2) (n2 := 128) r h l) (by
    rw [Shape.rowMajor_val_three, Shape.rowMajor_val_three]
    show ((b.val * 512 + t.val) * 2 + j.val / 128) * 128 + j.val % 128 = (b.val * 512 + t.val) * 256 + j.val
    omega)]
  show FloatOps.addf _ _ = FloatOps.addf _ _
  have hJ : ∀ k, (shapeCast S16x512 I shapeCasts_S8192_S16x512 k).toNat < 8192 := fun k => hI _
  have hJe : shapeCast S16x512 I shapeCasts_S8192_S16x512 (ix2 (n0 := 16) (n1 := 512) b t) = I (ix1 (n0 := 8192) r) :=
    shapeCast_apply _ _ _ _ (by
      rw [Shape.rowMajor_val_one, Shape.rowMajor_val_two]
      rfl)
  refine congrArg₂ FloatOps.addf ?_ ?_
  · rw [take_apply C _ hJ b t j]
    refine shapeCast_apply _ _ _ _ ?_
    rw [Shape.rowMajor_val_two, Shape.rowMajor_val_three]
    show (shapeCast S16x512 I shapeCasts_S8192_S16x512 (ix2 (n0 := 16) (n1 := 512) b t)).toNat * 256 + j.val
      = (((I (ix1 (n0 := 8192) r)).toNat % 8192) * 2 + j.val / 128) * 128 + j.val % 128
    rw [hJe]
    have := hI (ix1 (n0 := 8192) r)
    omega
  · refine shapeCast_apply _ _ _ _ ?_
    rw [Shape.rowMajor_val_two, Shape.rowMajor_val_three]
    show (0 * 512 + t.val) * 256 + j.val = ((b.val * 512 + t.val) % 512) * 256 + (128 * (j.val / 128) + j.val % 128)
    omega

/-- The reference runs and leaves its arguments. -/
theorem frame_ref : Cert.quiescent_RowsIdeal := fun m ρ _ =>
  (θ_run Cert.RowsIdeal.defs _ _).mono (fun r h => ⟨fun c => (h c).2, Idealize.ShloMosaic.sem_eq_zero_of_no_sems (by decide) r.2⟩)
    (Cert.RowsIdeal.Value.run (F := Ideal) m ρ)

/-- Over exact values the two results are equal, entry by entry. -/
theorem algebraic : Cert.algebraic_GatherIdeal_RowsIdeal := by
  intro m g m' g' hpre hargs
  have hI := Cert.Proof.Rows.ok_ideal m hpre
  refine ⟨fun c => Cert.Proof.Rows.Rv (F := Ideal) m c, ?_, ?_⟩
  · exact (θ_run Cert.GatherIdeal.defs _ _).mono (fun _ h c => h.1 c) (Cert.Proof.Rows.run_main (F := Ideal) m g hI)
  · refine (θ_run Cert.RowsIdeal.defs _ _).mono (fun r h c => ⟨(h c).1.trans ?_, (h c).2⟩) (Cert.RowsIdeal.Value.run (F := Ideal) m' g')
    obtain ⟨h0, h1, h2⟩ := hargs c
    rw [h0, h1, h2]
    exact (value_eq (F := Ideal) (m (Cert.Proof.Rows.cLoc c)) (m (Cert.Proof.Rows.iLoc c)) (hI c) (m (Cert.Proof.Rows.eLoc c))).symm

end Cert.Proof.RowsRef

end
-- ==== Proof.WholeRef.lean ====
/-
  The whole kernel's reference, run: the list of its host operations, and what the run leaves in its two results as
  functions of its arguments, named stage by stage.
-/
module

public import proofs.«01_k».proof.Proof.RowsRef
public import proofs.«01_k».proof.Proof.Gen.ReferenceIdeal
public import proofs.«01_k».proof.Proof.Gen.Pre_kernel_finite
public import Idealize.ShloMosaic.Lib.StableHlo.Run

@[expose] public section

noncomputable section

namespace Cert.Proof.WholeRef

open Cert.ReferenceIdeal Cert.ReferenceIdeal.Gen

open Idealize.ShloMosaic Idealize.ShloMosaic.TcCoe Idealize.SL.Sem Idealize.ShloMosaic.StableHlo

variable {F : FTy → Type} [FloatOps F]

/-- The reference's operations, in order; a called function's stand in its call's place. -/
abbrev ops : List (HloOp τ sig (Elt F)) :=
  [ binary main_arg0 main_arg1 main_v0 ((fun l r => Host.dotGeneral dot_S16x512x129_S256x129_S16x512x256_2_1_01_0_n_n none l r) : (⟨S16x512x129, .f32⟩ : BufTy).Contents (Elt F) → (⟨S256x129, .f32⟩ : BufTy).Contents (Elt F) → (⟨S16x512x256, .f32⟩ : BufTy).Contents (Elt F)),
    unary main_arg2 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v0 main_v2 main_v3 (addf : (⟨S16x512x256, .f32⟩ : BufTy).Contents (Elt F) → (⟨S16x512x256, .f32⟩ : BufTy).Contents (Elt F) → (⟨S16x512x256, .f32⟩ : BufTy).Contents (Elt F)),
    binary main_v3 main_v3 main_v4 (mulf : (⟨S16x512x256, .f32⟩ : BufTy).Contents (Elt F) → (⟨S16x512x256, .f32⟩ : BufTy).Contents (Elt F) → (⟨S16x512x256, .f32⟩ : BufTy).Contents (Elt F)),
    nullary main_cst (constant S_ .f32 0x00000000#32),
    binary main_v4 main_cst main_v5 ((fun x v => Host.reduceAdd x v reducesTo_S16x512x256_S16x512_d2 h_S_) : (⟨S16x512x256, .f32⟩ : BufTy).Contents (Elt F) → (⟨S_, .f32⟩ : BufTy).Contents (Elt F) → (⟨S16x512, .f32⟩ : BufTy).Contents (Elt F)),
    unary main_v5 main_v6 (broadcastInDim S16x512x1 ![0, 1] bcast_S16x512_S16x512x1_0_1 : (⟨S16x512, .f32⟩ : BufTy).Contents (Elt F) → (⟨S16x512x1, .f32⟩ : BufTy).Contents (Elt F)),
    binary main_arg3 main_arg3 main_v7 (mulf : (⟨S8192x256, .f32⟩ : BufTy).Contents (Elt F) → (⟨S8192x256, .f32⟩ : BufTy).Contents (Elt F) → (⟨S8192x256, .f32⟩ : BufTy).Contents (Elt F)),
    nullary main_cst_0 (constant S_ .f32 0x00000000#32),
    binary main_v7 main_cst_0 main_v8 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    binary main_v3 main_arg3 main_v9 ((fun l r => Host.dotGeneral dot_S16x512x256_S8192x256_S16x512x8192_2_1_01_0_n_n none l r) : (⟨S16x512x256, .f32⟩ : BufTy).Contents (Elt F) → (⟨S8192x256, .f32⟩ : BufTy).Contents (Elt F) → (⟨S16x512x8192, .f32⟩ : BufTy).Contents (Elt F)),
    nullary main_cst_1 (constant S_ .f32 0x40000000#32),
    unary main_cst_1 main_v10 (broadcastInDim S16x512x8192 ![] bcast_S_S16x512x8192 : (⟨S_, .f32⟩ : BufTy).Contents (Elt F) → (⟨S16x512x8192, .f32⟩ : BufTy).Contents (Elt F)),
    binary main_v10 main_v9 main_v11 (mulf : (⟨S16x512x8192, .f32⟩ : BufTy).Contents (Elt F) → (⟨S16x512x8192, .f32⟩ : BufTy).Contents (Elt F) → (⟨S16x512x8192, .f32⟩ : BufTy).Contents (Elt F)),
    unary main_v6 main_v12 (broadcastInDim S16x512x8192 ![0, 1, 2] bcast_S16x512x1_S16x512x8192_0_1_2 : (⟨S16x512x1, .f32⟩ : BufTy).Contents (Elt F) → (⟨S16x512x8192, .f32⟩ : BufTy).Contents (Elt F)),
    binary main_v12 main_v11 main_v13 (subf : (⟨S16x512x8192, .f32⟩ : BufTy).Contents (Elt F) → (⟨S16x512x8192, .f32⟩ : BufTy).Contents (Elt F) → (⟨S16x512x8192, .f32⟩ : BufTy).Contents (Elt F)),
    unary main_v8 main_v14 (broadcastInDim S1x1x8192 ![2] bcast_S8192_S1x1x8192_2 : (⟨S8192, .f32⟩ : BufTy).Contents (Elt F) → (⟨S1x1x8192, .f32⟩ : BufTy).Contents (Elt F)),
    unary main_v14 main_v15 (broadcastInDim S16x512x8192 ![0, 1, 2] bcast_S1x1x8192_S16x512x8192_0_1_2 : (⟨S1x1x8192, .f32⟩ : BufTy).Contents (Elt F) → (⟨S16x512x8192, .f32⟩ : BufTy).Contents (Elt F)),
    binary main_v13 main_v15 main_v16 (addf : (⟨S16x512x8192, .f32⟩ : BufTy).Contents (Elt F) → (⟨S16x512x8192, .f32⟩ : BufTy).Contents (Elt F) → (⟨S16x512x8192, .f32⟩ : BufTy).Contents (Elt F)),
    TRef.nullary (TRef.of (T := ⟨S16x512x8192, .i32⟩) main_call0_v0) (iotaInDim S16x512x8192 32 2),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16x512x8192, .f32⟩) main_v16) (TRef.of (T := ⟨S16x512x8192, .i32⟩) main_call0_v0) (TRef.of (T := ⟨S_, .f32⟩) main_call0_cst) (TRef.of (T := ⟨S_, .i32⟩) main_call0_c) (TRef.of (T := ⟨S16x512, .f32⟩) main_call0_v1_0) (fun x y u v j => (Host.argReduce reducer_argmin_f32_i32 x y u v reducesTo_S16x512x8192_S16x512_d2 h_S_ j).1),
    TRef.quaternary (TRef.of (T := ⟨S16x512x8192, .f32⟩) main_v16) (TRef.of (T := ⟨S16x512x8192, .i32⟩) main_call0_v0) (TRef.of (T := ⟨S_, .f32⟩) main_call0_cst) (TRef.of (T := ⟨S_, .i32⟩) main_call0_c) (TRef.of (T := ⟨S16x512, .i32⟩) main_v17) (fun x y u v j => (Host.argReduce reducer_argmin_f32_i32 x y u v reducesTo_S16x512x8192_S16x512_d2 h_S_ j).2),
    TRef.nullary (TRef.of (T := ⟨S_, .i32⟩) main_call1_c) (constantI S_ 32 0#32),
    TRef.unary (TRef.of (T := ⟨S_, .i32⟩) main_call1_c) (TRef.of (T := ⟨S16x512, .i32⟩) main_call1_v0) (broadcastInDim S16x512 ![] bcast_S_S16x512),
    TRef.binary (TRef.of (T := ⟨S16x512, .i32⟩) main_v17) (TRef.of (T := ⟨S16x512, .i32⟩) main_call1_v0) (TRef.of (T := ⟨S16x512, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S16x512, .i32⟩) main_call1_v2) (broadcastInDim S16x512 ![] bcast_S_S16x512),
    TRef.binary (TRef.of (T := ⟨S16x512, .i32⟩) main_v17) (TRef.of (T := ⟨S16x512, .i32⟩) main_call1_v2) (TRef.of (T := ⟨S16x512, .i32⟩) main_call1_v3) addi,
    TRef.ternary (TRef.of (T := ⟨S16x512, .i1⟩) main_call1_v1) (TRef.of (T := ⟨S16x512, .i32⟩) main_call1_v3) (TRef.of (T := ⟨S16x512, .i32⟩) main_v17) (TRef.of (T := ⟨S16x512, .i32⟩) main_call1_v4) select,
    TRef.unary (TRef.of (T := ⟨S16x512, .i32⟩) main_call1_v4) (TRef.of (T := ⟨S16x512x1, .i32⟩) main_call1_v5) (broadcastInDim S16x512x1 ![0, 1] bcast_S16x512_S16x512x1_0_1),
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S16x512x1, .i32⟩) main_call1_v6) (broadcastInDim S16x512x1 ![] bcast_S_S16x512x1),
    TRef.binary (TRef.of (T := ⟨S16x512x1, .i32⟩) main_call1_v5) (TRef.of (T := ⟨S16x512x1, .i32⟩) main_call1_v6) (TRef.of (T := ⟨S16x512x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16x512x1, .i32⟩) main_call1_v9) (broadcastInDim S16x512x1 ![0, 1, 2] bcast_S1x1x1_S16x512x1_0_1_2),
    TRef.binary (TRef.of (T := ⟨S16x512x1, .i32⟩) main_call1_v5) (TRef.of (T := ⟨S16x512x1, .i32⟩) main_call1_v9) (TRef.of (T := ⟨S16x512x1, .i1⟩) main_call1_v10) (cmpi .sle),
    TRef.binary (TRef.of (T := ⟨S16x512x1, .i1⟩) main_call1_v7) (TRef.of (T := ⟨S16x512x1, .i1⟩) main_call1_v10) (TRef.of (T := ⟨S16x512x1, .i1⟩) main_call1_v11) andi,
    TRef.nullary (TRef.of (T := ⟨S_, .i1⟩) main_call1_c_3) (constantI S_ 1 1#1),
    TRef.binary (TRef.of (T := ⟨S16x512x1, .i1⟩) main_call1_v11) (TRef.of (T := ⟨S_, .i1⟩) main_call1_c_3) (TRef.of (T := ⟨S16x512, .i1⟩) main_call1_v12) (fun x v => Host.reduce IntOp.andi x v reducesTo_S16x512x1_S16x512_d2 h_S_),
    TRef.binary (TRef.of (T := ⟨S8192x256, .f32⟩) main_arg3) (TRef.of (T := ⟨S16x512x1, .i32⟩) main_call1_v5) (TRef.of (T := ⟨S16x512x256, .f32⟩) main_call1_v13) (fun x i => Host.gather gather_S8192x256_S16x512x1_S16x512x256_2_0_n_n_0_2_1256 x i),
    TRef.unary (TRef.of (T := ⟨S16x512, .i1⟩) main_call1_v12) (TRef.of (T := ⟨S16x512x256, .i1⟩) main_call1_v14) (broadcastInDim S16x512x256 ![0, 1] bcast_S16x512_S16x512x256_0_1),
    TRef.nullary (TRef.of (T := ⟨S_, .f32⟩) main_call1_cst) (constant S_ .f32 0x7FC00000#32),
    TRef.unary (TRef.of (T := ⟨S_, .f32⟩) main_call1_cst) (TRef.of (T := ⟨S16x512x256, .f32⟩) main_call1_v15) (broadcastInDim S16x512x256 ![] bcast_S_S16x512x256),
    TRef.ternary (TRef.of (T := ⟨S16x512x256, .i1⟩) main_call1_v14) (TRef.of (T := ⟨S16x512x256, .f32⟩) main_call1_v13) (TRef.of (T := ⟨S16x512x256, .f32⟩) main_call1_v15) (TRef.of (T := ⟨S16x512x256, .f32⟩) main_v18) select,
    binary main_v18 main_v3 main_v19 (subf : (⟨S16x512x256, .f32⟩ : BufTy).Contents (Elt F) → (⟨S16x512x256, .f32⟩ : BufTy).Contents (Elt F) → (⟨S16x512x256, .f32⟩ : BufTy).Contents (Elt F)),
    binary main_v19 main_v19 main_v20 (mulf : (⟨S16x512x256, .f32⟩ : BufTy).Contents (Elt F) → (⟨S16x512x256, .f32⟩ : BufTy).Contents (Elt F) → (⟨S16x512x256, .f32⟩ : BufTy).Contents (Elt F)),
    nullary main_cst_2 (constant S_ .f32 0x00000000#32),
    binary main_v20 main_cst_2 main_v21 ((fun x v => Host.reduceAdd x v reducesTo_S16x512x256_S_d0_1_2 h_S_) : (⟨S16x512x256, .f32⟩ : BufTy).Contents (Elt F) → (⟨S_, .f32⟩ : BufTy).Contents (Elt F) → (⟨S_, .f32⟩ : BufTy).Contents (Elt F)),
    nullary main_cst_3 (constant S_ .f32 0x4A000000#32),
    binary main_v21 main_cst_3 main_v22 (Host.divf : (⟨S_, .f32⟩ : BufTy).Contents (Elt F) → (⟨S_, .f32⟩ : BufTy).Contents (Elt F) → (⟨S_, .f32⟩ : BufTy).Contents (Elt F)),
    binary main_v18 main_v3 main_v23 (subf : (⟨S16x512x256, .f32⟩ : BufTy).Contents (Elt F) → (⟨S16x512x256, .f32⟩ : BufTy).Contents (Elt F) → (⟨S16x512x256, .f32⟩ : BufTy).Contents (Elt F)),
    binary main_v3 main_v23 main_v24 (addf : (⟨S16x512x256, .f32⟩ : BufTy).Contents (Elt F) → (⟨S16x512x256, .f32⟩ : BufTy).Contents (Elt F) → (⟨S16x512x256, .f32⟩ : BufTy).Contents (Elt F)),
    unary main_arg4 main_v25 (broadcastInDim S16x512x256 ![0, 1, 2] bcast_S1x512x256_S16x512x256_0_1_2 : (⟨S1x512x256, .f32⟩ : BufTy).Contents (Elt F) → (⟨S16x512x256, .f32⟩ : BufTy).Contents (Elt F)),
    binary main_v24 main_v25 main_v26 (addf : (⟨S16x512x256, .f32⟩ : BufTy).Contents (Elt F) → (⟨S16x512x256, .f32⟩ : BufTy).Contents (Elt F) → (⟨S16x512x256, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., binary_bufs_sub .., nullary_bufs_sub .., binary_bufs_sub .., unary_bufs_sub .., binary_bufs_sub .., nullary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., nullary_bufs_sub .., binary_bufs_sub .., binary_bufs_sub .., binary_bufs_sub .., unary_bufs_sub .., binary_bufs_sub ..⟩

/-- The projection of the rows. -/
def zV (x : FVec F S16x512x129 .f32) (W : FVec F S256x129 .f32) (b : FVec F S256 .f32) : FVec F S16x512x256 .f32 :=
  addf (Host.dotGeneral dot_S16x512x129_S256x129_S16x512x256_2_1_01_0_n_n none x W)
    (broadcastInDim S16x512x256 ![0, 1, 2] bcast_S1x1x256_S16x512x256_0_1_2 (broadcastInDim S1x1x256 ![2] bcast_S256_S1x1x256_2 b))

/-- The distances of the rows from the codebook's. -/
def distV (z : FVec F S16x512x256 .f32) (C : FVec F S8192x256 .f32) : FVec F S16x512x8192 .f32 :=
  addf
    (subf (broadcastInDim S16x512x8192 ![0, 1, 2] bcast_S16x512x1_S16x512x8192_0_1_2 (broadcastInDim S16x512x1 ![0, 1] bcast_S16x512_S16x512x1_0_1
        (Host.reduceAdd (mulf z z) (constant S_ .f32 0x00000000#32) reducesTo_S16x512x256_S16x512_d2 h_S_)))
      (mulf (broadcastInDim S16x512x8192 ![] bcast_S_S16x512x8192 (constant S_ .f32 0x40000000#32))
        (Host.dotGeneral dot_S16x512x256_S8192x256_S16x512x8192_2_1_01_0_n_n none z C)))
    (broadcastInDim S16x512x8192 ![0, 1, 2] bcast_S1x1x8192_S16x512x8192_0_1_2 (broadcastInDim S1x1x8192 ![2] bcast_S8192_S1x1x8192_2
      (Host.reduceAdd (mulf C C) (constant S_ .f32 0x00000000#32) reducesTo_S8192x256_S8192_d1 h_S_)))

/-- The index of each row's nearest codebook row. -/
def idxV (D : FVec F S16x512x8192 .f32) : IVec S16x512 32 := fun j =>
  (Host.argReduce reducer_argmin_f32_i32 D (iotaInDim S16x512x8192 32 2) (constant S_ .f32 0x7F800000#32) (constantI S_ 32 0#32) reducesTo_S16x512x8192_S16x512_d2 h_S_ j).2

/-- The mean square error. -/
def lossV (q z : FVec F S16x512x256 .f32) : FVec F S_ .f32 :=
  Host.divf (Host.reduceAdd (mulf (subf q z) (subf q z)) (constant S_ .f32 0x00000000#32) reducesTo_S16x512x256_S_d0_1_2 h_S_) (constant S_ .f32 0x4A000000#32)

/-- The quantised rows, passed straight through, with the position rows added. -/
def outV (q z : FVec F S16x512x256 .f32) (P : FVec F S1x512x256 .f32) : FVec F S16x512x256 .f32 :=
  addf (addf z (subf q z)) (broadcastInDim S16x512x256 ![0, 1, 2] bcast_S1x512x256_S16x512x256_0_1_2 P)

/-- The codebook's rows the indices name. -/
def qV (z : FVec F S16x512x256 .f32) (C : FVec F S8192x256 .f32) : FVec F S16x512x256 .f32 :=
  Cert.Proof.RowsRef.take (F := F) C (idxV (distV z C))

set_option maxHeartbeats 4000000 in
set_option maxRecDepth 16384 in
/-- Every run leaves each result at its function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v26)
          = outV (qV (zV (m ((c.tc : Thread nD τ).loc main_arg0)) (m ((c.tc : Thread nD τ).loc main_arg1)) (m ((c.tc : Thread nD τ).loc main_arg2))) (m ((c.tc : Thread nD τ).loc main_arg3)))
              (zV (m ((c.tc : Thread nD τ).loc main_arg0)) (m ((c.tc : Thread nD τ).loc main_arg1)) (m ((c.tc : Thread nD τ).loc main_arg2))) (m ((c.tc : Thread nD τ).loc main_arg4))
        ∧ r.2.mem ((c.tc : Thread nD τ).loc main_v22)
          = lossV (qV (zV (m ((c.tc : Thread nD τ).loc main_arg0)) (m ((c.tc : Thread nD τ).loc main_arg1)) (m ((c.tc : Thread nD τ).loc main_arg2))) (m ((c.tc : Thread nD τ).loc main_arg3)))
              (zV (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨⟨(h c main_v26).trans (by simp only [ops, TRef.binary, TRef.nullary, TRef.ternary, TRef.unary, TRef.quaternary, TRef.toBuf, TRef.ofBuf, cast_eq]; after_results <;> rfl),
      (h c main_v22).trans (by simp only [ops, TRef.binary, TRef.nullary, TRef.ternary, TRef.unary, TRef.quaternary, TRef.toBuf, TRef.ofBuf, cast_eq]; after_results <;> rfl)⟩,
      (h c main_arg0).trans (by simp only [ops, TRef.binary, TRef.nullary, TRef.ternary, TRef.unary, TRef.quaternary, TRef.toBuf, TRef.ofBuf, cast_eq]; after_results <;> rfl),
      (h c main_arg1).trans (by simp only [ops, TRef.binary, TRef.nullary, TRef.ternary, TRef.unary, TRef.quaternary, TRef.toBuf, TRef.ofBuf, cast_eq]; after_results <;> rfl),
      (h c main_arg2).trans (by simp only [ops, TRef.binary, TRef.nullary, TRef.ternary, TRef.unary, TRef.quaternary, TRef.toBuf, TRef.ofBuf, cast_eq]; after_results <;> rfl),
      (h c main_arg3).trans (by simp only [ops, TRef.binary, TRef.nullary, TRef.ternary, TRef.unary, TRef.quaternary, TRef.toBuf, TRef.ofBuf, cast_eq]; after_results <;> rfl),
      (h c main_arg4).trans (by simp only [ops, TRef.binary, TRef.nullary, TRef.ternary, TRef.unary, TRef.quaternary, TRef.toBuf, TRef.ofBuf, cast_eq]; after_results <;> rfl)⟩)
    (run_seq scopedRefs_eq scopedSems_eq defs main (fun _ => ops) main_eq (fun _ => ops_sub) m ρ)

/-- The reference runs and leaves its arguments. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (run (F := Ideal) m ρ)

end Cert.Proof.WholeRef

end
-- ==== Proof.WholeNum.lean ====
/-
  The numbers of the whole kernel: finite sums of reals as extended reals, the least place of a row of reals, the two ways
  the programs find it — a minimum of column numbers, and a fold of value-and-index pairs — and what the precondition says.
-/
module

public import proofs.«01_k».proof.Proof.WholeRef
public import proofs.«01_k».proof.Proof.Gen.Pre_kernel_finite
public import Idealize.ShloMosaic.PureOps.Ideal.Laws
public import Idealize.ShloMosaic.PureOps.Reduce
public import Idealize.ShloMosaic.Lib.ValueIdx

@[expose] public section

noncomputable section

namespace Cert.Proof.WholeNum

open Idealize.ShloMosaic
open Idealize.ShloMosaic.ValueIdx (select_one select_zero)
open scoped BigOperators

/-! ## Sums -/

theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- Splitting a sum of squares of differences, as both programs take it. -/
theorem dist_split {ι : Type} (s : Finset ι) (z c : ι → ℝ) :
    (∑ i ∈ s, z i * z i + ∑ i ∈ s, -2 * z i * c i) + ∑ i ∈ s, c i * c i = ∑ i ∈ s, (c i - z i) * (c i - z i) := by
  rw [← Finset.sum_add_distrib, ← Finset.sum_add_distrib]
  exact Finset.sum_congr rfl fun i _ => by ring
theorem dist_split' {ι : Type} (s : Finset ι) (z c : ι → ℝ) :
    (∑ i ∈ s, z i * z i - 2 * ∑ i ∈ s, z i * c i) + ∑ i ∈ s, c i * c i = ∑ i ∈ s, (c i - z i) * (c i - z i) := by
  rw [Finset.mul_sum, ← Finset.sum_sub_distrib, ← Finset.sum_add_distrib]
  exact Finset.sum_congr rfl fun i _ => by ring

/-! ## The least place -/

/-- `k` is the first place where `f` is least. -/
def Least {n : ℕ} (f : Fin n → ℝ) (k : Fin n) : Prop := (∀ i, f k ≤ f i) ∧ ∀ i, i < k → f k < f i

theorem exists_least (f : Fin 8192 → ℝ) : ∃ k, Least f k := by
  classical
  let S := Finset.univ.filter fun i : Fin 8192 => ∀ j, f i ≤ f j
  obtain ⟨a, -, ha⟩ := Finset.exists_min_image Finset.univ f ⟨(0 : Fin 8192), Finset.mem_univ _⟩
  have hS : S.Nonempty := ⟨a, Finset.mem_filter.2 ⟨Finset.mem_univ _, fun j => ha j (Finset.mem_univ _)⟩⟩
  have hk := (Finset.mem_filter.1 (S.min'_mem hS)).2
  refine ⟨S.min' hS, hk, fun i hi => lt_of_not_ge fun h => ?_⟩
  have : i ∈ S := Finset.mem_filter.2 ⟨Finset.mem_univ _, fun j => h.trans (hk j)⟩
  exact absurd (S.min'_le i this) (not_le.2 hi)

/-- The first least place. -/
def least (f : Fin 8192 → ℝ) : Fin 8192 := (exists_least f).choose
theorem least_spec (f : Fin 8192 → ℝ) : Least f (least f) := (exists_least f).choose_spec

/-- A minimum over all places, from the top, is a value that lies below all. -/
theorem fold_min_eq {ι : Type} [Fintype ι] (g : ι → EReal) (k : ι) (h : ∀ i, g k ≤ g i) :
    (Finset.univ : Finset ι).fold min ⊤ g = g k := by
  refine le_antisymm ((Finset.fold_min_le _).2 (Or.inr ⟨k, Finset.mem_univ _, le_refl _⟩)) ((Finset.le_fold_min _).2 ⟨le_top, fun i _ => h i⟩)

theorem fold_min_row (f : Fin 8192 → ℝ) : (Finset.univ : Finset (Fin 8192)).fold min ⊤ (fun i => (f i : EReal)) = (f (least f) : EReal) :=
  fold_min_eq (fun i => (f i : EReal)) (least f) fun i => EReal.coe_le_coe_iff.2 ((least_spec f).1 i)

/-- The column numbers where the row attains its least value, the height elsewhere. -/
theorem fold_min_col (f : Fin 8192 → ℝ) :
    (Finset.univ : Finset (Fin 8192)).fold min ⊤ (fun i => if (f i : EReal) = (f (least f) : EReal) then (((i.val : ℕ) : ℝ) : EReal) else ((8192 : ℝ) : EReal))
      = (((least f).val : ℝ) : EReal) := by
  have hs := least_spec f
  refine (fold_min_eq _ (least f) fun i => ?_).trans (if_pos rfl)
  rw [if_pos rfl]
  by_cases h : (f i : EReal) = (f (least f) : EReal)
  · rw [if_pos h]
    have h' : f i = f (least f) := EReal.coe_eq_coe_iff.1 h
    refine EReal.coe_le_coe_iff.2 (Nat.cast_le.2 (le_of_not_gt fun hlt => ?_))
    exact absurd (hs.2 i hlt) (by rw [h']; exact lt_irrefl _)
  · rw [if_neg h]
    refine EReal.coe_le_coe_iff.2 ?_
    have : ((least f).val : ℝ) ≤ ((8192 : ℕ) : ℝ) := Nat.cast_le.2 (le_of_lt (least f).isLt)
    simpa using this

/-- The least column where a row attains its minimum is a column, whatever the row. -/
theorem fold_min_some (D : Fin 8192 → EReal) : ∃ k : Fin 8192,
    (Finset.univ : Finset (Fin 8192)).fold min ⊤ (fun i => if D i = (Finset.univ : Finset (Fin 8192)).fold min ⊤ D then (((i.val : ℕ) : ℝ) : EReal) else ((8192 : ℝ) : EReal))
      = ((k.val : ℝ) : EReal) := by
  obtain ⟨k0, h0⟩ := Finite.exists_min D
  rw [fold_min_eq D k0 h0]
  obtain ⟨k1, h1⟩ := Finite.exists_min (fun i : Fin 8192 => if D i = D k0 then (((i.val : ℕ) : ℝ) : EReal) else ((8192 : ℝ) : EReal))
  refine ⟨k1, (fold_min_eq _ k1 h1).trans ?_⟩
  by_cases h : D k1 = D k0
  · exact if_pos h
  · have h2 := h1 k0
    rw [if_neg h, if_pos rfl] at h2
    have h3 : (8192 : ℝ) ≤ ((k0.val : ℕ) : ℝ) := EReal.coe_le_coe_iff.1 h2
    have h4 : (8192 : ℕ) ≤ k0.val := by exact_mod_cast h3
    exact absurd k0.isLt (not_lt.2 h4)

/-- A small number, read back from its value. -/
theorem fptosi_nat (k : ℕ) (hk : k < 8192) : Ideal.fptosi 32 ((k : ℝ) : EReal) = BitVec.ofNat 32 k := by
  rw [Ideal.fptosi, Ideal.toIntClamped_coe, if_pos (Nat.cast_nonneg k), Int.floor_natCast]
  have h1 : min (((2 ^ (32 - 1) : ℕ) : ℤ) - 1) ((k : ℕ) : ℤ) = (k : ℤ) := min_eq_right (by norm_num; omega)
  have h2 : max (-((2 ^ (32 - 1) : ℕ) : ℤ)) ((k : ℕ) : ℤ) = (k : ℤ) := max_eq_right (by norm_num)
  rw [h1, h2]
  exact BitVec.ofInt_natCast ..

/-! ## The reference's fold -/

open Cert.ReferenceIdeal (reducer_argmin_f32_i32)

theorem ofBool_decide_eq_one (p : Prop) [Decidable p] : BitVec.ofBool (decide p) = 1#1 ↔ p := by
  by_cases h : p <;> simp [h]

/-- The reducer, with its bits read as conditions. -/
theorem reducer_eq (a b : Ideal .f32 × BitVec 32) :
    reducer_argmin_f32_i32 (F := Ideal) a b
      = (if (a.1 : EReal) < b.1 then a.1 else b.1, if (a.1 : EReal) < b.1 ∨ ((a.1 : EReal) = b.1 ∧ a.2.slt b.2 = true) then a.2 else b.2) := by
  obtain ⟨x, i⟩ := a; obtain ⟨y, j⟩ := b
  by_cases h1 : (x : EReal) < y <;> by_cases h2 : (x : EReal) = y <;> by_cases h3 : i.slt j = true <;>
    simp [reducer_argmin_f32_i32, Ideal.cmpf_def, Ideal.cmp, h1, h2, h3, IntOp.ori, IntOp.andi, IntOp.cmpi, Scalar.select]

theorem slt_small (i j : ℕ) (hi : i < 8192) (hj : j < 8192) : (BitVec.ofNat 32 i).slt (BitVec.ofNat 32 j) = true ↔ i < j := by
  rw [BitVec.slt_eq_decide, RowsRef.toInt_small _ (by rw [BitVec.toNat_ofNat]; omega), RowsRef.toInt_small _ (by rw [BitVec.toNat_ofNat]; omega),
    BitVec.toNat_ofNat, BitVec.toNat_ofNat, decide_eq_true_iff]
  omega

/-- A pair of the fold: the starting one, or a place's value with its number. -/
def pair (f : Fin 8192 → ℝ) (i : Fin 8192) : Ideal .f32 × BitVec 32 := ((f i : EReal), BitVec.ofNat 32 i.val)

theorem red_start (f : Fin 8192 → ℝ) (i : Fin 8192) : reducer_argmin_f32_i32 (F := Ideal) ((⊤ : EReal), 0#32) (pair f i) = pair f i := by
  rw [reducer_eq]
  have h1 : ¬ ((⊤ : EReal) < (f i : EReal)) := not_top_lt
  have h2 : ¬ ((⊤ : EReal) = (f i : EReal)) := (EReal.coe_ne_top _).symm
  simp [pair, h1, h2]

theorem red_pair (f : Fin 8192 → ℝ) (i j : Fin 8192) :
    reducer_argmin_f32_i32 (F := Ideal) (pair f i) (pair f j) = if f i < f j ∨ (f i = f j ∧ i < j) then pair f i else pair f j := by
  rw [reducer_eq]
  have e1 : ((f i : EReal) < (f j : EReal)) ↔ f i < f j := EReal.coe_lt_coe_iff
  have e2 : ((f i : EReal) = (f j : EReal)) ↔ f i = f j := EReal.coe_eq_coe_iff
  have e3 := slt_small i.val j.val i.isLt j.isLt
  have e4 : (i.val < j.val) ↔ i < j := Iff.rfl
  simp only [pair, e1, e2, e3, e4]
  by_cases h1 : f i < f j
  · simp [h1]
  · by_cases h2 : f i = f j
    · by_cases h3 : i < j <;> simp [h2, h3]
    · simp [h1, h2]

theorem fold_pairs (f : Fin 8192 → ℝ) (l : List (Ideal .f32 × BitVec 32)) (hl : ∀ p ∈ l, ∃ i, p = pair f i)
    (acc : Ideal .f32 × BitVec 32) (ha : acc = ((⊤ : EReal), 0#32) ∨ ∃ i, acc = pair f i) (hm : acc = pair f (least f) ∨ pair f (least f) ∈ l) :
    l.foldl (reducer_argmin_f32_i32 (F := Ideal)) acc = pair f (least f) := by
  have hs := least_spec f
  induction l generalizing acc with
  | nil => exact hm.resolve_right List.not_mem_nil
  | cons p l ih =>
    rw [List.foldl_cons]
    obtain ⟨j, rfl⟩ := hl p List.mem_cons_self
    have hl' : ∀ p ∈ l, ∃ i, p = pair f i := fun p hp => hl p (List.mem_cons_of_mem _ hp)
    rcases ha with rfl | ⟨i, rfl⟩
    · rw [red_start]
      refine ih hl' _ (Or.inr ⟨j, rfl⟩) ?_
      rcases hm with h | h
      · exact absurd (congrArg Prod.fst h) (EReal.coe_ne_top _).symm
      · rcases List.mem_cons.1 h with h | h
        · exact Or.inl h.symm
        · exact Or.inr h
    · rw [red_pair]
      refine ih hl' _ ?_ ?_
      · by_cases h : f i < f j ∨ (f i = f j ∧ i < j)
        · rw [if_pos h]; exact Or.inr ⟨i, rfl⟩
        · rw [if_neg h]; exact Or.inr ⟨j, rfl⟩
      · have inj : ∀ a b : Fin 8192, pair f a = pair f b → a = b := fun a b h => by
          have h2 : BitVec.ofNat 32 a.val = BitVec.ofNat 32 b.val := congrArg Prod.snd h
          have h3 := congrArg BitVec.toNat h2
          rw [BitVec.toNat_ofNat, BitVec.toNat_ofNat] at h3
          exact Fin.ext (by omega)
        have key : ∀ a, a ≠ least f → f (least f) < f a ∨ (f (least f) = f a ∧ least f < a) := fun a hne => by
          rcases lt_trichotomy a (least f) with h | h | h
          · exact Or.inl (hs.2 a h)
          · exact absurd h hne
          · rcases lt_or_eq_of_le (hs.1 a) with h' | h'
            · exact Or.inl h'
            · exact Or.inr ⟨h', h⟩
        by_cases hi : i = least f
        · subst hi
          by_cases hj : j = least f
          · rw [hj, ite_self]; exact Or.inl rfl
          · rw [if_pos (key j hj)]; exact Or.inl rfl
        · rcases hm with h | h
          · exact absurd (inj _ _ h) hi
          · rcases List.mem_cons.1 h with h | h
            · have hj := inj _ _ h
              subst hj
              refine Or.inl (if_neg fun hc => ?_)
              rcases key i hi with h' | ⟨h', h''⟩
              · rcases hc with hc | ⟨hc, -⟩
                · exact lt_asymm h' hc
                · exact absurd hc.symm (ne_of_lt h')
              · rcases hc with hc | ⟨-, hc⟩
                · exact absurd h' (ne_of_gt hc)
                · exact lt_asymm h'' hc
            · exact Or.inr h

/-- The pairs a fold over one axis meets. -/
theorem mem_fiber {α β : Type} {s t : Shape} {a : Fin s.rank} (h' : s.ReducesTo [a] t) (h : s.Reduces [a] t) (x : s.Idx → α) (y : s.Idx → β) (j : t.Idx) (p : α × β) :
    p ∈ Host.argReduceFiber x y h' j ↔ ∃ k : Fin (s.size a), p = (x (h.lift j k), y (h.lift j k)) := by
  classical
  unfold Host.argReduceFiber
  rw [List.mem_map]
  constructor
  · rintro ⟨n, hn, rfl⟩
    have hd := of_decide_eq_true (List.mem_filter.1 hn).2
    rw [Shape.ReducesTo.drop_eq_drop _ h] at hd
    have hi : s.rowMajor.symm n ∈ Finset.univ.filter (fun i => h.drop i = j) := Finset.mem_filter.2 ⟨Finset.mem_univ _, hd⟩
    rw [h.filter_drop_eq_image_lift] at hi
    obtain ⟨k, -, hk⟩ := Finset.mem_image.1 hi
    exact ⟨k, by rw [hk]⟩
  · rintro ⟨k, rfl⟩
    refine ⟨s.rowMajor (h.lift j k), List.mem_filter.2 ⟨List.mem_finRange _, decide_eq_true ?_⟩, ?_⟩
    · rw [Equiv.symm_apply_apply, Shape.ReducesTo.drop_eq_drop _ h]
      exact h.drop_lift _ _
    · rw [Equiv.symm_apply_apply]

/-- The fold over one axis of a row of reals ends at its first least place. -/
theorem argfold_apply {s t u : Shape} {a : Fin s.rank} (h' : s.ReducesTo [a] t) (h : s.Reduces [a] t) (hu : 0 < u.numel) (x : FVec Ideal s .f32) (y : IVec s 32)
    (v : FVec Ideal u .f32) (w : IVec u 32) (hv : v (Shape.Idx.first hu) = (⊤ : EReal)) (hw : w (Shape.Idx.first hu) = 0#32) (j : t.Idx) (f : Fin 8192 → ℝ)
    (hx : ∀ k, ∃ i, (x (h.lift j k), y (h.lift j k)) = pair f i) (hx' : ∀ i, ∃ k, pair f i = (x (h.lift j k), y (h.lift j k))) :
    Host.argReduce (reducer_argmin_f32_i32 (F := Ideal)) x y v w h' hu j = pair f (least f) := by
  rw [Ideal.argReduce_eq_reduce2, Host.reduce2_eq_foldl_fiber, hv, hw]
  refine fold_pairs f _ (fun p hp => ?_) _ (Or.inl rfl) (Or.inr ((mem_fiber h' h x y j _).2 (hx' _)))
  obtain ⟨k, rfl⟩ := (mem_fiber h' h x y j _).1 hp
  exact hx k

/-- The indices a fold over one axis leaves. -/
theorem argfold_snd {s t u : Shape} {a : Fin s.rank} (h' : s.ReducesTo [a] t) (h : s.Reduces [a] t) (hu : 0 < u.numel) (x : FVec Ideal s .f32) (y : IVec s 32)
    (v : FVec Ideal u .f32) (w : IVec u 32) (hv : v (Shape.Idx.first hu) = (⊤ : EReal)) (hw : w (Shape.Idx.first hu) = 0#32) (j : t.Idx) (f : Fin 8192 → ℝ)
    (hx : ∀ k, ∃ i, (x (h.lift j k), y (h.lift j k)) = pair f i) (hx' : ∀ i, ∃ k, pair f i = (x (h.lift j k), y (h.lift j k)))
    (g : IVec t 32) (hg : g = fun j => (Host.argReduce (reducer_argmin_f32_i32 (F := Ideal)) x y v w h' hu j).2) :
    g j = BitVec.ofNat 32 (least f).val := by
  subst hg
  exact congrArg Prod.snd (argfold_apply h' h hu x y v w hv hw j f hx hx')

theorem ofBits_inf : Ideal.ofBits .f32 0x7F800000#32 = (⊤ : EReal) := by simp [Ideal.ofBits, Ideal.ieee]

theorem reduces_row : Shape.Reduces Cert.ReferenceIdeal.S16x512x8192 [2] Cert.ReferenceIdeal.S16x512 := by decide
theorem lift_row (b : Fin 16) (t : Fin 512) (k : Fin 8192) :
    reduces_row.lift (ix2 (n0 := 16) (n1 := 512) b t) k = ix3 (n0 := 16) (n1 := 512) (n2 := 8192) b t k := by
  funext a; refine Fin.ext ?_
  match a with
  | ⟨0, _⟩ => rfl
  | ⟨1, _⟩ => rfl
  | ⟨2, _⟩ => rfl

open Cert.ReferenceIdeal in
/-- The reference's index of a row of reals is its first least place. -/
theorem idxV_apply (D : FVec Ideal S16x512x8192 .f32) (b : Fin 16) (t : Fin 512) (f : Fin 8192 → ℝ)
    (hD : ∀ k : Fin 8192, D (ix3 (n0 := 16) (n1 := 512) (n2 := 8192) b t k) = (f k : EReal)) :
    WholeRef.idxV D (ix2 (n0 := 16) (n1 := 512) b t) = BitVec.ofNat 32 (least f).val := by
  have key : ∀ k : Fin 8192, (D (reduces_row.lift (ix2 (n0 := 16) (n1 := 512) b t) k), iotaInDim S16x512x8192 32 2 (reduces_row.lift (ix2 (n0 := 16) (n1 := 512) b t) k)) = pair f k := fun k => by
    rw [lift_row, hD k]
    rfl
  exact argfold_snd Gen.reducesTo_S16x512x8192_S16x512_d2 reduces_row Gen.h_S_ D (iotaInDim S16x512x8192 32 2) (constant S_ .f32 0x7F800000#32) (constantI S_ 32 0#32)
    ofBits_inf rfl (ix2 (n0 := 16) (n1 := 512) b t) f (fun k => ⟨k, key k⟩) (fun k => ⟨k, (key k).symm⟩) (WholeRef.idxV D) rfl

/-! ## The precondition -/

/-- A value strictly below the top, both ways, is a real. -/
theorem real_of_abs (a : EReal) (h : max a (-a) < ⊤) : ∃ r : ℝ, a = (r : EReal) := by
  induction a with
  | bot => simp at h
  | top => simp at h
  | coe r => exact ⟨r, rfl⟩

theorem andi_one (a b : BitVec 1) (h : IntOp.andi a b = 1#1) : a = 1#1 ∧ b = 1#1 := by
  revert h; revert a b; decide

theorem foldl_andi {ι : Type} (x : ι → BitVec 1) (l : List ι) (a : BitVec 1) (h : l.foldl (fun r i => IntOp.andi r (x i)) a = 1#1) :
    a = 1#1 ∧ ∀ i ∈ l, x i = 1#1 := by
  induction l generalizing a with
  | nil => exact ⟨h, fun i hi => absurd hi List.not_mem_nil⟩
  | cons b l ih =>
    rw [List.foldl_cons] at h
    obtain ⟨h1, h2⟩ := ih _ h
    obtain ⟨h3, h4⟩ := andi_one _ _ h1
    exact ⟨h3, fun i hi => (List.mem_cons.1 hi).elim (fun e => e ▸ h4) (h2 i)⟩

/-- A conjunction over every axis that is 1 has every bit 1. -/
theorem all_of_reduce {s t u : Shape} {axes : List (Fin s.rank)} (x : s.Idx → BitVec 1) (v : u.Idx → BitVec 1) (h : s.ReducesTo axes t) (hu : 0 < u.numel)
    (ht : ∀ a b : t.Idx, a = b) (j : t.Idx) (e : Host.reduce IntOp.andi x v h hu j = 1#1) (i : s.Idx) : x i = 1#1 := by
  rw [Host.reduce_eq_foldl] at e
  have := (foldl_andi _ _ _ e).2 i (List.mem_filter.2 ⟨List.mem_map.2 ⟨s.rowMajor i, List.mem_finRange _, Equiv.symm_apply_apply _ _⟩, decide_eq_true (ht _ _)⟩)
  exact this

theorem reals_of_lt {s : Shape} (a : FVec Ideal s .f32) (h : ∀ i, cmpf .olt (Host.absf a) (fun _ => (Ideal.ofBits .f32 0x7F800000#32 : EReal)) i = 1#1) :
    ∃ r : s.Idx → ℝ, ∀ i, a i = (r i : EReal) := by
  have : ∀ i, ∃ r : ℝ, a i = (r : EReal) := fun i => real_of_abs _ (by
    have e := (ofBool_decide_eq_one _).1 (show BitVec.ofBool (decide (max (a i) (-(a i)) < Ideal.ofBits .f32 0x7F800000#32)) = 1#1 from h i)
    rwa [ofBits_inf] at e)
  exact ⟨fun i => (this i).choose, fun i => (this i).choose_spec⟩

open Cert.Pre_kernel_finite Cert.Pre_kernel_finite.Gen in
/-- What the precondition says: the rows, the weights, the bias and the codebook are arrays of reals. -/
theorem reals_of_pre (x : FVec Ideal S16x512x129 .f32) (W : FVec Ideal S256x129 .f32) (b : FVec Ideal S256 .f32) (C : FVec Ideal S8192x256 .f32)
    (P : FVec Ideal S1x512x256 .f32) (h : Cert.Pre_kernel_finite.fn (F := Ideal) x W b C P = fun _ => 1#1) :
    (∃ r : S16x512x129.Idx → ℝ, ∀ i, x i = (r i : EReal)) ∧ (∃ r : S256x129.Idx → ℝ, ∀ i, W i = (r i : EReal))
      ∧ (∃ r : S256.Idx → ℝ, ∀ i, b i = (r i : EReal)) ∧ ∃ r : S8192x256.Idx → ℝ, ∀ i, C i = (r i : EReal) := by
  have e : S_.Idx := fun a => a.elim0
  have hs : ∀ a b : S_.Idx, a = b := fun a b => funext fun i => i.elim0
  have h0 := congrFun h e
  obtain ⟨h123, h4⟩ := andi_one _ _ h0
  obtain ⟨h12, h3⟩ := andi_one _ _ h123
  obtain ⟨h1, h2⟩ := andi_one _ _ h12
  exact ⟨reals_of_lt x (fun i => all_of_reduce _ _ _ _ hs e h1 i), reals_of_lt W (fun i => all_of_reduce _ _ _ _ hs e h2 i),
    reals_of_lt b (fun i => all_of_reduce _ _ _ _ hs e h3 i), reals_of_lt C (fun i => all_of_reduce _ _ _ _ hs e h4 i)⟩

end Cert.Proof.WholeNum

end
-- ==== Proof.WholePay.lean ====
/-
  What a grid point of the TensorCore call computes when its blocks are arrays of reals: each row's distances from the
  codebook's rows, the least of them, its first place, and the sum of the least ones.
-/
module

public import proofs.«01_k».proof.Proof.WholeNum
public import proofs.«01_k».proof.Proof.Gen.KernelIdeal.Skeleton
public import Idealize.ShloMosaic.PureOps.Ideal.Laws
public import Idealize.ShloMosaic.Lib.MatmulPlain
public import Idealize.ShloMosaic.Lib.Pipeline.Value
public import Idealize.ShloMosaic.Lib.ValueIdx

@[expose] public section

set_option maxRecDepth 16384

noncomputable section

namespace Cert.Proof.WholePay

open Cert.KernelIdeal Cert.KernelIdeal.Gen
open Idealize.ShloMosaic
open Cert.Proof.WholeNum (coe_sum least)
open scoped BigOperators

/-! ## Literals -/

theorem lit_neg2 : (Ideal.ofBits .f32 0xC0000000#32 : EReal) = ((-2 : ℝ) : EReal) := by
  simp [Ideal.ofBits, Ideal.ieee, -EReal.coe_mul, -EReal.coe_neg]; norm_num
theorem lit_two : (Ideal.ofBits .f32 0x40000000#32 : EReal) = ((2 : ℝ) : EReal) := by
  simp [Ideal.ofBits, Ideal.ieee, -EReal.coe_mul, -EReal.coe_neg]; norm_num
theorem lit_8192 : (Ideal.ofBits .f32 0x46000000#32 : EReal) = ((8192 : ℝ) : EReal) := by
  simp [Ideal.ofBits, Ideal.ieee, -EReal.coe_mul, -EReal.coe_neg]; norm_num

/-! ## Sums and least values along a row -/

theorem red_256x256 : Shape.Reduces S256x256 [1] S256 := by decide
theorem red_256x8192 : Shape.Reduces S256x8192 [1] S256 := by decide
theorem red_8192x256 : Shape.Reduces S8192x256 [1] S8192 := by decide
theorem lift_256x256 (p : Fin 256) (k : Fin 256) : red_256x256.lift (ix1 (n0 := 256) p) k = ix2 (n0 := 256) (n1 := 256) p k := by
  funext a; refine Fin.ext ?_
  match a with
  | ⟨0, _⟩ => rfl
  | ⟨1, _⟩ => rfl
theorem lift_256x8192 (p : Fin 256) (k : Fin 8192) : red_256x8192.lift (ix1 (n0 := 256) p) k = ix2 (n0 := 256) (n1 := 8192) p k := by
  funext a; refine Fin.ext ?_
  match a with
  | ⟨0, _⟩ => rfl
  | ⟨1, _⟩ => rfl
theorem lift_8192x256 (p : Fin 8192) (k : Fin 256) : red_8192x256.lift (ix1 (n0 := 8192) p) k = ix2 (n0 := 8192) (n1 := 256) p k := by
  funext a; refine Fin.ext ?_
  match a with
  | ⟨0, _⟩ => rfl
  | ⟨1, _⟩ => rfl

theorem rowMin (x : FVec Ideal S256x8192 .f32) (h : Shape.Reduces S256x8192 [1] S256) (hφ hacc) (p : Fin 256) :
    multiReduction .minimumf [1] S256 x 0x7F800000#32 h hφ hacc (ix1 (n0 := 256) p)
      = (Finset.univ : Finset (Fin 8192)).fold min (⊤ : EReal) (fun k => x (ix2 (n0 := 256) (n1 := 8192) p k)) := by
  refine (multiReduction_minimumf_eq_fold _ _ _ _ _ _).trans ?_
  refine (h.fold_filter_drop_single _ _ x _).trans ?_
  rw [show (FloatOps.ofBits (F := Ideal) .f32 0x7F800000#32 : EReal) = ⊤ from WholeNum.ofBits_inf]
  exact congrArg (Finset.fold min (⊤ : EReal) · Finset.univ) (funext fun k => congrArg x (lift_256x8192 p k))

theorem rowSum (x : FVec Ideal S256x256 .f32) (h : Shape.Reduces S256x256 [1] S256) (hφ hacc) (p : Fin 256) :
    multiReduction .add [1] S256 x 0x00000000#32 h hφ hacc (ix1 (n0 := 256) p) = ∑ k : Fin 256, x (ix2 (n0 := 256) (n1 := 256) p k) :=
  (Ideal.multiReduction_add_single _ _ _ _ _ _).trans (Finset.sum_congr rfl fun k _ => congrArg x (lift_256x256 p k))
theorem rowSum' (x : FVec Ideal S8192x256 .f32) (h : Shape.Reduces S8192x256 [1] S8192) (hφ hacc) (p : Fin 8192) :
    multiReduction .add [1] S8192 x 0x00000000#32 h hφ hacc (ix1 (n0 := 8192) p) = ∑ k : Fin 256, x (ix2 (n0 := 8192) (n1 := 256) p k) :=
  (Ideal.multiReduction_add_single _ _ _ _ _ _).trans (Finset.sum_congr rfl fun k _ => congrArg x (lift_8192x256 p k))

theorem vix2 {m n : ℕ} (a : Fin m) (b : Fin n) : (ValueIdx.ix2 a b : (⟨2, ![m, n]⟩ : Shape).Idx) = ix2 a b := by
  funext i
  match i with
  | ⟨0, _⟩ => rfl
  | ⟨1, _⟩ => rfl

/-- A product with the right factor transposed, from zero. -/
theorem mm_apply {M K N : ℕ} (l r : FTy) (d : DotDims ⟨2, ![M, K]⟩ ⟨2, ![N, K]⟩ ⟨2, ![M, N]⟩) (hd : d = DotDims.transposedRhs M K N)
    (x : FVec Ideal ⟨2, ![M, K]⟩ l) (y : FVec Ideal ⟨2, ![N, K]⟩ r) (p : Fin M) (q : Fin N) :
    (matmul (F := Ideal) (φ₁ := l) (φ₂ := r) d none x y (constant ⟨2, ![M, N]⟩ .f32 0x00000000#32) (ix2 p q) : EReal) = ∑ k : Fin K, (x (ix2 p k) : EReal) * y (ix2 q k) := by
  subst hd
  rw [← vix2]
  refine (Ideal.matmul_transposedRhs_apply _ _ _ _ p q).trans ?_
  rw [show (constant ⟨2, ![M, N]⟩ .f32 0x00000000#32 : FVec Ideal ⟨2, ![M, N]⟩ .f32) (ValueIdx.ix2 p q) = (0 : EReal) from Ideal.ofBits_zero_f32, zero_add]
  simp only [vix2]

/-! ## The distances -/

/-- A row, projected. -/
def zR {ι : Type} (x : ι → Fin 129 → ℝ) (w : Fin 256 → Fin 129 → ℝ) (b : Fin 256 → ℝ) (p : ι) (d : Fin 256) : ℝ := (∑ f, x p f * w d f) + b d
/-- A projected row's distance from a codebook row. -/
def dR {ι : Type} (x : ι → Fin 129 → ℝ) (w : Fin 256 → Fin 129 → ℝ) (b : Fin 256 → ℝ) (c : Fin 8192 → Fin 256 → ℝ) (p : ι) (k : Fin 8192) : ℝ :=
  ∑ d, (c k d - zR x w b p d) * (c k d - zR x w b p d)

section Point
variable (x w : Fin 256 → Fin 129 → ℝ) (b : Fin 256 → ℝ) (c : Fin 8192 → Fin 256 → ℝ)

variable (X W : Vec Ideal S256x129 .f32) (B : Vec Ideal S1x256 .f32) (Ch : Vec Ideal S8192x256 .bf16) (C : Vec Ideal S8192x256 .f32)
variable (hX : ∀ p f, X (ix2 (n0 := 256) (n1 := 129) p f) = ((x p f : ℝ) : EReal)) (hW : ∀ d f, W (ix2 (n0 := 256) (n1 := 129) d f) = ((w d f : ℝ) : EReal))
variable (hB : ∀ d, B (ix2 (n0 := 1) (n1 := 256) 0 d) = ((b d : ℝ) : EReal)) (hCh : ∀ k d, Ch (ix2 (n0 := 8192) (n1 := 256) k d) = ((c k d : ℝ) : EReal))
variable (hC : ∀ k d, C (ix2 (n0 := 8192) (n1 := 256) k d) = ((c k d : ℝ) : EReal))

include hC in
theorem pay2_apply (k : Fin 8192) : k0_pay2 C (ix2 (n0 := 1) (n1 := 8192) 0 k) = ((∑ d, c k d * c k d : ℝ) : EReal) := by
  unfold k0_pay2
  simp only [shapeCast_self]
  refine (shapeCast_apply _ _ (ix2 (n0 := 1) (n1 := 8192) 0 k) (ix1 (n0 := 8192) k) (by rw [Shape.rowMajor_val_one, Shape.rowMajor_val_two]; simp)).trans ?_
  rw [coe_sum]
  refine (rowSum' _ _ _ _ k).trans (Finset.sum_congr rfl fun d _ => ?_)
  show C _ * C _ = _
  rw [hC, EReal.coe_mul]

/-- The projected rows, as the call computes them. -/
def zK : FVec Ideal S256x256 .f32 :=
  addf (matmul (F := Ideal) (φ₁ := .f32) (φ₂ := .f32) dot_S256x129_S256x129_S256x256_1_1_0_0_n_n none (shapeCast S256x129 X shapeCasts_S256x129_S256x129) W (constant S256x256 .f32 0x00000000#32))
    (broadcastTo S256x256 (shapeCast S1x256 B shapeCasts_S1x256_S1x256) broadcasts_S1x256_S256x256)

include hX hW hB in
theorem zK_apply (p d : Fin 256) : zK X W B (ix2 (n0 := 256) (n1 := 256) p d) = ((zR x w b p d : ℝ) : EReal) := by
  unfold zK
  simp only [shapeCast_self]
  show (matmul (F := Ideal) (φ₁ := .f32) (φ₂ := .f32) dot_S256x129_S256x129_S256x256_1_1_0_0_n_n none X W (constant S256x256 .f32 0x00000000#32) (ix2 (n0 := 256) (n1 := 256) p d) : EReal)
    + broadcastTo S256x256 B broadcasts_S1x256_S256x256 (ix2 (n0 := 256) (n1 := 256) p d) = _
  have h1 : (matmul (F := Ideal) (φ₁ := .f32) (φ₂ := .f32) dot_S256x129_S256x129_S256x256_1_1_0_0_n_n none X W (constant S256x256 .f32 0x00000000#32) (ix2 (n0 := 256) (n1 := 256) p d) : EReal)
      = ((∑ f, x p f * w d f : ℝ) : EReal) := by
    rw [coe_sum]
    refine (mm_apply (M := 256) (K := 129) (N := 256) .f32 .f32 _ rfl X W p d).trans (Finset.sum_congr rfl fun f _ => ?_)
    rw [EReal.coe_mul, ← hX, ← hW]
  have h2 : broadcastTo S256x256 B broadcasts_S1x256_S256x256 (ix2 (n0 := 256) (n1 := 256) p d) = ((b d : ℝ) : EReal) := by
    refine (broadcastTo_apply _ _ _ (ix2 (n0 := 1) (n1 := 256) 0 d) (fun a => ?_)).trans (hB d)
    match a with
    | ⟨0, _⟩ => rfl
    | ⟨1, _⟩ => rfl
  rw [h1, h2, ← EReal.coe_add]
  rfl

variable (E : Vec Ideal S1x8192 .f32) (hE : ∀ k, E (ix2 (n0 := 1) (n1 := 8192) 0 k) = ((∑ d, c k d * c k d : ℝ) : EReal))

include hX hW hB hCh hE in
theorem pay5_apply (p : Fin 256) (k : Fin 8192) : k0_pay5 X W B Ch E (ix2 (n0 := 256) (n1 := 8192) p k) = ((dR x w b c p k : ℝ) : EReal) := by
  have e : k0_pay5 X W B Ch E = addf (addf
      (broadcastTo S256x8192 (shapeCast S256x1 (multiReduction .add [1] S256 (mulf (zK X W B) (zK X W B)) 0x00000000#32 reduces_S256x256_S256 (.inl rfl) rfl) shapeCasts_S256_S256x1) broadcasts_S256x1_S256x8192)
      (matmul (F := Ideal) (φ₁ := .bf16) (φ₂ := .bf16) dot_S256x256_S8192x256_S256x8192_1_1_0_0_n_n none (truncf .bf16 (mulf (broadcast S256x256 (Scalar.ofBits .f32 0xC0000000#32)) (zK X W B)) bitsLt_bf16_f32)
        (shapeCast S8192x256 Ch shapeCasts_S8192x256_S8192x256) (constant S256x8192 .f32 0x00000000#32)))
      (broadcastTo S256x8192 E broadcasts_S1x8192_S256x8192) := rfl
  have hz := zK_apply x w b X W B hX hW hB
  rw [e]
  generalize zK X W B = Z at hz
  simp only [shapeCast_self]
  have h1 : broadcastTo S256x8192 (shapeCast S256x1 (multiReduction .add [1] S256 (mulf Z Z) 0x00000000#32 reduces_S256x256_S256 (.inl rfl) rfl) shapeCasts_S256_S256x1) broadcasts_S256x1_S256x8192
      (ix2 (n0 := 256) (n1 := 8192) p k) = ((∑ d, zR x w b p d * zR x w b p d : ℝ) : EReal) := by
    refine (broadcastTo_apply _ _ _ (ix2 (n0 := 256) (n1 := 1) p 0) (fun a => ?_)).trans ?_
    · match a with
      | ⟨0, _⟩ => rfl
      | ⟨1, _⟩ => rfl
    refine (shapeCast_apply _ _ (ix2 (n0 := 256) (n1 := 1) p 0) (ix1 (n0 := 256) p) (by rw [Shape.rowMajor_val_one, Shape.rowMajor_val_two]; simp)).trans ?_
    rw [coe_sum]
    refine (rowSum _ _ _ _ p).trans (Finset.sum_congr rfl fun d _ => ?_)
    show Z _ * Z _ = _
    rw [hz, EReal.coe_mul]
  have h2 : (matmul (F := Ideal) (φ₁ := .bf16) (φ₂ := .bf16) dot_S256x256_S8192x256_S256x8192_1_1_0_0_n_n none (truncf .bf16 (mulf (broadcast S256x256 (Scalar.ofBits .f32 0xC0000000#32)) Z) bitsLt_bf16_f32)
      Ch (constant S256x8192 .f32 0x00000000#32) (ix2 (n0 := 256) (n1 := 8192) p k) : EReal) = ((∑ d, -2 * zR x w b p d * c k d : ℝ) : EReal) := by
    rw [coe_sum]
    refine (mm_apply (M := 256) (K := 256) (N := 8192) .bf16 .bf16 _ rfl _ Ch p k).trans (Finset.sum_congr rfl fun d _ => ?_)
    rw [hCh]
    show (Ideal.ofBits .f32 0xC0000000#32 : EReal) * Z (ix2 (n0 := 256) (n1 := 256) p d) * _ = _
    rw [hz, lit_neg2, EReal.coe_mul, EReal.coe_mul]
  have h3 : broadcastTo S256x8192 E broadcasts_S1x8192_S256x8192 (ix2 (n0 := 256) (n1 := 8192) p k) = ((∑ d, c k d * c k d : ℝ) : EReal) := by
    refine (broadcastTo_apply _ _ _ (ix2 (n0 := 1) (n1 := 8192) 0 k) (fun a => ?_)).trans (hE k)
    match a with
    | ⟨0, _⟩ => rfl
    | ⟨1, _⟩ => rfl
  show ((_ : EReal) + _) + _ = _
  rw [h1, h2, h3, ← EReal.coe_add, ← EReal.coe_add]
  exact congrArg _ (WholeNum.dist_split Finset.univ (fun d => zR x w b p d) (fun d => c k d))

include hX hW hB hCh hE in
theorem pay6_apply (p : Fin 256) : k0_pay6 X W B Ch E (ix2 (n0 := 256) (n1 := 1) p 0) = ((dR x w b c p (least (dR x w b c p)) : ℝ) : EReal) := by
  unfold k0_pay6
  refine (shapeCast_apply _ _ (ix2 (n0 := 256) (n1 := 1) p 0) (ix1 (n0 := 256) p) (by rw [Shape.rowMajor_val_one, Shape.rowMajor_val_two]; simp)).trans ?_
  refine (rowMin _ _ _ _ p).trans ?_
  simp only [pay5_apply x w b c X W B Ch hX hW hB hCh E hE]
  exact WholeNum.fold_min_row (dR x w b c p)

theorem pay4_apply (p : Fin 256) (k : Fin 8192) : k0_pay4 (F := Ideal) (ix2 (n0 := 256) (n1 := 8192) p k) = ((k.val : ℝ) : EReal) := by
  unfold k0_pay4
  simp only [shapeCast_self]
  have h : (iota .tc S256x8192 32 [1] iota_S256x8192_d1_w32) (ix2 (n0 := 256) (n1 := 8192) p k) = BitVec.ofNat 32 k.val := by
    show BitVec.ofNat 32 (0 * _ + k.val) = _
    rw [Nat.zero_mul, Nat.zero_add]
  show ((((iota .tc S256x8192 32 [1] iota_S256x8192_d1_w32) (ix2 (n0 := 256) (n1 := 8192) p k)).toInt : ℝ) : EReal) = _
  have hk : (BitVec.ofNat 32 k.val).toNat = k.val := by rw [BitVec.toNat_ofNat]; have := k.isLt; omega
  rw [h, BitVec.toInt_eq_toNat_of_lt (by rw [hk]; have := k.isLt; omega), hk]
  simp

include hX hW hB hCh hE in
theorem pay7_apply (p : Fin 256) : k0_pay7 X W B Ch E (k0_pay4 (F := Ideal)) (ix1 (n0 := 256) p) = BitVec.ofNat 32 (least (dR x w b c p)).val := by
  have h5 := pay5_apply x w b c X W B Ch hX hW hB hCh E hE
  have h6 := pay6_apply x w b c X W B Ch hX hW hB hCh E hE
  unfold k0_pay7
  generalize k0_pay5 X W B Ch E = D at h5
  generalize k0_pay6 X W B Ch E = M at h6
  have hN := pay4_apply
  generalize k0_pay4 (F := Ideal) = N at hN
  refine (show _ = Ideal.fptosi 32 _ from rfl).trans ?_
  refine Eq.trans (congrArg (Ideal.fptosi 32) ?_) (WholeNum.fptosi_nat _ (least (dR x w b c p)).isLt)
  refine (rowMin _ _ _ _ p).trans ?_
  refine Eq.trans (congrArg (Finset.fold min (⊤ : EReal) · Finset.univ) (funext fun k => ?_)) (WholeNum.fold_min_col (dR x w b c p))
  have hb : broadcastTo S256x8192 M broadcasts_S256x1_S256x8192 (ix2 (n0 := 256) (n1 := 8192) p k) = M (ix2 (n0 := 256) (n1 := 1) p 0) :=
    broadcastTo_apply _ _ _ (ix2 (n0 := 256) (n1 := 1) p 0) (fun a => by
      match a with
      | ⟨0, _⟩ => rfl
      | ⟨1, _⟩ => rfl)
  show Scalar.select (BitVec.ofBool (decide (D (ix2 (n0 := 256) (n1 := 8192) p k) = broadcastTo S256x8192 M broadcasts_S256x1_S256x8192 (ix2 (n0 := 256) (n1 := 8192) p k))))
    (N (ix2 (n0 := 256) (n1 := 8192) p k)) (Ideal.ofBits .f32 0x46000000#32 : EReal) = _
  rw [hb, h5, h6, hN, lit_8192]
  by_cases h : ((dR x w b c p k : ℝ) : EReal) = ((dR x w b c p (least (dR x w b c p)) : ℝ) : EReal)
  · rw [if_pos h, decide_eq_true h]; exact ValueIdx.select_one _ _
  · rw [if_neg h, decide_eq_false h]; exact ValueIdx.select_zero _ _

end Point

/-- The index of a row is a row of the table, whatever the floats. -/
theorem pay7_some (X : Vec Ideal S256x129 .f32) (W : Vec Ideal S256x129 .f32) (B : Vec Ideal S1x256 .f32) (Ch : Vec Ideal S8192x256 .bf16) (E : Vec Ideal S1x8192 .f32) (p : Fin 256) :
    ∃ k : Fin 8192, k0_pay7 X W B Ch E (k0_pay4 (F := Ideal)) (ix1 (n0 := 256) p) = BitVec.ofNat 32 k.val := by
  obtain ⟨k0, hk0⟩ := WholeNum.fold_min_some (fun k => k0_pay5 X W B Ch E (ix2 (n0 := 256) (n1 := 8192) p k))
  refine ⟨k0, ?_⟩
  have h6 : k0_pay6 X W B Ch E (ix2 (n0 := 256) (n1 := 1) p 0)
      = (Finset.univ : Finset (Fin 8192)).fold min (⊤ : EReal) (fun k => k0_pay5 X W B Ch E (ix2 (n0 := 256) (n1 := 8192) p k)) := by
    unfold k0_pay6
    refine (shapeCast_apply _ _ (ix2 (n0 := 256) (n1 := 1) p 0) (ix1 (n0 := 256) p) (by rw [Shape.rowMajor_val_one, Shape.rowMajor_val_two]; simp)).trans ?_
    exact rowMin _ _ _ _ p
  unfold k0_pay7
  generalize k0_pay5 X W B Ch E = D at h6 hk0
  generalize k0_pay6 X W B Ch E = M at h6
  have hN := pay4_apply
  generalize k0_pay4 (F := Ideal) = N at hN
  refine (show _ = Ideal.fptosi 32 _ from rfl).trans ?_
  refine Eq.trans (congrArg (Ideal.fptosi 32) ?_) (WholeNum.fptosi_nat _ k0.isLt)
  refine (rowMin _ _ _ _ p).trans ?_
  refine Eq.trans (congrArg (Finset.fold min (⊤ : EReal) · Finset.univ) (funext fun k => ?_)) hk0
  have hb : broadcastTo S256x8192 M broadcasts_S256x1_S256x8192 (ix2 (n0 := 256) (n1 := 8192) p k) = M (ix2 (n0 := 256) (n1 := 1) p 0) :=
    broadcastTo_apply _ _ _ (ix2 (n0 := 256) (n1 := 1) p 0) (fun a => by
      match a with
      | ⟨0, _⟩ => rfl
      | ⟨1, _⟩ => rfl)
  show Scalar.select (BitVec.ofBool (decide (D (ix2 (n0 := 256) (n1 := 8192) p k) = broadcastTo S256x8192 M broadcasts_S256x1_S256x8192 (ix2 (n0 := 256) (n1 := 8192) p k))))
    (N (ix2 (n0 := 256) (n1 := 8192) p k)) (Ideal.ofBits .f32 0x46000000#32 : EReal) = _
  rw [hb, h6, hN, lit_8192]
  by_cases h : D (ix2 (n0 := 256) (n1 := 8192) p k) = (Finset.univ : Finset (Fin 8192)).fold min (⊤ : EReal) (fun k => D (ix2 (n0 := 256) (n1 := 8192) p k))
  · rw [if_pos h, decide_eq_true h]; exact ValueIdx.select_one _ _
  · rw [if_neg h, decide_eq_false h]; exact ValueIdx.select_zero _ _

/-! ## The running loss -/

theorem pay3_apply : k0_pay3 (F := Ideal) (ix2 (n0 := 1) (n1 := 1) 0 0) = (0 : EReal) := Ideal.ofBits_zero_f32

/-- The indices of a column, as its rows. -/
def colEquiv : Fin 256 ≃ S1x256x1.Idx where
  toFun p := ix3 (n0 := 1) (n1 := 256) (n2 := 1) 0 p 0
  invFun i := i 1
  left_inv p := rfl
  right_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)

theorem pay1_apply (v : FVec Ideal S256x1 .f32) (o : Vec Ideal S1x1 .f32) (r : Fin 256 → ℝ) (l : ℝ)
    (hv : ∀ p, v (ix2 (n0 := 256) (n1 := 1) p 0) = ((r p : ℝ) : EReal)) (ho : o (ix2 (n0 := 1) (n1 := 1) 0 0) = ((l : ℝ) : EReal)) :
    k0_pay1 v o (ix2 (n0 := 1) (n1 := 1) 0 0) = ((l + ∑ p, r p : ℝ) : EReal) := by
  unfold k0_pay1
  simp only [shapeCast_self]
  have h : ∀ j : S1.Idx, (multiReduction .add [1, 2] S1 (shapeCast S1x256x1 v shapeCasts_S256x1_S1x256x1) 0x00000000#32 reduces_S1x256x1_S1 (.inl rfl) rfl : FVec Ideal S1 .f32) j = ((∑ p, r p : ℝ) : EReal) := fun j => by
    refine (Ideal.multiReduction_add_total _ _ _ (fun a => by match a with | ⟨0, _⟩ => rfl) _ _ _).trans ?_
    rw [← Equiv.sum_comp colEquiv, coe_sum]
    refine Finset.sum_congr rfl fun p _ => ?_
    refine (shapeCast_apply _ _ _ (ix2 (n0 := 256) (n1 := 1) p 0) ?_).trans (hv p)
    rw [Shape.rowMajor_val_two, Shape.rowMajor_val_three]
    change p.val * 1 + 0 = (0 * 256 + p.val) * 1 + 0
    omega
  show (o (ix2 (n0 := 1) (n1 := 1) 0 0) : EReal) + (multiReduction .add [1, 2] S1 (shapeCast S1x256x1 v shapeCasts_S256x1_S1x256x1) 0x00000000#32 reduces_S1x256x1_S1 (.inl rfl) rfl : FVec Ideal S1 .f32) _ = _
  rw [ho, h, EReal.coe_add]

end Cert.Proof.WholePay

end
-- ==== Proof.WholeRefVal.lean ====
/-
  The reference's results when its arguments are arrays of reals: each row's distances, the first least of them, the
  codebook row it names, and the mean of the least distances.
-/
module

public import proofs.«01_k».proof.Proof.WholePay
public import Idealize.ShloMosaic.Lib.IdealHost

@[expose] public section

set_option maxRecDepth 16384

noncomputable section

namespace Cert.Proof.WholeRefVal

open Cert.ReferenceIdeal Cert.ReferenceIdeal.Gen
open Idealize.ShloMosaic
open Cert.Proof.WholeNum (coe_sum least)
open Cert.Proof.WholePay (zR dR)
open Cert.Proof.WholeRef
open scoped BigOperators

theorem row_lt (b : Fin 16) (n : Fin 512) : b.val * 512 + n.val < 8192 := by omega
/-- The number of a row among all of them. -/
def rowOf (b : Fin 16) (n : Fin 512) : Fin 8192 := ⟨b.val * 512 + n.val, row_lt b n⟩

theorem red_z : Shape.Reduces S16x512x256 [2] S16x512 := by decide
theorem red_c : Shape.Reduces S8192x256 [1] S8192 := by decide
theorem lift_z (b : Fin 16) (n : Fin 512) (k : Fin 256) :
    red_z.lift (ix2 (n0 := 16) (n1 := 512) b n) k = ix3 (n0 := 16) (n1 := 512) (n2 := 256) b n k := by
  funext a; refine Fin.ext ?_
  match a with
  | ⟨0, _⟩ => rfl
  | ⟨1, _⟩ => rfl
  | ⟨2, _⟩ => rfl
theorem lift_c (p : Fin 8192) (k : Fin 256) : red_c.lift (ix1 (n0 := 8192) p) k = ix2 (n0 := 8192) (n1 := 256) p k := by
  funext a; refine Fin.ext ?_
  match a with
  | ⟨0, _⟩ => rfl
  | ⟨1, _⟩ => rfl

theorem sum_z (x : FVec Ideal S16x512x256 .f32) (b : Fin 16) (n : Fin 512) :
    Host.reduceAdd x (constant S_ .f32 0x00000000#32) reducesTo_S16x512x256_S16x512_d2 h_S_ (ix2 (n0 := 16) (n1 := 512) b n)
      = ∑ k : Fin 256, (x (ix3 (n0 := 16) (n1 := 512) (n2 := 256) b n k) : EReal) := by
  refine (ValueIdx.hostReduceAdd_apply _ _ _ _ _).trans ?_
  refine (Ideal.hostReduceAdd_single _ red_z _ _ _).trans ?_
  rw [show (constant S_ .f32 0x00000000#32 : FVec Ideal S_ .f32) (Shape.Idx.first h_S_) = (0 : EReal) from Ideal.ofBits_zero_f32, zero_add]
  exact Finset.sum_congr rfl fun k _ => congrArg x (lift_z b n k)

theorem sum_c (x : FVec Ideal S8192x256 .f32) (p : Fin 8192) :
    Host.reduceAdd x (constant S_ .f32 0x00000000#32) reducesTo_S8192x256_S8192_d1 h_S_ (ix1 (n0 := 8192) p)
      = ∑ k : Fin 256, (x (ix2 (n0 := 8192) (n1 := 256) p k) : EReal) := by
  refine (ValueIdx.hostReduceAdd_apply _ _ _ _ _).trans ?_
  refine (Ideal.hostReduceAdd_single _ red_c _ _ _).trans ?_
  rw [show (constant S_ .f32 0x00000000#32 : FVec Ideal S_ .f32) (Shape.Idx.first h_S_) = (0 : EReal) from Ideal.ofBits_zero_f32, zero_add]
  exact Finset.sum_congr rfl fun k _ => congrArg x (lift_c p k)

theorem dot_x (X : FVec Ideal S16x512x129 .f32) (W : FVec Ideal S256x129 .f32) (b : Fin 16) (n : Fin 512) (d : Fin 256) :
    Host.dotGeneral dot_S16x512x129_S256x129_S16x512x256_2_1_01_0_n_n none X W (ix3 (n0 := 16) (n1 := 512) (n2 := 256) b n d)
      = ∑ f : Fin 129, (X (ix3 (n0 := 16) (n1 := 512) (n2 := 129) b n f) : EReal) * W (ix2 (n0 := 256) (n1 := 129) d f) := by
  show FloatOps.dotGeneral _ none _ X W _ = _
  rw [Ideal.dotGeneral_apply, ← Equiv.sum_comp (ValueIdx.contrEquiv1 dot_S16x512x129_S256x129_S16x512x256_2_1_01_0_n_n 129 rfl rfl).symm]
  refine Finset.sum_congr rfl fun c _ => ?_
  have c2 := ValueIdx.contrEquiv1_symm_val dot_S16x512x129_S256x129_S16x512x256_2_1_01_0_n_n 129 rfl rfl c
  refine congrArg₂ (fun a b : EReal => a * b) (congrArg X ?_) (congrArg W ?_)
  · funext ax; apply Fin.ext
    match ax with
    | ⟨0, _⟩ => rfl
    | ⟨1, _⟩ => rfl
    | ⟨2, _⟩ => exact c2
  · funext ax; apply Fin.ext
    match ax with
    | ⟨0, _⟩ => rfl
    | ⟨1, _⟩ => exact c2

theorem dot_z (Z : FVec Ideal S16x512x256 .f32) (C : FVec Ideal S8192x256 .f32) (b : Fin 16) (n : Fin 512) (k : Fin 8192) :
    Host.dotGeneral dot_S16x512x256_S8192x256_S16x512x8192_2_1_01_0_n_n none Z C (ix3 (n0 := 16) (n1 := 512) (n2 := 8192) b n k)
      = ∑ d : Fin 256, (Z (ix3 (n0 := 16) (n1 := 512) (n2 := 256) b n d) : EReal) * C (ix2 (n0 := 8192) (n1 := 256) k d) := by
  show FloatOps.dotGeneral _ none _ Z C _ = _
  rw [Ideal.dotGeneral_apply, ← Equiv.sum_comp (ValueIdx.contrEquiv1 dot_S16x512x256_S8192x256_S16x512x8192_2_1_01_0_n_n 256 rfl rfl).symm]
  refine Finset.sum_congr rfl fun c _ => ?_
  have c2 := ValueIdx.contrEquiv1_symm_val dot_S16x512x256_S8192x256_S16x512x8192_2_1_01_0_n_n 256 rfl rfl c
  refine congrArg₂ (fun a b : EReal => a * b) (congrArg Z ?_) (congrArg C ?_)
  · funext ax; apply Fin.ext
    match ax with
    | ⟨0, _⟩ => rfl
    | ⟨1, _⟩ => rfl
    | ⟨2, _⟩ => exact c2
  · funext ax; apply Fin.ext
    match ax with
    | ⟨0, _⟩ => rfl
    | ⟨1, _⟩ => exact c2

/-- The indices of the rows' entries, by coordinates. -/
def entryEquiv : (Fin 16 × Fin 512) × Fin 256 ≃ S16x512x256.Idx where
  toFun p := ix3 (n0 := 16) (n1 := 512) (n2 := 256) p.1.1 p.1.2 p.2
  invFun i := ((i 0, i 1), i 2)
  left_inv p := rfl
  right_inv i := by
    funext a
    match a with
    | ⟨0, _⟩ => rfl
    | ⟨1, _⟩ => rfl
    | ⟨2, _⟩ => rfl

/-- The rows by number and by coordinates. -/
def rowEquiv : Fin 16 × Fin 512 ≃ Fin 8192 where
  toFun p := rowOf p.1 p.2
  invFun r := (⟨r.val / 512, by omega⟩, ⟨r.val % 512, by omega⟩)
  left_inv p := by
    obtain ⟨b, n⟩ := p
    refine Prod.ext (Fin.ext ?_) (Fin.ext ?_)
    · show (b.val * 512 + n.val) / 512 = b.val
      omega
    · show (b.val * 512 + n.val) % 512 = n.val
      omega
  right_inv r := Fin.ext (by show r.val / 512 * 512 + r.val % 512 = r.val; omega)

section Reals
variable (x : Fin 8192 → Fin 129 → ℝ) (w : Fin 256 → Fin 129 → ℝ) (b : Fin 256 → ℝ) (c : Fin 8192 → Fin 256 → ℝ)
variable (X : FVec Ideal S16x512x129 .f32) (W : FVec Ideal S256x129 .f32) (B : FVec Ideal S256 .f32) (C : FVec Ideal S8192x256 .f32)
variable (hX : ∀ i n f, X (ix3 (n0 := 16) (n1 := 512) (n2 := 129) i n f) = ((x (rowOf i n) f : ℝ) : EReal))
variable (hW : ∀ d f, W (ix2 (n0 := 256) (n1 := 129) d f) = ((w d f : ℝ) : EReal))
variable (hB : ∀ d, B (ix1 (n0 := 256) d) = ((b d : ℝ) : EReal)) (hC : ∀ k d, C (ix2 (n0 := 8192) (n1 := 256) k d) = ((c k d : ℝ) : EReal))

include hX hW hB in
theorem zV_apply (i : Fin 16) (n : Fin 512) (d : Fin 256) :
    zV X W B (ix3 (n0 := 16) (n1 := 512) (n2 := 256) i n d) = ((zR x w b (rowOf i n) d : ℝ) : EReal) := by
  unfold zV
  show (_ : EReal) + broadcastInDim S16x512x256 ![0, 1, 2] bcast_S1x1x256_S16x512x256_0_1_2 (broadcastInDim S1x1x256 ![2] bcast_S256_S1x1x256_2 B) (ix3 (n0 := 16) (n1 := 512) (n2 := 256) i n d) = _
  have h2 : broadcastInDim S16x512x256 ![0, 1, 2] bcast_S1x1x256_S16x512x256_0_1_2 (broadcastInDim S1x1x256 ![2] bcast_S256_S1x1x256_2 B) (ix3 (n0 := 16) (n1 := 512) (n2 := 256) i n d) = ((b d : ℝ) : EReal) := by
    refine (broadcastInDim_apply _ _ _ _ (ix3 (n0 := 1) (n1 := 1) (n2 := 256) 0 0 d) (fun a => ?_)).trans ?_
    · match a with
      | ⟨0, _⟩ => rfl
      | ⟨1, _⟩ => rfl
      | ⟨2, _⟩ => rfl
    refine (broadcastInDim_apply _ _ _ _ (ix1 (n0 := 256) d) (fun a => ?_)).trans (hB d)
    match a with
    | ⟨0, _⟩ => rfl
  rw [h2, dot_x]
  simp only [hX, hW, ← EReal.coe_mul]
  rw [← coe_sum, ← EReal.coe_add]
  rfl

include hC in
theorem distV_apply (z : Fin 8192 → Fin 256 → ℝ) (Z : FVec Ideal S16x512x256 .f32)
    (hZ : ∀ i n d, Z (ix3 (n0 := 16) (n1 := 512) (n2 := 256) i n d) = ((z (rowOf i n) d : ℝ) : EReal)) (i : Fin 16) (n : Fin 512) (k : Fin 8192) :
    distV Z C (ix3 (n0 := 16) (n1 := 512) (n2 := 8192) i n k) = ((∑ d, (c k d - z (rowOf i n) d) * (c k d - z (rowOf i n) d) : ℝ) : EReal) := by
  unfold distV
  have h1 : broadcastInDim S16x512x8192 ![0, 1, 2] bcast_S16x512x1_S16x512x8192_0_1_2 (broadcastInDim S16x512x1 ![0, 1] bcast_S16x512_S16x512x1_0_1
      (Host.reduceAdd (mulf Z Z) (constant S_ .f32 0x00000000#32) reducesTo_S16x512x256_S16x512_d2 h_S_)) (ix3 (n0 := 16) (n1 := 512) (n2 := 8192) i n k)
      = ((∑ d, z (rowOf i n) d * z (rowOf i n) d : ℝ) : EReal) := by
    refine (broadcastInDim_apply _ _ _ _ (ix3 (n0 := 16) (n1 := 512) (n2 := 1) i n 0) (fun a => ?_)).trans ?_
    · match a with
      | ⟨0, _⟩ => rfl
      | ⟨1, _⟩ => rfl
      | ⟨2, _⟩ => rfl
    refine (broadcastInDim_apply _ _ _ _ (ix2 (n0 := 16) (n1 := 512) i n) (fun a => ?_)).trans ?_
    · match a with
      | ⟨0, _⟩ => rfl
      | ⟨1, _⟩ => rfl
    rw [coe_sum]
    refine (sum_z _ i n).trans (Finset.sum_congr rfl fun d _ => ?_)
    show Z _ * Z _ = _
    rw [hZ, EReal.coe_mul]
  have h2 : broadcastInDim S16x512x8192 ![0, 1, 2] bcast_S1x1x8192_S16x512x8192_0_1_2 (broadcastInDim S1x1x8192 ![2] bcast_S8192_S1x1x8192_2
      (Host.reduceAdd (mulf C C) (constant S_ .f32 0x00000000#32) reducesTo_S8192x256_S8192_d1 h_S_)) (ix3 (n0 := 16) (n1 := 512) (n2 := 8192) i n k)
      = ((∑ d, c k d * c k d : ℝ) : EReal) := by
    refine (broadcastInDim_apply _ _ _ _ (ix3 (n0 := 1) (n1 := 1) (n2 := 8192) 0 0 k) (fun a => ?_)).trans ?_
    · match a with
      | ⟨0, _⟩ => rfl
      | ⟨1, _⟩ => rfl
      | ⟨2, _⟩ => rfl
    refine (broadcastInDim_apply _ _ _ _ (ix1 (n0 := 8192) k) (fun a => ?_)).trans ?_
    · match a with
      | ⟨0, _⟩ => rfl
    rw [coe_sum]
    refine (sum_c _ k).trans (Finset.sum_congr rfl fun d _ => ?_)
    show C _ * C _ = _
    rw [hC, EReal.coe_mul]
  have h3 : mulf (broadcastInDim S16x512x8192 ![] bcast_S_S16x512x8192 (constant S_ .f32 0x40000000#32))
      (Host.dotGeneral dot_S16x512x256_S8192x256_S16x512x8192_2_1_01_0_n_n none Z C) (ix3 (n0 := 16) (n1 := 512) (n2 := 8192) i n k)
      = ((2 * ∑ d, z (rowOf i n) d * c k d : ℝ) : EReal) := by
    show (Ideal.ofBits .f32 0x40000000#32 : EReal) * _ = _
    rw [dot_z, WholePay.lit_two]
    simp only [hZ, hC, ← EReal.coe_mul]
    rw [← coe_sum, ← EReal.coe_mul]
  show ((_ : EReal) - _) + _ = _
  rw [h1, h2, h3, ← EReal.coe_sub, ← EReal.coe_add]
  exact congrArg _ (WholeNum.dist_split' Finset.univ (fun d => z (rowOf i n) d) (fun d => c k d))

/-- The codebook row nearest a row. -/
def near (r : Fin 8192) : Fin 8192 := least (dR x w b c r)

include hX hW hB hC in
theorem idx_apply (i : Fin 16) (n : Fin 512) :
    idxV (distV (zV X W B) C) (ix2 (n0 := 16) (n1 := 512) i n) = BitVec.ofNat 32 (near x w b c (rowOf i n)).val :=
  WholeNum.idxV_apply _ i n (dR x w b c (rowOf i n)) fun k => distV_apply c C hC (zR x w b) (zV X W B) (zV_apply x w b X W B hX hW hB) i n k

theorem near_toNat (r : Fin 8192) : (BitVec.ofNat 32 (near x w b c r).val).toNat = (near x w b c r).val := by
  rw [BitVec.toNat_ofNat]; have := (near x w b c r).isLt; omega

include hX hW hB hC in
theorem qV_apply (i : Fin 16) (n : Fin 512) (j : Fin 256) :
    qV (zV X W B) C (ix3 (n0 := 16) (n1 := 512) (n2 := 256) i n j) = ((c (near x w b c (rowOf i n)) j : ℝ) : EReal) := by
  have hi := idx_apply x w b c X W B C hX hW hB hC
  unfold qV
  generalize idxV (distV (zV X W B) C) = J at hi
  have hJ : ∀ k, (J k).toNat < 8192 := fun k => by
    obtain ⟨p, q, rfl⟩ : ∃ (p : Fin 16) (q : Fin 512), k = ix2 (n0 := 16) (n1 := 512) p q :=
      ⟨k 0, k 1, by funext a; match a with | ⟨0, _⟩ => rfl | ⟨1, _⟩ => rfl⟩
    rw [hi, near_toNat]
    exact (near x w b c _).isLt
  refine (RowsRef.take_apply (F := Ideal) C J hJ i n j).trans ?_
  rw [← hC]
  refine congrArg C (congrArg (fun k => ix2 (n0 := 8192) (n1 := 256) k j) (Fin.ext ?_))
  show (J _).toNat = _
  rw [hi, near_toNat]

include hX hW hB hC in
theorem outV_apply (P : FVec Ideal S1x512x256 .f32) (i : Fin 16) (n : Fin 512) (j : Fin 256) :
    outV (qV (zV X W B) C) (zV X W B) P (ix3 (n0 := 16) (n1 := 512) (n2 := 256) i n j)
      = ((c (near x w b c (rowOf i n)) j : ℝ) : EReal) + P (ix3 (n0 := 1) (n1 := 512) (n2 := 256) 0 n j) := by
  have hq := qV_apply x w b c X W B C hX hW hB hC i n j
  have hz := zV_apply x w b X W B hX hW hB i n j
  unfold outV
  generalize qV (zV X W B) C = Q at hq
  generalize zV X W B = Z at hz
  have hp : broadcastInDim S16x512x256 ![0, 1, 2] bcast_S1x512x256_S16x512x256_0_1_2 P (ix3 (n0 := 16) (n1 := 512) (n2 := 256) i n j)
      = P (ix3 (n0 := 1) (n1 := 512) (n2 := 256) 0 n j) :=
    broadcastInDim_apply _ _ _ _ _ (fun a => by
      match a with
      | ⟨0, _⟩ => rfl
      | ⟨1, _⟩ => rfl
      | ⟨2, _⟩ => rfl)
  show ((Z (ix3 (n0 := 16) (n1 := 512) (n2 := 256) i n j) : EReal) + (Q (ix3 (n0 := 16) (n1 := 512) (n2 := 256) i n j) - Z (ix3 (n0 := 16) (n1 := 512) (n2 := 256) i n j)))
    + broadcastInDim S16x512x256 ![0, 1, 2] bcast_S1x512x256_S16x512x256_0_1_2 P (ix3 (n0 := 16) (n1 := 512) (n2 := 256) i n j) = _
  rw [hp, hq, hz, ← EReal.coe_sub, ← EReal.coe_add, add_sub_cancel]

/-- The sum of every row's least distance. -/
def lossR : ℝ := ∑ r : Fin 8192, dR x w b c r (near x w b c r)

include hX hW hB hC in
theorem lossV_apply (k : S_.Idx) :
    lossV (qV (zV X W B) C) (zV X W B) k = Ideal.div ((lossR x w b c : ℝ) : EReal) (Ideal.ofBits .f32 0x4A000000#32) := by
  have hq := qV_apply x w b c X W B C hX hW hB hC
  have hz := zV_apply x w b X W B hX hW hB
  unfold lossV
  generalize qV (zV X W B) C = Q at hq
  generalize zV X W B = Z at hz
  refine (ValueIdx.hostDivf_apply _ _ _).trans ?_
  refine congrArg₂ Ideal.div ?_ rfl
  refine (ValueIdx.hostReduceAdd_apply _ _ _ _ _).trans ?_
  refine (Ideal.hostReduceAdd_total _ (fun a => a.elim0) _ _ _).trans ?_
  rw [show (constant S_ .f32 0x00000000#32 : FVec Ideal S_ .f32) (Shape.Idx.first h_S_) = (0 : EReal) from Ideal.ofBits_zero_f32, zero_add,
    ← Equiv.sum_comp entryEquiv, Fintype.sum_prod_type, lossR, coe_sum, ← Equiv.sum_comp rowEquiv]
  refine Finset.sum_congr rfl fun p _ => ?_
  obtain ⟨i, n⟩ := p
  rw [dR, coe_sum]
  refine Finset.sum_congr rfl fun d _ => ?_
  show ((Q (ix3 (n0 := 16) (n1 := 512) (n2 := 256) i n d) : EReal) - Z (ix3 (n0 := 16) (n1 := 512) (n2 := 256) i n d))
    * (Q (ix3 (n0 := 16) (n1 := 512) (n2 := 256) i n d) - Z (ix3 (n0 := 16) (n1 := 512) (n2 := 256) i n d)) = _
  rw [hq, hz, ← EReal.coe_sub, ← EReal.coe_mul]
  rfl

end Reals

end Cert.Proof.WholeRefVal

end
-- ==== Proof.WholeRows.lean ====
/-
  The addition of the position rows, one row at a time: a trip of the kernel's loop adds, sixteen lanes at a time, row `i`
  of the position block to row `i` of the gathered rows. `mix g p n` is what the rows' buffer holds once the first
  `n` elements, in row-major order, have been added to; each load-load-load-store group moves it sixteen elements on
  (`group`), a trip a whole row (`trip1`, `trip2`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import Idealize.ShloMosaic.Lib.Pipeline.Value
public import Idealize.ShloMosaic.Lib.Pointwise.Index
public import proofs.«01_k».proof.Proof.Gen.KernelIdeal
public import proofs.«01_k».proof.Proof.Gen.KernelIdeal.Skeleton

@[expose] public section

noncomputable section

namespace Cert.Proof.WholeRows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
/-- The pipeline's rounds. -/
abbrev UP : Type := URounds (GSem nD τ sig) Unit
abbrev UU : Type := UH × (UP × Counters)

local notation "𝕄" => MT nD τ sig (HIx 1) (Elt F) ℕ UU ℕ

abbrev 𝒱₀ : Variants := Variants.none

variable [FloatOps F]

/-- The place of the position block that element `y` of the gathered rows is added to. -/
def posIx (y : S128x2x128.Idx) : S128x256.Idx :=
  ix2 (n0 := 128) (n1 := 256) (y 0) ⟨128 * (y 1).val + (y 2).val, by
    have h1 : (y 1).val < 2 := (y 1).isLt
    have h2 : (y 2).val < 128 := (y 2).isLt
    omega⟩

/-- Rows `g` with the first `n` elements, in row-major order, added to by the position block `p`. -/
def mix (g : S128x2x128.Idx → Elt F .f32) (p : S128x256.Idx → Elt F .f32) (n : ℕ) : S128x2x128.Idx → Elt F .f32 := fun y =>
  if 256 * (y 0).val + 128 * (y 1).val + (y 2).val < n then FloatOps.addf (g y) (p (posIx y)) else g y

theorem mix_zero (g : S128x2x128.Idx → Elt F .f32) (p : S128x256.Idx → Elt F .f32) : mix g p 0 = g := by
  funext y; simp [mix]

theorem mix_all (g : S128x2x128.Idx → Elt F .f32) (p : S128x256.Idx → Elt F .f32) :
    mix g p (256 * 128) = fun y => FloatOps.addf (g y) (p (posIx y)) := by
  funext y
  have h0 : (y 0).val < 128 := (y 0).isLt
  have h1 : (y 1).val < 2 := (y 1).isLt
  have h2 : (y 2).val < 128 := (y 2).isLt
  unfold mix; rw [if_pos (by omega)]

/-- Sixteen lanes of the rows plus sixteen lanes of the position block. -/
def padd (a : Vec F S1x1x16 .f32) (b : Vec F S1x16 .f32) : FVec F S1x1x16 .f32 :=
  shapeCast S1x1x16 (addf (shapeCast S16 a shapeCasts_S1x1x16_S16) (shapeCast S16 b shapeCasts_S1x16_S16)) shapeCasts_S16_S1x1x16

def lane3 (l : Fin 16) : S1x1x16.Idx := ix3 (0 : Fin 1) (0 : Fin 1) l
def lane2 (l : Fin 16) : S1x16.Idx := ix2 (0 : Fin 1) l

theorem padd_apply (a : Vec F S1x1x16 .f32) (b : Vec F S1x16 .f32) (l : Fin 16) :
    padd a b (lane3 l) = FloatOps.addf (a (lane3 l)) (b (lane2 l)) := by
  unfold padd
  rw [shapeCast_apply _ _ (lane3 l) (ix1 l) (by
    rw [Shape.rowMajor_val_one, Shape.rowMajor_val_three]
    show l.val = (0 * 1 + 0) * 16 + l.val; omega)]
  show FloatOps.addf (shapeCast S16 a _ (ix1 l)) (shapeCast S16 b _ (ix1 l)) = _
  rw [shapeCast_apply a _ (ix1 l) (lane3 l) (by
    rw [Shape.rowMajor_val_one, Shape.rowMajor_val_three]
    show (0 * 1 + 0) * 16 + l.val = l.val; omega),
    shapeCast_apply b _ (ix1 l) (lane2 l) (by
    rw [Shape.rowMajor_val_one, Shape.rowMajor_val_two]
    show 0 * 16 + l.val = l.val; omega)]

section Group

variable (thr : Thread nD τ) (m8 : Memref sig thr.2.kind .vmem S128x2x128 .f32) (m10 : Memref sig thr.2.kind .vmem S128x256 .f32)

/-- The rows' buffer, reading `G`. -/
def rowsAt (G : S128x2x128.Idx → Elt F .f32) : sProp 𝕄 :=
  iprop(∃ f, ⌜m8.view.read (Elt F) f = G⌝ ∗ m8.view.loc thr ↦{fullShare} f)
/-- The position block, reading `p`. -/
def posAt (p : S128x256.Idx → Elt F .f32) : sProp 𝕄 :=
  iprop(∃ f, ⌜m10.view.read (Elt F) f = p⌝ ∗ m10.view.loc thr ↦{fullShare} f)

theorem stored (g : S128x2x128.Idx → Elt F .f32) (p : S128x256.Idx → Elt F .f32) (i h l : ℕ) (hh : h < 2) (hl : l + 16 ≤ 128)
    (o8 : Fin 3 → ℕ) (i8 : ∀ a, o8 a + S1x1x16.size a ≤ S128x2x128.size a)
    (o10 : Fin 2 → ℕ) (i10 : ∀ a, o10 a + S1x16.size a ≤ S128x256.size a)
    (e8 : o8 = ![i, h, l]) (e10 : o10 = ![i, 128 * h + l]) (n : ℕ) (hn : n = 256 * i + 128 * h + l)
    (f : Buf (Elt F) (m8.view.loc thr)) (hf : m8.view.read (Elt F) f = mix g p n)
    (fp : Buf (Elt F) (m10.view.loc thr)) (hfp : m10.view.read (Elt F) fp = p)
    (w : S1x1x16.Idx → Elt F .f32) (hw : ∀ j, w (lane3 j) = FloatOps.addf
      (m8.view.readAt (Elt F) (Rect.unit (s := S128x2x128) o8 S1x1x16.size i8).toLoadRect f (lane3 j))
        (m10.view.readAt (Elt F) (Rect.unit (s := S128x256) o10 S1x16.size i10).toLoadRect fp (lane2 j))) :
    m8.view.read (Elt F) ((m8.access (Rect.unit (s := S128x2x128) o8 S1x1x16.size i8)).write (Elt F) f w Finset.univ) = mix g p (n + 16) := by
  subst e8 e10 hn
  funext y
  have h0 : (y 0).val < 128 := (y 0).isLt
  have h1 : (y 1).val < 2 := (y 1).isLt
  have h2 : (y 2).val < 128 := (y 2).isLt
  show m8.view.read (Elt F) (m8.view.writes (Elt F) f [⟨Rect.unit (s := S128x2x128) ![i, h, l] S1x1x16.size i8, w⟩]) y = _
  by_cases hy : (y 0).val = i ∧ (y 1).val = h ∧ l ≤ (y 2).val ∧ (y 2).val < l + 16
  · obtain ⟨hy0, hy1, hy2, hy3⟩ := hy
    rw [View.read_writes_cons_hit_of_coords m8.view f _ _ _ (lane3 ⟨(y 2).val - l, by omega⟩) y (by
      intro a; fin_cases a
      · show (y 0).val = i + 1 * 0; omega
      · show (y 1).val = h + 1 * 0; omega
      · show (y 2).val = l + 1 * ((y 2).val - l); omega)]
    rw [hw]
    have ea : m8.view.readAt (Elt F) (Rect.unit (s := S128x2x128) ![i, h, l] S1x1x16.size i8).toLoadRect f (lane3 ⟨(y 2).val - l, by omega⟩) = g y := by
      show m8.view.read (Elt F) f ((Rect.unit (s := S128x2x128) ![i, h, l] S1x1x16.size i8).emb (lane3 ⟨(y 2).val - l, by omega⟩)) = _
      rw [Rect.emb_eq_of_coords _ _ y (by
        intro a; fin_cases a
        · show (y 0).val = i + 1 * 0; omega
        · show (y 1).val = h + 1 * 0; omega
        · show (y 2).val = l + 1 * ((y 2).val - l); omega), hf]
      unfold mix; rw [if_neg (by omega)]
    have eb : m10.view.readAt (Elt F) (Rect.unit (s := S128x256) ![i, 128 * h + l] S1x16.size i10).toLoadRect fp (lane2 ⟨(y 2).val - l, by omega⟩) = p (posIx y) := by
      show m10.view.read (Elt F) fp ((Rect.unit (s := S128x256) ![i, 128 * h + l] S1x16.size i10).emb _) = _
      rw [Rect.emb_eq_of_coords _ _ (posIx y) (by
        intro a; fin_cases a
        · show (y 0).val = i + 1 * 0; omega
        · show 128 * (y 1).val + (y 2).val = 128 * h + l + 1 * ((y 2).val - l); omega), hfp]
    rw [ea, eb]
    unfold mix; rw [if_pos (by omega)]
  · rw [View.read_writes_cons_miss _ _ _ _ _ (by
      intro hm
      obtain ⟨x, rfl⟩ := (Rect.unit (s := S128x2x128) ![i, h, l] S1x1x16.size i8).exists_idx_of_mem hm
      apply hy
      have x0 : (x 0).val < 1 := (x 0).isLt
      have x1 : (x 1).val < 1 := (x 1).isLt
      have x2 : (x 2).val < 16 := (x 2).isLt
      refine ⟨?_, ?_, ?_, ?_⟩
      · show i + 1 * (x 0).val = i; omega
      · show h + 1 * (x 1).val = h; omega
      · show l ≤ l + 1 * (x 2).val; omega
      · show l + 1 * (x 2).val < l + 16; omega), View.writes_nil, hf]
    unfold mix
    by_cases hlt : 256 * (y 0).val + 128 * (y 1).val + (y 2).val < 256 * i + 128 * h + l
    · rw [if_pos hlt, if_pos (by omega)]
    · rw [if_neg hlt, if_neg (by omega)]

open Idealize.ShloMosaic.Pipeline in
/-- One group of a trip: sixteen lanes of the rows read, sixteen of the position block, the lanes of the rows read again
    and unused, the sums stored. -/
theorem group {Λ : Labels} (defs : Defs nD τ sig (Elt F) Λ) (𝒱 : Variants) (E : Set ℕ) {α : Type} {Q : α → sProp 𝕄}
    (g : S128x2x128.Idx → Elt F .f32) (p : S128x256.Idx → Elt F .f32) (i h l : ℕ) (hh : h < 2) (hl : l + 16 ≤ 128)
    (o8 : Fin 3 → ℕ) (i8 : ∀ a, o8 a + S1x1x16.size a ≤ S128x2x128.size a)
    (o10 : Fin 2 → ℕ) (i10 : ∀ a, o10 a + S1x16.size a ≤ S128x256.size a)
    (e8 : o8 = ![i, h, l]) (e10 : o10 = ![i, 128 * h + l]) (n : ℕ) (hn : n = 256 * i + 128 * h + l)
    (l1 l3 : m8.view.LoadsAt (Rect.unit (s := S128x2x128) o8 S1x1x16.size i8).toLoadRect)
    (l2 : m10.view.LoadsAt (Rect.unit (s := S128x256) o10 S1x16.size i10).toLoadRect)
    (hx : (m8.access (Rect.unit (s := S128x2x128) o8 S1x1x16.size i8)).Stores Finset.univ)
    (hm : (Finset.univ : Finset (Rect.unit (s := S128x2x128) o8 S1x1x16.size i8).shape.Idx) = Finset.univ ∨ ∀ a, (Rect.unit (s := S128x2x128) o8 S1x1x16.size i8).stride a = 1)
    (pay : Vec F S1x1x16 .f32 → Vec F S1x16 .f32 → FVec F S1x1x16 .f32) (hpay : pay = padd)
    (k : PUnit → Prog (TpuEff nD τ sig (Elt F) Λ thr.2) α) :
    iprop(rowsAt thr m8 (mix g p n) ∗ posAt thr m10 p)
      ⊢ iprop((iprop(rowsAt thr m8 (mix g p (n + 16)) ∗ posAt thr m10 p) -∗ wp frame (wpE defs 𝒱 thr none) E (k ⟨⟩) Q)
        -∗ wp frame (wpE defs 𝒱 thr none) E
          (.op (.load m8 (Rect.unit (s := S128x2x128) o8 S1x1x16.size i8).toLoadRect l1) fun a =>
            .op (.load m10 (Rect.unit (s := S128x256) o10 S1x16.size i10).toLoadRect l2) fun b =>
              .op (.load m8 (Rect.unit (s := S128x2x128) o8 S1x1x16.size i8).toLoadRect l3) fun _ =>
                .op (.store m8 (Rect.unit (s := S128x2x128) o8 S1x1x16.size i8) (pay a b) Finset.univ hx hm) k) Q) := by
  subst hpay
  unfold rowsAt posAt
  iintro ⟨⟨%f, %hf, Hr⟩, ⟨%fp, %hfp, Hp⟩⟩ HK
  iapply (wp_load 𝒱 thr none E (Finset.subset_univ _)) $$ Hr
  iintro Hr
  iapply (wp_load 𝒱 thr none E (Finset.subset_univ _)) $$ Hp
  iintro Hp
  iapply (wp_load 𝒱 thr none E (Finset.subset_univ _)) $$ Hr
  iintro Hr
  iapply (wp_store 𝒱 thr none E (m := m8) (r := Rect.unit (s := S128x2x128) o8 S1x1x16.size i8) (f := f) (Finset.subset_univ _)) $$ Hr
  iintro Hr
  iapply HK
  isplitl [Hr]
  · iexists _; isplitr
    swap; · iexact Hr
    ipureintro
    exact stored thr m8 m10 g p i h l hh hl o8 i8 o10 i10 e8 e10 n hn f hf fp hfp _ (fun j => padd_apply _ _ j)
  · iexists fp; isplitr
    · ipureintro; exact hfp
    · iexact Hp

end Group

set_option maxHeartbeats 4000000 in
/-- A trip of the kernel's loop number 1: row `t` of the position block added to row `t` of the gathered rows. -/
theorem trip1 (d : Dev nD) (E : Set ℕ) (i : grid1.Coords) (arg2 : Memref sig .scVector .hbm S8192x2x128 .f32) (harg2 : arg2.IsWhole) (arg3 : Memref sig .scVector .hbm S8192 .i32) (harg3 : arg3.IsWhole) (arg4 : Memref sig .scVector .hbm S512x256 .f32) (harg4 : arg4.IsWhole) (arg5 : Memref sig .scVector .hbm S8192x2x128 .f32) (harg5 : arg5.IsWhole) (arg6 : Memref sig .scVector .vmem S128 .i32) (harg6 : arg6.IsWhole) (arg7 : Memref sig .scVector .vmem S128 .i32) (harg7 : arg7.IsWhole) (arg8 : Memref sig .scVector .vmem S128x2x128 .f32) (harg8 : arg8.IsWhole) (arg9 : Memref sig .scVector .vmem S128x2x128 .f32) (harg9 : arg9.IsWhole) (arg10 : Memref sig .scVector .vmem S128x256 .f32) (harg10 : arg10.IsWhole) (arg11 : DmaSems sig S_) (arg12 : DmaSems sig S_) (arg13 : DmaSems sig S_) (v16_r0 : DmaSems sig S_) (v16_r1 : DmaSems sig S_) (v16_r2 : DmaSems sig S_) (v16_r3 : DmaSems sig S_) (v16_r4 : DmaSems sig S_)
    (g : S128x2x128.Idx → Elt F .f32) (p : S128x256.Idx → Elt F .f32) (t : Fin k1_t1_loop.trips) (u : Unit) :
    iprop(rowsAt (V d ((i 0).castLE hcore1) ((i 1).castLE hsub1)) arg8 (mix g p (256 * t.val)) ∗ posAt (V d ((i 0).castLE hcore1) ((i 1).castLE hsub1)) arg10 p)
      ⊢ wp frame (wpE (defs₀ (F := F)) 𝒱₀ (V d ((i 0).castLE hcore1) ((i 1).castLE hsub1)) none) E (k1_t1_body (F := F) i arg2 harg2 arg3 harg3 arg4 harg4 arg5 harg5 arg6 harg6 arg7 harg7 arg8 harg8 arg9 harg9 arg10 harg10 arg11 arg12 arg13 v16_r0 v16_r1 v16_r2 v16_r3 v16_r4 t u)
        fun _ => iprop(rowsAt (V d ((i 0).castLE hcore1) ((i 1).castLE hsub1)) arg8 (mix g p (256 * (t.val + 1))) ∗ posAt (V d ((i 0).castLE hcore1) ((i 1).castLE hsub1)) arg10 p) := by
  unfold k1_t1_body
  simp only [k1_part1_eq_skeleton, k1_part2_eq_skeleton, k1_part3_eq_skeleton, k1_part4_eq_skeleton, k1_part5_eq_skeleton, k1_part1_skel, k1_part2_skel, k1_part3_skel, k1_part4_skel, k1_part5_skel, bind_assoc, pure_bind, Prog.bind_lift]
  iintro H
  iapply (group (V d ((i 0).castLE hcore1) ((i 1).castLE hsub1)) arg8 arg10 (defs₀ (F := F)) 𝒱₀ E g p t.val 0 0 (by omega) (by omega) _ _ _ _ (k1_off4_eq t) (k1_off5_eq t)
    _ (by omega) _ _ _ _ _ _ rfl) $$ H
  iintro H
  iapply (group (V d ((i 0).castLE hcore1) ((i 1).castLE hsub1)) arg8 arg10 (defs₀ (F := F)) 𝒱₀ E g p t.val 0 16 (by omega) (by omega) _ _ _ _ (k1_off6_eq t) (k1_off7_eq t)
    _ (by omega) _ _ _ _ _ _ rfl) $$ H
  iintro H
  iapply (group (V d ((i 0).castLE hcore1) ((i 1).castLE hsub1)) arg8 arg10 (defs₀ (F := F)) 𝒱₀ E g p t.val 0 32 (by omega) (by omega) _ _ _ _ (k1_off8_eq t) (k1_off9_eq t)
    _ (by omega) _ _ _ _ _ _ rfl) $$ H
  iintro H
  iapply (group (V d ((i 0).castLE hcore1) ((i 1).castLE hsub1)) arg8 arg10 (defs₀ (F := F)) 𝒱₀ E g p t.val 0 48 (by omega) (by omega) _ _ _ _ (k1_off10_eq t) (k1_off11_eq t)
    _ (by omega) _ _ _ _ _ _ rfl) $$ H
  iintro H
  iapply (group (V d ((i 0).castLE hcore1) ((i 1).castLE hsub1)) arg8 arg10 (defs₀ (F := F)) 𝒱₀ E g p t.val 0 64 (by omega) (by omega) _ _ _ _ (k1_off12_eq t) (k1_off13_eq t)
    _ (by omega) _ _ _ _ _ _ rfl) $$ H
  iintro H
  iapply (group (V d ((i 0).castLE hcore1) ((i 1).castLE hsub1)) arg8 arg10 (defs₀ (F := F)) 𝒱₀ E g p t.val 0 80 (by omega) (by omega) _ _ _ _ (k1_off14_eq t) (k1_off15_eq t)
    _ (by omega) _ _ _ _ _ _ rfl) $$ H
  iintro H
  iapply (group (V d ((i 0).castLE hcore1) ((i 1).castLE hsub1)) arg8 arg10 (defs₀ (F := F)) 𝒱₀ E g p t.val 0 96 (by omega) (by omega) _ _ _ _ (k1_off16_eq t) (k1_off17_eq t)
    _ (by omega) _ _ _ _ _ _ rfl) $$ H
  iintro H
  iapply (group (V d ((i 0).castLE hcore1) ((i 1).castLE hsub1)) arg8 arg10 (defs₀ (F := F)) 𝒱₀ E g p t.val 0 112 (by omega) (by omega) _ _ _ _ (k1_off18_eq t) (k1_off19_eq t)
    _ (by omega) _ _ _ _ _ _ rfl) $$ H
  iintro H
  iapply (group (V d ((i 0).castLE hcore1) ((i 1).castLE hsub1)) arg8 arg10 (defs₀ (F := F)) 𝒱₀ E g p t.val 1 0 (by omega) (by omega) _ _ _ _ (k1_off20_eq t) (k1_off21_eq t)
    _ (by omega) _ _ _ _ _ _ rfl) $$ H
  iintro H
  iapply (group (V d ((i 0).castLE hcore1) ((i 1).castLE hsub1)) arg8 arg10 (defs₀ (F := F)) 𝒱₀ E g p t.val 1 16 (by omega) (by omega) _ _ _ _ (k1_off22_eq t) (k1_off23_eq t)
    _ (by omega) _ _ _ _ _ _ rfl) $$ H
  iintro H
  iapply (group (V d ((i 0).castLE hcore1) ((i 1).castLE hsub1)) arg8 arg10 (defs₀ (F := F)) 𝒱₀ E g p t.val 1 32 (by omega) (by omega) _ _ _ _ (k1_off24_eq t) (k1_off25_eq t)
    _ (by omega) _ _ _ _ _ _ rfl) $$ H
  iintro H
  iapply (group (V d ((i 0).castLE hcore1) ((i 1).castLE hsub1)) arg8 arg10 (defs₀ (F := F)) 𝒱₀ E g p t.val 1 48 (by omega) (by omega) _ _ _ _ (k1_off26_eq t) (k1_off27_eq t)
    _ (by omega) _ _ _ _ _ _ rfl) $$ H
  iintro H
  iapply (group (V d ((i 0).castLE hcore1) ((i 1).castLE hsub1)) arg8 arg10 (defs₀ (F := F)) 𝒱₀ E g p t.val 1 64 (by omega) (by omega) _ _ _ _ (k1_off28_eq t) (k1_off29_eq t)
    _ (by omega) _ _ _ _ _ _ rfl) $$ H
  iintro H
  iapply (group (V d ((i 0).castLE hcore1) ((i 1).castLE hsub1)) arg8 arg10 (defs₀ (F := F)) 𝒱₀ E g p t.val 1 80 (by omega) (by omega) _ _ _ _ (k1_off30_eq t) (k1_off31_eq t)
    _ (by omega) _ _ _ _ _ _ rfl) $$ H
  iintro H
  iapply (group (V d ((i 0).castLE hcore1) ((i 1).castLE hsub1)) arg8 arg10 (defs₀ (F := F)) 𝒱₀ E g p t.val 1 96 (by omega) (by omega) _ _ _ _ (k1_off32_eq t) (k1_off33_eq t)
    _ (by omega) _ _ _ _ _ _ rfl) $$ H
  iintro H
  iapply (group (V d ((i 0).castLE hcore1) ((i 1).castLE hsub1)) arg8 arg10 (defs₀ (F := F)) 𝒱₀ E g p t.val 1 112 (by omega) (by omega) _ _ _ _ (k1_off34_eq t) (k1_off35_eq t)
    _ (by omega) _ _ _ _ _ _ rfl) $$ H
  iintro H
  rw [show 256 * t.val + 16 + 16 + 16 + 16 + 16 + 16 + 16 + 16 + 16 + 16 + 16 + 16 + 16 + 16 + 16 + 16 = 256 * (t.val + 1) by omega]
  rw [wp_pure]; imodintro
  iexact H

set_option maxHeartbeats 4000000 in
/-- A trip of the kernel's loop number 2: row `t` of the position block added to row `t` of the gathered rows. -/
theorem trip2 (d : Dev nD) (E : Set ℕ) (i : grid1.Coords) (arg2 : Memref sig .scVector .hbm S8192x2x128 .f32) (harg2 : arg2.IsWhole) (arg3 : Memref sig .scVector .hbm S8192 .i32) (harg3 : arg3.IsWhole) (arg4 : Memref sig .scVector .hbm S512x256 .f32) (harg4 : arg4.IsWhole) (arg5 : Memref sig .scVector .hbm S8192x2x128 .f32) (harg5 : arg5.IsWhole) (arg6 : Memref sig .scVector .vmem S128 .i32) (harg6 : arg6.IsWhole) (arg7 : Memref sig .scVector .vmem S128 .i32) (harg7 : arg7.IsWhole) (arg8 : Memref sig .scVector .vmem S128x2x128 .f32) (harg8 : arg8.IsWhole) (arg9 : Memref sig .scVector .vmem S128x2x128 .f32) (harg9 : arg9.IsWhole) (arg10 : Memref sig .scVector .vmem S128x256 .f32) (harg10 : arg10.IsWhole) (arg11 : DmaSems sig S_) (arg12 : DmaSems sig S_) (arg13 : DmaSems sig S_) (v16_r0 : DmaSems sig S_) (v16_r1 : DmaSems sig S_) (v16_r2 : DmaSems sig S_) (v16_r3 : DmaSems sig S_) (v16_r4 : DmaSems sig S_)
    (g : S128x2x128.Idx → Elt F .f32) (p : S128x256.Idx → Elt F .f32) (t : Fin k1_t2_loop.trips) (u : Unit) :
    iprop(rowsAt (V d ((i 0).castLE hcore1) ((i 1).castLE hsub1)) arg9 (mix g p (256 * t.val)) ∗ posAt (V d ((i 0).castLE hcore1) ((i 1).castLE hsub1)) arg10 p)
      ⊢ wp frame (wpE (defs₀ (F := F)) 𝒱₀ (V d ((i 0).castLE hcore1) ((i 1).castLE hsub1)) none) E (k1_t2_body (F := F) i arg2 harg2 arg3 harg3 arg4 harg4 arg5 harg5 arg6 harg6 arg7 harg7 arg8 harg8 arg9 harg9 arg10 harg10 arg11 arg12 arg13 v16_r0 v16_r1 v16_r2 v16_r3 v16_r4 t u)
        fun _ => iprop(rowsAt (V d ((i 0).castLE hcore1) ((i 1).castLE hsub1)) arg9 (mix g p (256 * (t.val + 1))) ∗ posAt (V d ((i 0).castLE hcore1) ((i 1).castLE hsub1)) arg10 p) := by
  unfold k1_t2_body
  simp only [k1_part6_eq_skeleton, k1_part7_eq_skeleton, k1_part8_eq_skeleton, k1_part9_eq_skeleton, k1_part10_eq_skeleton, k1_part6_skel, k1_part7_skel, k1_part8_skel, k1_part9_skel, k1_part10_skel, bind_assoc, pure_bind, Prog.bind_lift]
  iintro H
  iapply (group (V d ((i 0).castLE hcore1) ((i 1).castLE hsub1)) arg9 arg10 (defs₀ (F := F)) 𝒱₀ E g p t.val 0 0 (by omega) (by omega) _ _ _ _ (k1_off38_eq t) (k1_off39_eq t)
    _ (by omega) _ _ _ _ _ _ rfl) $$ H
  iintro H
  iapply (group (V d ((i 0).castLE hcore1) ((i 1).castLE hsub1)) arg9 arg10 (defs₀ (F := F)) 𝒱₀ E g p t.val 0 16 (by omega) (by omega) _ _ _ _ (k1_off40_eq t) (k1_off41_eq t)
    _ (by omega) _ _ _ _ _ _ rfl) $$ H
  iintro H
  iapply (group (V d ((i 0).castLE hcore1) ((i 1).castLE hsub1)) arg9 arg10 (defs₀ (F := F)) 𝒱₀ E g p t.val 0 32 (by omega) (by omega) _ _ _ _ (k1_off42_eq t) (k1_off43_eq t)
    _ (by omega) _ _ _ _ _ _ rfl) $$ H
  iintro H
  iapply (group (V d ((i 0).castLE hcore1) ((i 1).castLE hsub1)) arg9 arg10 (defs₀ (F := F)) 𝒱₀ E g p t.val 0 48 (by omega) (by omega) _ _ _ _ (k1_off44_eq t) (k1_off45_eq t)
    _ (by omega) _ _ _ _ _ _ rfl) $$ H
  iintro H
  iapply (group (V d ((i 0).castLE hcore1) ((i 1).castLE hsub1)) arg9 arg10 (defs₀ (F := F)) 𝒱₀ E g p t.val 0 64 (by omega) (by omega) _ _ _ _ (k1_off46_eq t) (k1_off47_eq t)
    _ (by omega) _ _ _ _ _ _ rfl) $$ H
  iintro H
  iapply (group (V d ((i 0).castLE hcore1) ((i 1).castLE hsub1)) arg9 arg10 (defs₀ (F := F)) 𝒱₀ E g p t.val 0 80 (by omega) (by omega) _ _ _ _ (k1_off48_eq t) (k1_off49_eq t)
    _ (by omega) _ _ _ _ _ _ rfl) $$ H
  iintro H
  iapply (group (V d ((i 0).castLE hcore1) ((i 1).castLE hsub1)) arg9 arg10 (defs₀ (F := F)) 𝒱₀ E g p t.val 0 96 (by omega) (by omega) _ _ _ _ (k1_off50_eq t) (k1_off51_eq t)
    _ (by omega) _ _ _ _ _ _ rfl) $$ H
  iintro H
  iapply (group (V d ((i 0).castLE hcore1) ((i 1).castLE hsub1)) arg9 arg10 (defs₀ (F := F)) 𝒱₀ E g p t.val 0 112 (by omega) (by omega) _ _ _ _ (k1_off52_eq t) (k1_off53_eq t)
    _ (by omega) _ _ _ _ _ _ rfl) $$ H
  iintro H
  iapply (group (V d ((i 0).castLE hcore1) ((i 1).castLE hsub1)) arg9 arg10 (defs₀ (F := F)) 𝒱₀ E g p t.val 1 0 (by omega) (by omega) _ _ _ _ (k1_off54_eq t) (k1_off55_eq t)
    _ (by omega) _ _ _ _ _ _ rfl) $$ H
  iintro H
  iapply (group (V d ((i 0).castLE hcore1) ((i 1).castLE hsub1)) arg9 arg10 (defs₀ (F := F)) 𝒱₀ E g p t.val 1 16 (by omega) (by omega) _ _ _ _ (k1_off56_eq t) (k1_off57_eq t)
    _ (by omega) _ _ _ _ _ _ rfl) $$ H
  iintro H
  iapply (group (V d ((i 0).castLE hcore1) ((i 1).castLE hsub1)) arg9 arg10 (defs₀ (F := F)) 𝒱₀ E g p t.val 1 32 (by omega) (by omega) _ _ _ _ (k1_off58_eq t) (k1_off59_eq t)
    _ (by omega) _ _ _ _ _ _ rfl) $$ H
  iintro H
  iapply (group (V d ((i 0).castLE hcore1) ((i 1).castLE hsub1)) arg9 arg10 (defs₀ (F := F)) 𝒱₀ E g p t.val 1 48 (by omega) (by omega) _ _ _ _ (k1_off60_eq t) (k1_off61_eq t)
    _ (by omega) _ _ _ _ _ _ rfl) $$ H
  iintro H
  iapply (group (V d ((i 0).castLE hcore1) ((i 1).castLE hsub1)) arg9 arg10 (defs₀ (F := F)) 𝒱₀ E g p t.val 1 64 (by omega) (by omega) _ _ _ _ (k1_off62_eq t) (k1_off63_eq t)
    _ (by omega) _ _ _ _ _ _ rfl) $$ H
  iintro H
  iapply (group (V d ((i 0).castLE hcore1) ((i 1).castLE hsub1)) arg9 arg10 (defs₀ (F := F)) 𝒱₀ E g p t.val 1 80 (by omega) (by omega) _ _ _ _ (k1_off64_eq t) (k1_off65_eq t)
    _ (by omega) _ _ _ _ _ _ rfl) $$ H
  iintro H
  iapply (group (V d ((i 0).castLE hcore1) ((i 1).castLE hsub1)) arg9 arg10 (defs₀ (F := F)) 𝒱₀ E g p t.val 1 96 (by omega) (by omega) _ _ _ _ (k1_off66_eq t) (k1_off67_eq t)
    _ (by omega) _ _ _ _ _ _ rfl) $$ H
  iintro H
  iapply (group (V d ((i 0).castLE hcore1) ((i 1).castLE hsub1)) arg9 arg10 (defs₀ (F := F)) 𝒱₀ E g p t.val 1 112 (by omega) (by omega) _ _ _ _ (k1_off68_eq t) (k1_off69_eq t)
    _ (by omega) _ _ _ _ _ _ rfl) $$ H
  iintro H
  rw [show 256 * t.val + 16 + 16 + 16 + 16 + 16 + 16 + 16 + 16 + 16 + 16 + 16 + 16 + 16 + 16 + 16 + 16 = 256 * (t.val + 1) by omega]
  rw [wp_pure]; imodintro
  iexact H

end Cert.Proof.WholeRows

end
-- ==== Proof.WholeBody.lean ====
/-
  The distance kernel's body at one grid point: on whole buffers it runs from its windows' blocks and what the point
  before left in the running sum and the two scratch rows to the block's indices and the running sum with the block's
  least distances added. At the first point it first fills the scratch rows (the squared lengths of the codebook's rows,
  and the indices 0 to 8191 as floats) and sets the running sum to zero.
-/
module

public import proofs.«01_k».proof.Proof.WholeRows
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.WordCmp

@[expose] public section

set_option maxRecDepth 16384

noncomputable section

namespace Cert.Proof.WholeRows

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The body's branch: whether the point is the grid's first. -/
abbrev first (i : grid0.Coords) : Prop :=
  (Scalar.cmpi .ne (Scalar.extui (Scalar.cmpi .eq (BitVec.ofNat 32 (i 0).val) 0#32)) 0#32) = 1#1

set_option maxHeartbeats 1000000 in
theorem body_later (c : Dev nD) (i : grid0.Coords) (arg1 : Memref sig .tc .vmem S256x129 .f32) (harg1 : arg1.IsWhole) (arg2 : Memref sig .tc .vmem S256x129 .f32) (harg2 : arg2.IsWhole) (arg3 : Memref sig .tc .vmem S1x256 .f32) (harg3 : arg3.IsWhole) (arg4 : Memref sig .tc .vmem S8192x256 .f32) (harg4 : arg4.IsWhole) (arg5 : Memref sig .tc .vmem S8192x256 .bf16) (harg5 : arg5.IsWhole) (arg6 : Memref sig .tc .vmem S256 .i32) (harg6 : arg6.IsWhole) (arg7 : Memref sig .tc .vmem S1x1 .f32) (harg7 : arg7.IsWhole) (arg8 : Memref sig .tc .vmem S1x8192 .f32) (harg8 : arg8.IsWhole) (arg9 : Memref sig .tc .vmem S256x8192 .f32) (harg9 : arg9.IsWhole) (hc0 : ¬ first i)
    (x0 : Vec F S256x129 .f32) (x1 : Vec F S256x129 .f32) (x2 : Vec F S1x256 .f32) (x3 : Vec F S8192x256 .f32) (x4 : Vec F S8192x256 .bf16)
    (l : Vec F S1x1 .f32) (e : Vec F S1x8192 .f32) (n : Vec F S256x8192 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare l ∗ owns (c : Thread nD τ) arg8 fullShare e ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay7 x0 x1 x2 x4 e n) ∗ owns (c : Thread nD τ) arg7 fullShare (k0_pay1 (k0_pay6 x0 x1 x2 x4 e) l)
            ∗ owns (c : Thread nD τ) arg8 fullShare e ∗ owns (c : Thread nD τ) arg9 fullShare n) -∗ Q ⟨⟩))
      ⊢ wp frame (wpE (defs₀ (F := F)) 𝒱₀ c none) E (cc0__tc_body i arg1 harg1 arg2 harg2 arg3 harg3 arg4 harg4 arg5 harg5 arg6 harg6 arg7 harg7 arg8 harg8 arg9 harg9) Q := by
  simp only [cc0__tc_body_eq_skeleton]; unfold cc0__tc_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6; obtain rfl := harg8.eq_unread hf7; obtain rfl := harg9.eq_unread hf8
  have r1 : View.readAt (Elt F) arg1.view (Rect.unit ![0, 0] S256x129.size inb_S256x129_S256x129_0_0).toLoadRect (harg1.unread x0) = x0 := (View.readAt_full _ _ _).trans (harg1.read_unread _)
  have r2 : View.readAt (Elt F) arg2.view (Rect.unit ![0, 0] S256x129.size inb_S256x129_S256x129_0_0).toLoadRect (harg2.unread x1) = x1 := (View.readAt_full _ _ _).trans (harg2.read_unread _)
  have r3 : View.readAt (Elt F) arg3.view (Rect.unit ![0, 0] S1x256.size inb_S1x256_S1x256_0_0).toLoadRect (harg3.unread x2) = x2 := (View.readAt_full _ _ _).trans (harg3.read_unread _)
  have r4 : View.readAt (Elt F) arg4.view (Rect.unit ![0, 0] S8192x256.size inb_S8192x256_S8192x256_0_0).toLoadRect (harg4.unread x3) = x3 := (View.readAt_full _ _ _).trans (harg4.read_unread _)
  have r5 : View.readAt (Elt F) arg5.view (Rect.unit ![0, 0] S8192x256.size inb_S8192x256_S8192x256_0_0).toLoadRect (harg5.unread x4) = x4 := (View.readAt_full _ _ _).trans (harg5.read_unread _)
  have r7 : View.readAt (Elt F) arg7.view (Rect.unit ![0, 0] S1x1.size inb_S1x1_S1x1_0_0).toLoadRect (harg7.unread l) = l := (View.readAt_full _ _ _).trans (harg7.read_unread _)
  have r8 : View.readAt (Elt F) arg8.view (Rect.unit ![0, 0] S1x8192.size inb_S1x8192_S1x8192_0_0).toLoadRect (harg8.unread e) = e := (View.readAt_full _ _ _).trans (harg8.read_unread _)
  have r9 : View.readAt (Elt F) arg9.view (Rect.unit ![0, 0] S256x8192.size inb_S256x8192_S256x8192_0_0).toLoadRect (harg9.unread n) = n := (View.readAt_full _ _ _).trans (harg9.read_unread _)
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    exact View.read_writes_full arg6.view _ _ _ _
  isplitl [H6]
  · iexists _; isplitr
    swap; · iexact H6
    ipureintro
    exact View.read_writes_full arg7.view _ _ _ _
  isplitl [H7]
  · iexists _; isplitr; · ipureintro; exact harg8.read_unread _
    iexact H7
  iexists _; isplitr; · ipureintro; exact harg9.read_unread _
  iexact H8

set_option maxHeartbeats 1000000 in
theorem body_first (c : Dev nD) (i : grid0.Coords) (arg1 : Memref sig .tc .vmem S256x129 .f32) (harg1 : arg1.IsWhole) (arg2 : Memref sig .tc .vmem S256x129 .f32) (harg2 : arg2.IsWhole) (arg3 : Memref sig .tc .vmem S1x256 .f32) (harg3 : arg3.IsWhole) (arg4 : Memref sig .tc .vmem S8192x256 .f32) (harg4 : arg4.IsWhole) (arg5 : Memref sig .tc .vmem S8192x256 .bf16) (harg5 : arg5.IsWhole) (arg6 : Memref sig .tc .vmem S256 .i32) (harg6 : arg6.IsWhole) (arg7 : Memref sig .tc .vmem S1x1 .f32) (harg7 : arg7.IsWhole) (arg8 : Memref sig .tc .vmem S1x8192 .f32) (harg8 : arg8.IsWhole) (arg9 : Memref sig .tc .vmem S256x8192 .f32) (harg9 : arg9.IsWhole) (hc0 : first i)
    (x0 : Vec F S256x129 .f32) (x1 : Vec F S256x129 .f32) (x2 : Vec F S1x256 .f32) (x3 : Vec F S8192x256 .f32) (x4 : Vec F S8192x256 .bf16)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay7 x0 x1 x2 x4 (k0_pay2 x3) (k0_pay4 (F := F))) ∗ owns (c : Thread nD τ) arg7 fullShare (k0_pay1 (k0_pay6 x0 x1 x2 x4 (k0_pay2 x3)) (k0_pay3 (F := F)))
            ∗ owns (c : Thread nD τ) arg8 fullShare (k0_pay2 x3) ∗ owns (c : Thread nD τ) arg9 fullShare (k0_pay4 (F := F))) -∗ Q ⟨⟩))
      ⊢ wp frame (wpE (defs₀ (F := F)) 𝒱₀ c none) E (cc0__tc_body i arg1 harg1 arg2 harg2 arg3 harg3 arg4 harg4 arg5 harg5 arg6 harg6 arg7 harg7 arg8 harg8 arg9 harg9) Q := by
  simp only [cc0__tc_body_eq_skeleton]; unfold cc0__tc_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4
  have r1 : View.readAt (Elt F) arg1.view (Rect.unit ![0, 0] S256x129.size inb_S256x129_S256x129_0_0).toLoadRect (harg1.unread x0) = x0 := (View.readAt_full _ _ _).trans (harg1.read_unread _)
  have r2 : View.readAt (Elt F) arg2.view (Rect.unit ![0, 0] S256x129.size inb_S256x129_S256x129_0_0).toLoadRect (harg2.unread x1) = x1 := (View.readAt_full _ _ _).trans (harg2.read_unread _)
  have r3 : View.readAt (Elt F) arg3.view (Rect.unit ![0, 0] S1x256.size inb_S1x256_S1x256_0_0).toLoadRect (harg3.unread x2) = x2 := (View.readAt_full _ _ _).trans (harg3.read_unread _)
  have r4 : View.readAt (Elt F) arg4.view (Rect.unit ![0, 0] S8192x256.size inb_S8192x256_S8192x256_0_0).toLoadRect (harg4.unread x3) = x3 := (View.readAt_full _ _ _).trans (harg4.read_unread _)
  have r5 : View.readAt (Elt F) arg5.view (Rect.unit ![0, 0] S8192x256.size inb_S8192x256_S8192x256_0_0).toLoadRect (harg5.unread x4) = x4 := (View.readAt_full _ _ _).trans (harg5.read_unread _)
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  have q8 : body_first.sl.v22 c arg8 x3 = k0_pay2 x3 := View.readCov_full arg8.view _ _ _ _
  have q9 : body_first.sl.v29 c arg9 = k0_pay4 (F := F) := View.readCov_full arg9.view _ _ _ _
  have q7 : body_first.sl.v35 c arg7 = k0_pay3 (F := F) := View.readCov_full arg7.view _ _ _ _
  isplitl [H5]
  · iexists _; isplitr
    swap; · iexact H5
    ipureintro
    refine (View.read_writes_full arg6.view _ _ _ _).trans ?_
    rw [q8, q9]
  isplitl [H6]
  · iexists _; isplitr
    swap; · iexact H6
    ipureintro
    refine (View.read_writes_full arg7.view _ _ _ _).trans ?_
    unfold body_first.sl.r
    rw [q8, q7]
  isplitl [H7]
  · iexists _; isplitr
    swap; · iexact H7
    ipureintro
    exact View.read_writes_full arg8.view _ _ _ _
  iexists _; isplitr
  swap; · iexact H8
  ipureintro
  exact View.read_writes_full arg9.view _ _ _ _

end Cert.Proof.WholeRows

end
-- ==== Proof.WholeTile.lean ====
/-
  One tile of the SparseCore call: what the launch deals it (read shares of the indices, the table and the position
  rows, its two blocks of 128 rows of the result), the run of its body, and what it hands back — the two blocks holding
  the gathered rows plus the position rows.
-/
module

public import proofs.«01_k».proof.Proof.WholeRows

@[expose] public section

noncomputable section

namespace Cert.Proof.WholeRows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-! ## The arrays of the call -/

abbrev xLoc (d : Dev nD) : Loc nD τ sig := (SparseCore.T d).loc main_v5
abbrev iLoc (d : Dev nD) : Loc nD τ sig := (SparseCore.T d).loc main_v4_0
abbrev pLoc (d : Dev nD) : Loc nD τ sig := (SparseCore.T d).loc main_v2
abbrev oLoc (d : Dev nD) : Loc nD τ sig := (SparseCore.T d).loc main_v6

local notation "xV" => (Memref.whole Cert.KernelIdeal.main_v5_scv : Memref Cert.KernelIdeal.sig Kind.scVector Space.hbm Cert.KernelIdeal.S8192x2x128 EltTy.f32)
local notation "iV" => (Memref.whole Cert.KernelIdeal.main_v4_0_scv : Memref Cert.KernelIdeal.sig Kind.scVector Space.hbm Cert.KernelIdeal.S8192 EltTy.i32)
local notation "pV" => (Memref.whole Cert.KernelIdeal.main_v2_scv : Memref Cert.KernelIdeal.sig Kind.scVector Space.hbm Cert.KernelIdeal.S512x256 EltTy.f32)
local notation "oV" => (Memref.whole Cert.KernelIdeal.main_v6_scv : Memref Cert.KernelIdeal.sig Kind.scVector Space.hbm Cert.KernelIdeal.S8192x2x128 EltTy.f32)
local notation "aV" => (Memref.whole Cert.KernelIdeal.cc1_scratch0 : Memref Cert.KernelIdeal.sig Kind.scVector Space.vmem Cert.KernelIdeal.S128 EltTy.i32)
local notation "bV" => (Memref.whole Cert.KernelIdeal.cc1_scratch1 : Memref Cert.KernelIdeal.sig Kind.scVector Space.vmem Cert.KernelIdeal.S128 EltTy.i32)
local notation "rV" => (Memref.whole Cert.KernelIdeal.cc1_scratch2 : Memref Cert.KernelIdeal.sig Kind.scVector Space.vmem Cert.KernelIdeal.S128x2x128 EltTy.f32)
local notation "sV" => (Memref.whole Cert.KernelIdeal.cc1_scratch3 : Memref Cert.KernelIdeal.sig Kind.scVector Space.vmem Cert.KernelIdeal.S128x2x128 EltTy.f32)
local notation "qV" => (Memref.whole Cert.KernelIdeal.cc1_scratch4 : Memref Cert.KernelIdeal.sig Kind.scVector Space.vmem Cert.KernelIdeal.S128x256 EltTy.f32)

/-- The number of the block of 128 rows that tile `(c, s)` writes `k`-th. -/
abbrev rowOf (c s k : ℕ) : ℕ := 512 * s + 256 * c + 128 * k

variable [FloatOps F]

/-- Row `y 0` of the result: the table's row at the row's index, plus the position row `y 0 mod 512`. -/
def outVal (X : S8192x2x128.Idx → Elt F .f32) (I : S8192.Idx → Elt F .i32) (P : S512x256.Idx → Elt F .f32) : S8192x2x128.Idx → Elt F .f32 := fun y =>
  FloatOps.addf
    (X (ix3 (n0 := 8192) (n1 := 2) (n2 := 128) ⟨(I (ix1 (n0 := 8192) (y 0))).toNat % 8192, Nat.mod_lt _ (by decide)⟩ (y 1) (y 2)))
    (P (ix2 (n0 := 512) (n1 := 256) ⟨(y 0).val % 512, Nat.mod_lt _ (by decide)⟩ ⟨128 * (y 1).val + (y 2).val, by
      have h1 : (y 1).val < 2 := (y 1).isLt
      have h2 : (y 2).val < 128 := (y 2).isLt
      omega⟩))

variable (X : (d : Dev nD) → Buf (Elt F) (xLoc d)) (I : (d : Dev nD) → Buf (Elt F) (iLoc d)) (P : (d : Dev nD) → Buf (Elt F) (pLoc d))

/-- What the proof asks of the indices: every one is below 8192. -/
def InRange : Prop := ∀ (d : Dev nD) (j : S8192.Idx), (I d j : BitVec 32).toNat < 8192

section Tile

variable (d : Dev nD) (L : grid1.Coords)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

/-- The windows of the arrays as the body slices them. -/
abbrev iA (L : grid1.Coords) : Memref sig .scVector .hbm S128 .i32 := (iV).slice (Rect.unit (s := S8192) (k1_off1 L) S128.size (k1_off1_inb L)) (fun _ => rfl)
abbrev iB (L : grid1.Coords) : Memref sig .scVector .hbm S128 .i32 := (iV).slice (Rect.unit (s := S8192) (k1_off2 L) S128.size (k1_off2_inb L)) (fun _ => rfl)
abbrev pA (L : grid1.Coords) : Memref sig .scVector .hbm S128x256 .f32 := (pV).slice (Rect.unit (s := S512x256) (k1_off3 L) S128x256.size (k1_off3_inb L)) (fun _ => rfl)
abbrev pB (L : grid1.Coords) : Memref sig .scVector .hbm S128x256 .f32 := (pV).slice (Rect.unit (s := S512x256) (k1_off37 L) S128x256.size (k1_off37_inb L)) (fun _ => rfl)
abbrev oA (L : grid1.Coords) : Memref sig .scVector .hbm S128x2x128 .f32 := (oV).slice (Rect.unit (s := S8192x2x128) (k1_off36 L) S128x2x128.size (k1_off36_inb L)) (fun _ => rfl)
abbrev oB (L : grid1.Coords) : Memref sig .scVector .hbm S128x2x128 .f32 := (oV).slice (Rect.unit (s := S8192x2x128) (k1_off70 L) S128x2x128.size (k1_off70_inb L)) (fun _ => rfl)

/-- The eight cells the body names. -/
def dsem : Fin 8 → DmaSem sig := ![cc1_scratch5.sem, cc1_scratch6.sem, cc1_scratch7.sem, cc1_scoped0.sem, cc1_scoped1.sem, cc1_scoped2.sem, cc1_scoped3.sem, cc1_scoped4.sem]
abbrev dcell (d : Dev nD) (c : Fin τ.nSC) (i : Fin τ.nSub) (k : Fin 8) : GSem nD τ sig := (V d c i, .dma (dsem k))
abbrev cells0 (d : Dev nD) (L : grid1.Coords) : sProp 𝕄 :=
  iprop(semVal (VT d L, SemLoc.dma cc1_scratch5.sem) 0 ∗ semVal (VT d L, SemLoc.dma cc1_scratch6.sem) 0 ∗ semVal (VT d L, SemLoc.dma cc1_scratch7.sem) 0
    ∗ semVal (VT d L, SemLoc.dma cc1_scoped0.sem) 0 ∗ semVal (VT d L, SemLoc.dma cc1_scoped1.sem) 0 ∗ semVal (VT d L, SemLoc.dma cc1_scoped2.sem) 0
    ∗ semVal (VT d L, SemLoc.dma cc1_scoped3.sem) 0 ∗ semVal (VT d L, SemLoc.dma cc1_scoped4.sem) 0)

omit [FloatOps F] in
theorem dcell_mem (c : Fin τ.nSC) (i : Fin τ.nSub) (k : Fin 8) : dcell d c i k ∈ ownCells (V d c i) :=
  mem_ownCells.mpr ⟨rfl, (show ∀ k : Fin 8, (SemLoc.dma (dsem k) : SemLoc sig).isScoped .scVector = true by decide) _⟩
omit [FloatOps F] in
theorem dsem_inj : ∀ a b : Fin 8, dsem a = dsem b → a = b := by decide

omit [FloatOps F] in
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq] at this; exact dsem_inj a b this)]
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

abbrev dref (L : grid1.Coords) (b : Ref sig .scVector) : DevRef τ sig := (Proc.scVector (cV L) (jV L)).devRef b
/-- The subcore's own buffers other than the five the body names. -/
abbrev restRefs (L : grid1.Coords) : Finset (DevRef τ sig) :=
  (((((ownRefs (τ := τ) (.scVector (cV L) (jV L))).erase (dref L cc1_scratch0)).erase (dref L cc1_scratch1)).erase
    (dref L cc1_scratch2)).erase (dref L cc1_scratch3)).erase (dref L cc1_scratch4)

omit [FloatOps F] in
theorem dref_ne (a b : Ref sig .scVector) (h : a ≠ b) : dref L a ≠ dref L b := fun e => h (Proc.devRef_injective _ e)

omit [FloatOps F] in
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ (∃ f, (VT d L).loc cc1_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := dref L cc1_scratch0) rfl)).trans ?_
  rw [SparseCore.bigSep_erase' (Finset.mem_erase.mpr ⟨dref_ne L cc1_scratch1 cc1_scratch0 (by decide),
      SparseCore.Cfg.mem_ownRefs_of_owner (p := Proc.scVector (cV L) (jV L)) (b := dref L cc1_scratch1) rfl⟩),
    SparseCore.bigSep_erase' (Finset.mem_erase.mpr ⟨dref_ne L cc1_scratch2 cc1_scratch1 (by decide), Finset.mem_erase.mpr ⟨dref_ne L cc1_scratch2 cc1_scratch0 (by decide),
      SparseCore.Cfg.mem_ownRefs_of_owner (p := Proc.scVector (cV L) (jV L)) (b := dref L cc1_scratch2) rfl⟩⟩),
    SparseCore.bigSep_erase' (Finset.mem_erase.mpr ⟨dref_ne L cc1_scratch3 cc1_scratch2 (by decide), Finset.mem_erase.mpr ⟨dref_ne L cc1_scratch3 cc1_scratch1 (by decide),
      Finset.mem_erase.mpr ⟨dref_ne L cc1_scratch3 cc1_scratch0 (by decide),
      SparseCore.Cfg.mem_ownRefs_of_owner (p := Proc.scVector (cV L) (jV L)) (b := dref L cc1_scratch3) rfl⟩⟩⟩),
    SparseCore.bigSep_erase' (Finset.mem_erase.mpr ⟨dref_ne L cc1_scratch4 cc1_scratch3 (by decide), Finset.mem_erase.mpr ⟨dref_ne L cc1_scratch4 cc1_scratch2 (by decide),
      Finset.mem_erase.mpr ⟨dref_ne L cc1_scratch4 cc1_scratch1 (by decide), Finset.mem_erase.mpr ⟨dref_ne L cc1_scratch4 cc1_scratch0 (by decide),
      SparseCore.Cfg.mem_ownRefs_of_owner (p := Proc.scVector (cV L) (jV L)) (b := dref L cc1_scratch4) rfl⟩⟩⟩⟩)]

omit [FloatOps F] in
theorem read_iA (x : S128.Idx) : (iA L).view.read (Elt F) (I d) x = I d ((iA L).view.emb x) := (View.read_apply _ _).trans (cast_eq _ _)
omit [FloatOps F] in
theorem read_iB (x : S128.Idx) : (iB L).view.read (Elt F) (I d) x = I d ((iB L).view.emb x) := (View.read_apply _ _).trans (cast_eq _ _)

omit [FloatOps F] in
theorem inA (hI : InRange I) (g : Buf (Elt F) ((aV).view.loc (VT d L))) (pay : S128.Idx → Elt F .i32) (hpay : pay = ReadAs.same.apply ((iA L).view.read (Elt F) (I d))) :
    ∀ x, (View.read (Elt F) (aV).view ((aV).view.writes (Elt F) g [⟨Rect.whole cc1_scratch0.ty.shape, pay⟩]) x).toNat < 8192 := by
  subst hpay; intro x
  rw [View.read_writes_whole]
  show (((iA L).view.read (Elt F) (I d)) x : BitVec 32).toNat < 8192
  rw [read_iA]; exact hI d _
omit [FloatOps F] in
theorem inB (hI : InRange I) (g : Buf (Elt F) ((bV).view.loc (VT d L))) (pay : S128.Idx → Elt F .i32) (hpay : pay = ReadAs.same.apply ((iB L).view.read (Elt F) (I d))) :
    ∀ x, (View.read (Elt F) (bV).view ((bV).view.writes (Elt F) g [⟨Rect.whole cc1_scratch1.ty.shape, pay⟩]) x).toNat < 8192 := by
  subst hpay; intro x
  rw [View.read_writes_whole]
  show (((iB L).view.read (Elt F) (I d)) x : BitVec 32).toNat < 8192
  rw [read_iB]; exact hI d _

/-- The position rows of the first block, of the second. -/
abbrev pvA : S128x256.Idx → Elt F .f32 := (pA L).view.read (Elt F) (P d)
abbrev pvB : S128x256.Idx → Elt F .f32 := (pB L).view.read (Elt F) (P d)

omit [FloatOps F] in
/-- What an indexed copy of whole rows delivers, index by index. -/
theorem gather_rows (x1 : S8192x2x128.Idx → Elt F .f32) (idx : S128.Idx → Elt F .i32) (hn : S128.numel = 128) (h : ∀ x, (idx x).toNat < 8192) (y : S128x2x128.Idx) :
    SparseCore.gatherPayload gathers_S8192x2x128_S128x2x128 x1 (SparseCore.rows (o := 128) (z := 8192) idx hn h) y
      = x1 (ix3 (n0 := 8192) (n1 := 2) (n2 := 128) ⟨(idx (ix1 (n0 := 128) (y 0))).toNat, h _⟩ (y 1) (y 2)) := by
  unfold SparseCore.gatherPayload
  refine congrArg x1 (funext fun b => Fin.ext ?_)
  match b with
  | 0 => refine (congrArg Fin.val (Shape.Gathers.idx_axis gathers_S8192x2x128_S128x2x128 (SparseCore.rows (o := 128) (z := 8192) idx hn h) y)).trans ?_
         show (idx (S128.rowMajor.symm ((y 0).cast _))).toNat = (idx (ix1 (n0 := 128) (y 0))).toNat
         refine congrArg (fun j => (idx j).toNat) ?_
         rw [Equiv.symm_apply_eq]
         refine Fin.ext ?_
         rw [Shape.rowMajor_val_one]; rfl
  | 1 => exact Shape.Gathers.idx_of_ne gathers_S8192x2x128_S128x2x128 _ y 1 (by decide)
  | 2 => exact Shape.Gathers.idx_of_ne gathers_S8192x2x128_S128x2x128 _ y 2 (by decide)

omit [FloatOps F] in
theorem idxA (x : Fin 128) : ∃ h : rowOf (L 0).val (L 1).val 0 + x.val < 8192,
    (iA L).view.emb (ix1 (n0 := 128) x) = (ix1 (n0 := 8192) ⟨rowOf (L 0).val (L 1).val 0 + x.val, h⟩ : S8192.Idx) := by
  have hv : ((iA L).view.emb (ix1 (n0 := 128) x) 0 : ℕ) = rowOf (L 0).val (L 1).val 0 + x.val := by
    show (k1_off1 L) 0 + 1 * x.val = _
    rw [k1_off1_eq]; show 512 * (L 1).val + 256 * (L 0).val + 1 * x.val = _
    unfold rowOf; omega
  have h : rowOf (L 0).val (L 1).val 0 + x.val < 8192 := hv ▸ ((iA L).view.emb (ix1 (n0 := 128) x) 0).isLt
  exact ⟨h, by funext b; match b with | 0 => exact Fin.ext hv⟩

omit [FloatOps F] in
/-- The gathered rows of the block: row `y 0` is the table's row at the block's index `y 0`. -/
theorem gathA (hI : InRange I) (pay : S128.Idx → Elt F .i32) (hpay : pay = ReadAs.same.apply ((iA L).view.read (Elt F) (I d)))
    (idx : S128.Idx → Elt F .i32) (hidx : idx = pay) (hn : S128.numel = 128) (h : ∀ x, (idx x).toNat < 8192) (y : S128x2x128.Idx) :
    SparseCore.gatherPayload gathers_S8192x2x128_S128x2x128
        (((xV).slice (Rect.unit (s := S8192x2x128) ![0, 0, 0] S8192x2x128.size inb_S8192x2x128_S8192x2x128_0_0_0) (fun _ => rfl)).view.read (Elt F) (X d))
        (SparseCore.rows (o := 128) (z := 8192) idx hn h) y
      = X d (ix3 (n0 := 8192) (n1 := 2) (n2 := 128) ⟨(I d ((iA L).view.emb (ix1 (n0 := 128) (y 0)))).toNat % 8192, Nat.mod_lt _ (by decide)⟩ (y 1) (y 2)) := by
  rw [gather_rows]
  have e : idx (ix1 (n0 := 128) (y 0)) = I d ((iA L).view.emb (ix1 (n0 := 128) (y 0))) := by
    rw [hidx, hpay]; exact read_iA I d L _
  refine (View.read_apply _ _).trans ((cast_eq _ _).trans ?_)
  refine congrArg (X d) (funext fun b => Fin.ext ?_)
  match b with
  | 0 => show 0 + 1 * (idx (ix1 (n0 := 128) (y 0))).toNat = (I d ((iA L).view.emb (ix1 (n0 := 128) (y 0)))).toNat % 8192
         rw [e, Nat.mod_eq_of_lt (hI d _)]; omega
  | 1 => show 0 + 1 * (y 1).val = (y 1).val; omega
  | 2 => show 0 + 1 * (y 2).val = (y 2).val; omega

/-- The block of the result, written with the sums, holds the result's values. -/
theorem outA (oo : Buf (Elt F) (oLoc d)) (pay : S128x2x128.Idx → Elt F .f32) (g : S128x2x128.Idx → Elt F .f32) (p : S128x256.Idx → Elt F .f32)
    (hpay : pay = fun y => FloatOps.addf (g y) (p (posIx y)))
    (hg : ∀ y, g y = X d (ix3 (n0 := 8192) (n1 := 2) (n2 := 128) ⟨(I d ((iA L).view.emb (ix1 (n0 := 128) (y 0)))).toNat % 8192, Nat.mod_lt _ (by decide)⟩ (y 1) (y 2)))
    (hp : p = ReadAs.same.apply ((pA L).view.read (Elt F) (P d))) (b : S8192x2x128.Idx) (hb : b ∈ (oA L).view.set) :
    (oA L).view.writes (Elt F) oo [⟨Rect.whole S128x2x128, pay⟩] b = outVal (X d) (I d) (P d) b := by
  obtain ⟨y, -, rfl⟩ := Finset.mem_map.mp hb
  have hr : (oA L).view.read (Elt F) ((oA L).view.writes (Elt F) oo [⟨Rect.whole S128x2x128, pay⟩]) y = pay y := congrFun (View.read_writes_whole _ _ _) y
  refine Eq.trans ?_ (hr.trans ?_)
  · exact ((View.read_apply _ _).trans (cast_eq _ _)).symm
  have e0 : ((oA L).view.emb y 0 : ℕ) = rowOf (L 0).val (L 1).val 0 + (y 0).val := by
    show (k1_off36 L) 0 + 1 * (y 0).val = _
    rw [k1_off36_eq]; show 512 * (L 1).val + 256 * (L 0).val + 1 * (y 0).val = _
    unfold rowOf; omega
  have e1 : ((oA L).view.emb y 1 : ℕ) = (y 1).val := by
    show (k1_off36 L) 1 + 1 * (y 1).val = _
    rw [k1_off36_eq]; show 0 + 1 * (y 1).val = _; omega
  have e2 : ((oA L).view.emb y 2 : ℕ) = (y 2).val := by
    show (k1_off36 L) 2 + 1 * (y 2).val = _
    rw [k1_off36_eq]; show 0 + 1 * (y 2).val = _; omega
  have b0 : (L 0).val < 2 := (L 0).isLt
  have b1 : (L 1).val < 16 := (L 1).isLt
  have b2 : (y 0).val < 128 := (y 0).isLt
  obtain ⟨hlt, hix⟩ := idxA L (y 0)
  subst hpay
  refine congrArg₂ FloatOps.addf ?_ ?_
  · refine (hg y).trans ?_
    rw [hix]
    refine congrArg (X d) (funext fun a => Fin.ext ?_)
    match a with
    | 0 => refine congrArg (fun j => (I d j).toNat % 8192) ?_
           refine funext fun c => Fin.ext ?_
           match c with | 0 => exact e0.symm
    | 1 => exact e1.symm
    | 2 => exact e2.symm
  · rw [hp]
    refine (View.read_apply _ _).trans ((cast_eq _ _).trans ?_)
    refine congrArg (P d) (funext fun a => Fin.ext ?_)
    match a with
    | 0 => show (k1_off3 L) 0 + 1 * (y 0).val = ((oA L).view.emb y 0 : ℕ) % 512
           rw [e0, k1_off3_eq]; show (512 * (L 1).val + 256 * (L 0).val) % 512 + 1 * (y 0).val = _
           unfold rowOf; omega
    | 1 => show (k1_off3 L) 1 + 1 * (128 * (y 1).val + (y 2).val) = 128 * ((oA L).view.emb y 1 : ℕ) + ((oA L).view.emb y 2 : ℕ)
           rw [e1, e2, k1_off3_eq]; show 0 + 1 * (128 * (y 1).val + (y 2).val) = _; omega

omit [FloatOps F] in
theorem idxB (x : Fin 128) : ∃ h : rowOf (L 0).val (L 1).val 1 + x.val < 8192,
    (iB L).view.emb (ix1 (n0 := 128) x) = (ix1 (n0 := 8192) ⟨rowOf (L 0).val (L 1).val 1 + x.val, h⟩ : S8192.Idx) := by
  have hv : ((iB L).view.emb (ix1 (n0 := 128) x) 0 : ℕ) = rowOf (L 0).val (L 1).val 1 + x.val := by
    show (k1_off2 L) 0 + 1 * x.val = _
    rw [k1_off2_eq]; show 512 * (L 1).val + 256 * (L 0).val + 128 + 1 * x.val = _
    unfold rowOf; omega
  have h : rowOf (L 0).val (L 1).val 1 + x.val < 8192 := hv ▸ ((iB L).view.emb (ix1 (n0 := 128) x) 0).isLt
  exact ⟨h, by funext b; match b with | 0 => exact Fin.ext hv⟩

omit [FloatOps F] in
/-- The gathered rows of the block: row `y 0` is the table's row at the block's index `y 0`. -/
theorem gathB (hI : InRange I) (pay : S128.Idx → Elt F .i32) (hpay : pay = ReadAs.same.apply ((iB L).view.read (Elt F) (I d)))
    (idx : S128.Idx → Elt F .i32) (hidx : idx = pay) (hn : S128.numel = 128) (h : ∀ x, (idx x).toNat < 8192) (y : S128x2x128.Idx) :
    SparseCore.gatherPayload gathers_S8192x2x128_S128x2x128
        (((xV).slice (Rect.unit (s := S8192x2x128) ![0, 0, 0] S8192x2x128.size inb_S8192x2x128_S8192x2x128_0_0_0) (fun _ => rfl)).view.read (Elt F) (X d))
        (SparseCore.rows (o := 128) (z := 8192) idx hn h) y
      = X d (ix3 (n0 := 8192) (n1 := 2) (n2 := 128) ⟨(I d ((iB L).view.emb (ix1 (n0 := 128) (y 0)))).toNat % 8192, Nat.mod_lt _ (by decide)⟩ (y 1) (y 2)) := by
  rw [gather_rows]
  have e : idx (ix1 (n0 := 128) (y 0)) = I d ((iB L).view.emb (ix1 (n0 := 128) (y 0))) := by
    rw [hidx, hpay]; exact read_iB I d L _
  refine (View.read_apply _ _).trans ((cast_eq _ _).trans ?_)
  refine congrArg (X d) (funext fun b => Fin.ext ?_)
  match b with
  | 0 => show 0 + 1 * (idx (ix1 (n0 := 128) (y 0))).toNat = (I d ((iB L).view.emb (ix1 (n0 := 128) (y 0)))).toNat % 8192
         rw [e, Nat.mod_eq_of_lt (hI d _)]; omega
  | 1 => show 0 + 1 * (y 1).val = (y 1).val; omega
  | 2 => show 0 + 1 * (y 2).val = (y 2).val; omega

/-- The block of the result, written with the sums, holds the result's values. -/
theorem outB (oo : Buf (Elt F) (oLoc d)) (pay : S128x2x128.Idx → Elt F .f32) (g : S128x2x128.Idx → Elt F .f32) (p : S128x256.Idx → Elt F .f32)
    (hpay : pay = fun y => FloatOps.addf (g y) (p (posIx y)))
    (hg : ∀ y, g y = X d (ix3 (n0 := 8192) (n1 := 2) (n2 := 128) ⟨(I d ((iB L).view.emb (ix1 (n0 := 128) (y 0)))).toNat % 8192, Nat.mod_lt _ (by decide)⟩ (y 1) (y 2)))
    (hp : p = ReadAs.same.apply ((pB L).view.read (Elt F) (P d))) (b : S8192x2x128.Idx) (hb : b ∈ (oB L).view.set) :
    (oB L).view.writes (Elt F) oo [⟨Rect.whole S128x2x128, pay⟩] b = outVal (X d) (I d) (P d) b := by
  obtain ⟨y, -, rfl⟩ := Finset.mem_map.mp hb
  have hr : (oB L).view.read (Elt F) ((oB L).view.writes (Elt F) oo [⟨Rect.whole S128x2x128, pay⟩]) y = pay y := congrFun (View.read_writes_whole _ _ _) y
  refine Eq.trans ?_ (hr.trans ?_)
  · exact ((View.read_apply _ _).trans (cast_eq _ _)).symm
  have e0 : ((oB L).view.emb y 0 : ℕ) = rowOf (L 0).val (L 1).val 1 + (y 0).val := by
    show (k1_off70 L) 0 + 1 * (y 0).val = _
    rw [k1_off70_eq]; show 512 * (L 1).val + 256 * (L 0).val + 128 + 1 * (y 0).val = _
    unfold rowOf; omega
  have e1 : ((oB L).view.emb y 1 : ℕ) = (y 1).val := by
    show (k1_off70 L) 1 + 1 * (y 1).val = _
    rw [k1_off70_eq]; show 0 + 1 * (y 1).val = _; omega
  have e2 : ((oB L).view.emb y 2 : ℕ) = (y 2).val := by
    show (k1_off70 L) 2 + 1 * (y 2).val = _
    rw [k1_off70_eq]; show 0 + 1 * (y 2).val = _; omega
  have b0 : (L 0).val < 2 := (L 0).isLt
  have b1 : (L 1).val < 16 := (L 1).isLt
  have b2 : (y 0).val < 128 := (y 0).isLt
  obtain ⟨hlt, hix⟩ := idxB L (y 0)
  subst hpay
  refine congrArg₂ FloatOps.addf ?_ ?_
  · refine (hg y).trans ?_
    rw [hix]
    refine congrArg (X d) (funext fun a => Fin.ext ?_)
    match a with
    | 0 => refine congrArg (fun j => (I d j).toNat % 8192) ?_
           refine funext fun c => Fin.ext ?_
           match c with | 0 => exact e0.symm
    | 1 => exact e1.symm
    | 2 => exact e2.symm
  · rw [hp]
    refine (View.read_apply _ _).trans ((cast_eq _ _).trans ?_)
    refine congrArg (P d) (funext fun a => Fin.ext ?_)
    match a with
    | 0 => show (k1_off37 L) 0 + 1 * (y 0).val = ((oB L).view.emb y 0 : ℕ) % 512
           rw [e0, k1_off37_eq]; show (512 * (L 1).val + 256 * (L 0).val + 128) % 512 + 1 * (y 0).val = _
           unfold rowOf; omega
    | 1 => show (k1_off37 L) 1 + 1 * (128 * (y 1).val + (y 2).val) = 128 * ((oB L).view.emb y 1 : ℕ) + ((oB L).view.emb y 2 : ℕ)
           rw [e1, e2, k1_off37_eq]; show 0 + 1 * (128 * (y 1).val + (y 2).val) = _; omega

/-- The loop's invariant at its first trip, from the two buffers. -/
theorem enter (thr : Thread nD τ) (m8 : Memref sig thr.2.kind .vmem S128x2x128 .f32) (m10 : Memref sig thr.2.kind .vmem S128x256 .f32)
    (h8 : m8.view.set = Finset.univ) (h10 : m10.view.set = Finset.univ)
    (g : S128x2x128.Idx → Elt F .f32) (p : S128x256.Idx → Elt F .f32) (f : Buf (Elt F) (m8.view.loc thr)) (fp : Buf (Elt F) (m10.view.loc thr))
    (hf : m8.view.read (Elt F) f = g) (hfp : m10.view.read (Elt F) fp = p) :
    (iprop((m8.view.loc thr ↦[m8.view.set]{fullShare} f) ∗ (m10.view.loc thr ↦[m10.view.set]{fullShare} fp)) : sProp 𝕄)
      ⊢ iprop(rowsAt thr m8 (mix g p (256 * 0)) ∗ posAt thr m10 p) := by
  unfold rowsAt posAt
  rw [h8, h10, Nat.mul_zero, mix_zero]
  iintro ⟨H1, H2⟩
  isplitl [H1]
  · iexists f; isplitr
    · ipureintro; exact hf
    · iexact H1
  · iexists fp; isplitr
    · ipureintro; exact hfp
    · iexact H2

/-- After the last trip: the rows' buffer holds the sums, the position block is given back. -/
theorem leave (thr : Thread nD τ) (m8 : Memref sig thr.2.kind .vmem S128x2x128 .f32) (m10 : Memref sig thr.2.kind .vmem S128x256 .f32)
    (h8 : m8.view.set = Finset.univ) (h10 : m10.view.set = Finset.univ)
    (g : S128x2x128.Idx → Elt F .f32) (p : S128x256.Idx → Elt F .f32) (n : ℕ) (hn : n = 128) :
    (iprop(rowsAt thr m8 (mix g p (256 * n)) ∗ posAt thr m10 p) : sProp 𝕄)
      ⊢ iprop((∃ f, ⌜m8.view.read (Elt F) f = fun y => FloatOps.addf (g y) (p (posIx y))⌝ ∗ (m8.view.loc thr ↦[m8.view.set]{fullShare} f))
          ∗ ∃ fp, m10.view.loc thr ↦[m10.view.set]{fullShare} fp) := by
  subst hn
  unfold rowsAt posAt
  rw [h8, h10, mix_all]
  iintro ⟨⟨%f, %hf, H1⟩, ⟨%fp, %hfp, H2⟩⟩
  isplitl [H1]
  · iexists f; isplitr
    · ipureintro; exact hf
    · iexact H1
  · iexists fp; iexact H2

set_option maxHeartbeats 4000000 in
/-- The body run from the pieces the launch dealt it, in the body's spelling. -/
theorem tile_run (hI : InRange I) (q : PosShare TreeShare) (q0 q1 : PosShare TreeShare) (O : CellTallies nD τ sig (HIx 1)) (W : Waits sig (HIx 1))
    (oo : Buf (Elt F) (oLoc d)) (a0 : Buf (Elt F) ((aV).view.loc (VT d L))) (b0 : Buf (Elt F) ((bV).view.loc (VT d L)))
    (r0 : Buf (Elt F) ((rV).view.loc (VT d L))) (s0 : Buf (Elt F) ((sV).view.loc (VT d L))) (p0 : Buf (Elt F) ((qV).view.loc (VT d L))) :
    (iprop(Transfers.MayWaits (VT d L) (default : HIx 1) O
        ∗ ((iV).view.loc (VT d L) ↦{q} I d) ∗ ((pV).view.loc (VT d L) ↦{q} P d)
        ∗ ((xV).view.loc (VT d L) ↦{q0} X d) ∗ ((xV).view.loc (VT d L) ↦{q1} X d)
        ∗ ((oA L).view.loc (VT d L) ↦[(oA L).view.set]{fullShare} oo) ∗ ((oB L).view.loc (VT d L) ↦[(oB L).view.set]{fullShare} oo)
        ∗ ((aV).view.loc (VT d L) ↦[(aV).view.set]{fullShare} a0) ∗ ((bV).view.loc (VT d L) ↦[(bV).view.set]{fullShare} b0)
        ∗ ((rV).view.loc (VT d L) ↦[(rV).view.set]{fullShare} r0) ∗ ((sV).view.loc (VT d L) ↦[(sV).view.set]{fullShare} s0)
        ∗ ((qV).view.loc (VT d L) ↦[(qV).view.set]{fullShare} p0)
        ∗ cells0 d L ∗ owes (VT d L) O W) : sProp 𝕄)
      ⊢ wp frame (wpE (defs₀ (F := F)) 𝒱₀ (VT d L) none) Set.univ
          (cc1_sc_gather L xV (Memref.isWhole_whole _) iV (Memref.isWhole_whole _) pV (Memref.isWhole_whole _) oV (Memref.isWhole_whole _)
            aV (Memref.isWhole_whole _) bV (Memref.isWhole_whole _) rV (Memref.isWhole_whole _) sV (Memref.isWhole_whole _) qV (Memref.isWhole_whole _)
            cc1_scratch5 cc1_scratch6 cc1_scratch7 cc1_scoped0 cc1_scoped1 cc1_scoped2 cc1_scoped3 cc1_scoped4)
          fun _ => iprop(((iV).view.loc (VT d L) ↦{q} I d) ∗ ((pV).view.loc (VT d L) ↦{q} P d)
        ∗ ((xV).view.loc (VT d L) ↦{q0} X d) ∗ ((xV).view.loc (VT d L) ↦{q1} X d)
        ∗ ((oA L).view.loc (VT d L) ↦[(oA L).view.set]{fullShare} outVal (X d) (I d) (P d)) ∗ ((oB L).view.loc (VT d L) ↦[(oB L).view.set]{fullShare} outVal (X d) (I d) (P d))
        ∗ (∃ f, (aV).view.loc (VT d L) ↦{fullShare} f) ∗ (∃ f, (bV).view.loc (VT d L) ↦{fullShare} f)
        ∗ (∃ f, (rV).view.loc (VT d L) ↦{fullShare} f) ∗ (∃ f, (sV).view.loc (VT d L) ↦{fullShare} f)
        ∗ (∃ f, (qV).view.loc (VT d L) ↦{fullShare} f)
        ∗ cells0 d L ∗ ∃ W', ⌜∀ p ∈ W', p ∈ W ∨ p.2 = none⌝ ∗ owes (VT d L) O W') := by
  iintro ⟨#Hmw, HI, HP, HX0, HX1, HOA, HOB, Ha, Hb, Hr, Hs, Hq, ⟨Hc0, Hc1, Hc2, Hc3, Hc4, Hc5, Hc6, Hc7⟩, HO⟩
  sl_unfold [cc1_sc_gather, k1_part11]
  sl_exec
  have hinA := fun g => inA I d L hI g (tile_run.sl.dma0 I d L) rfl
  sl_exec
  have hinB := fun g => inB I d L hI g (tile_run.sl.dma0_1 I d L) rfl
  sl_exec
  ihave Hrq := (enter (VT d L) rV qV (View.set_whole _) (View.set_whole _) _ (tile_run.sl.dma0_2 P d L) _ _ (View.read_writes_whole _ _ _) (View.read_writes_whole _ _ _)) $$ [Hr Hq]
  · isplitl [Hr] <;> iassumption
  iapply (Scf.wp_for_bind Idealize.ShloMosaic.frame (wpE (defs₀ (F := F)) 𝒱₀ (VT d L) none) Set.univ _ _ _ k1_t1_ok ⟨⟩
    (k1_t1_body L xV (Memref.isWhole_whole _) iV (Memref.isWhole_whole _) pV (Memref.isWhole_whole _) oV (Memref.isWhole_whole _) aV (Memref.isWhole_whole _) bV (Memref.isWhole_whole _) rV (Memref.isWhole_whole _) sV (Memref.isWhole_whole _) qV (Memref.isWhole_whole _) cc1_scratch5 cc1_scratch6 cc1_scratch7 cc1_scoped0 cc1_scoped1 cc1_scoped2 cc1_scoped3 cc1_scoped4)
    (fun n _ => iprop(rowsAt (VT d L) rV (mix (tile_run.sl.gather0 X I d L hinA) (tile_run.sl.dma0_2 P d L) (256 * n)) ∗ posAt (VT d L) qV (tile_run.sl.dma0_2 P d L)))
    (fun t u => trip1 d Set.univ L xV (Memref.isWhole_whole _) iV (Memref.isWhole_whole _) pV (Memref.isWhole_whole _) oV (Memref.isWhole_whole _) aV (Memref.isWhole_whole _) bV (Memref.isWhole_whole _) rV (Memref.isWhole_whole _) sV (Memref.isWhole_whole _) qV (Memref.isWhole_whole _) cc1_scratch5 cc1_scratch6 cc1_scratch7 cc1_scoped0 cc1_scoped1 cc1_scoped2 cc1_scoped3 cc1_scoped4 _ _ t u)) $$ Hrq
  iintro %u Hrq
  ihave Hrq := (leave (VT d L) rV qV (View.set_whole _) (View.set_whole _) _ (tile_run.sl.dma0_2 P d L) _ (by decide)) $$ Hrq
  icases Hrq with ⟨⟨%fr, %hfr, Hr⟩, ⟨%fq, Hq⟩⟩
  sl_exec
  ihave Hsq := (enter (VT d L) sV qV (View.set_whole _) (View.set_whole _) _ (tile_run.sl.dma0_4 P d L) _ _ (View.read_writes_whole _ _ _) (View.read_writes_whole _ _ _)) $$ [Hs Hq]
  · isplitl [Hs] <;> iassumption
  iapply (Scf.wp_for_bind Idealize.ShloMosaic.frame (wpE (defs₀ (F := F)) 𝒱₀ (VT d L) none) Set.univ _ _ _ k1_t2_ok ⟨⟩
    (k1_t2_body L xV (Memref.isWhole_whole _) iV (Memref.isWhole_whole _) pV (Memref.isWhole_whole _) oV (Memref.isWhole_whole _) aV (Memref.isWhole_whole _) bV (Memref.isWhole_whole _) rV (Memref.isWhole_whole _) sV (Memref.isWhole_whole _) qV (Memref.isWhole_whole _) cc1_scratch5 cc1_scratch6 cc1_scratch7 cc1_scoped0 cc1_scoped1 cc1_scoped2 cc1_scoped3 cc1_scoped4)
    (fun n _ => iprop(rowsAt (VT d L) sV (mix (tile_run.sl.gather0_1 X I d L hinB) (tile_run.sl.dma0_4 P d L) (256 * n)) ∗ posAt (VT d L) qV (tile_run.sl.dma0_4 P d L)))
    (fun t u => trip2 d Set.univ L xV (Memref.isWhole_whole _) iV (Memref.isWhole_whole _) pV (Memref.isWhole_whole _) oV (Memref.isWhole_whole _) aV (Memref.isWhole_whole _) bV (Memref.isWhole_whole _) rV (Memref.isWhole_whole _) sV (Memref.isWhole_whole _) qV (Memref.isWhole_whole _) cc1_scratch5 cc1_scratch6 cc1_scratch7 cc1_scoped0 cc1_scoped1 cc1_scoped2 cc1_scoped3 cc1_scoped4 _ _ t u)) $$ Hsq
  iintro %u' Hsq
  ihave Hsq := (leave (VT d L) sV qV (View.set_whole _) (View.set_whole _) _ (tile_run.sl.dma0_4 P d L) _ (by decide)) $$ Hsq
  icases Hsq with ⟨⟨%fs, %hfs, Hs⟩, ⟨%fq', Hq⟩⟩
  sl_exec
  have hgA : ∀ y, tile_run.sl.gather0 X I d L hinA y = _ := fun y => gathA X I d L hI _ rfl _ (View.read_writes_whole _ _ _) rfl (hinA _) y
  have hgB : ∀ y, tile_run.sl.gather0_1 X I d L hinB y = _ := fun y => gathB X I d L hI _ rfl _ (View.read_writes_whole _ _ _) rfl (hinB _) y
  have hoA := outA X I P d L oo (tile_run.sl.dma0_3 d L fr) _ _ hfr hgA rfl
  have hoB := outB X I P d L oo (tile_run.sl.dma0_5 d L fs) _ _ hfs hgB rfl
  ihave HOA := (Entails.of_eq (pointsTo_congr hoA)) $$ HOA
  ihave HOB := (Entails.of_eq (pointsTo_congr hoB)) $$ HOB
  have hwa : (aV).view.set = Finset.univ := View.set_whole _
  have hwb : (bV).view.set = Finset.univ := View.set_whole _
  have hwr : (rV).view.set = Finset.univ := View.set_whole _
  have hws : (sV).view.set = Finset.univ := View.set_whole _
  have hwq : (qV).view.set = Finset.univ := View.set_whole _
  sl_step
  rw [hwa, hwb, hwr, hws, hwq]
  isplitl [HI]; · iexact HI
  isplitl [HP]; · iexact HP
  isplitl [HX0]; · iexact HX0
  isplitl [HX1]; · iexact HX1
  isplitl [HOA]; · iexact HOA
  isplitl [HOB]; · iexact HOB
  isplitl [Ha]; · iexists _; iexact Ha
  isplitl [Hb]; · iexists _; iexact Hb
  isplitl [Hr]; · iexists _; iexact Hr
  isplitl [Hs]; · iexists _; iexact Hs
  isplitl [Hq]; · iexists _; iexact Hq
  isplitl [Hc0 Hc1 Hc2 Hc3 Hc4 Hc5 Hc6 Hc7]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexists _; isplitr
  swap; · iexact HO
  ipureintro; intro p hp
  iterate 8 (rcases Finset.mem_insert.mp hp with hp | hp; · exact .inr (hp ▸ rfl))
  exact .inl hp

end Tile

end Cert.Proof.WholeRows

end
-- ==== Proof.WholeTc.lean ====
/-
  The TensorCore call of the program: where its windows lie, what its grid points leave in them, and the body's triple
  at every point. The first point stores the codebook's row norms and the column numbers in scratch, which the later
  points read; the last window carries the running loss from point to point.
-/
module

public import proofs.«01_k».proof.Proof.WholeBody
public import proofs.«01_k».proof.Proof.WholeTile
public import Idealize.ShloMosaic.Lib.Pipeline.RegionArrays
public import Idealize.ShloMosaic.Lib.Pipeline.FrameValue
public import Idealize.ShloMosaic.Lib.Pipeline.FrameBody

@[expose] public section

set_option maxRecDepth 16384

noncomputable section

namespace Cert.Proof.WholeRows

open Cert.KernelIdeal Cert.KernelIdeal.Gen

open Idealize.ShloMosaic Idealize.ShloMosaic.TcCoe
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Where the windows lie -/

abbrev semTab : Fin 1 → List (DmaSem sig) :=
  fun | 0 => Pipeline.specSems spec0 | ⟨_ + 1, h⟩ => absurd h (Nat.not_lt.2 (Nat.le_add_left _ _))
theorem semsDistinct : ∀ p : Fin 1, (semTab p).Nodup := by decide
theorem semsDisjoint : ∀ p p' : Fin 1, p ≠ p' → (semTab p).Forall (· ∉ semTab p') := by decide
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint
theorem winFacts0 : Pipeline.WinFacts spec0 := by decide
theorem block_pos0 : ∀ w : Fin 7, 0 < (spec0 w).block.numel := by decide
theorem arr_whole0 : ∀ w : Fin 7, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole0 : ∀ (w : Fin 7) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | ⟨_ + 7, h⟩ => absurd h (Nat.not_lt.2 (Nat.le_add_left _ _))
theorem launch0 : Pipeline.LaunchFacts (nD := nD) (τ := τ) cfgs 0 := ⟨cellOf_inj, winFacts0, block_pos0, arr_whole0, stage_whole0⟩
theorem N_0 : grid0.N = 32 := by decide

theorem bigSep_W0 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

abbrev sc0M : Memref sig .tc .vmem S1x8192 .f32 := Memref.whole cc0_scratch0
abbrev sc1M : Memref sig .tc .vmem S256x8192 .f32 := Memref.whole cc0_scratch1

omit [FloatOps F] in
theorem scopedRest0_eq (c : Dev nD) :
    (Pipeline.scopedRest spec0 c : sProp 𝕄)
      = iprop((∃ d, owns (c : Thread nD τ) sc0M fullShare d) ∗ (∃ d, owns (c : Thread nD τ) sc1M fullShare d)) := by
  rw [Pipeline.scopedRest_eq_of_list spec0 c [cc0_scratch0, cc0_scratch1] (by decide) (by decide)]
  simp only [sc0M, sc1M, owns_whole]; try rfl

theorem flush0_5 : ∀ t : Fin cfg0.N, (cfg0.win 5).flush t = true :=
  (fun t => (Pipeline.Window.flush_reads win0_5 rfl 0 (by decide) (by decide) (Pipeline.Window.sep_of_coord cc0_transform_5 0 0 (fun _ => rfl) (by decide)) (P := 1) (m := 0) (by decide) rfl t).mpr (Nat.mod_one _) : ∀ t : Fin grid0.N, win0_5.flush t = true)
theorem flush0_6 : ∀ t : Fin cfg0.N, (cfg0.win 6).flush t = true ↔ t.val % 32 = 31 :=
  (fun t => Pipeline.Window.flush_const win0_6 rfl (fun _ _ => rfl) (n := 32) (by decide) rfl t : ∀ t : Fin grid0.N, win0_6.flush t = true ↔ t.val % 32 = 31)

theorem hfirst : ∀ t : Fin cfg0.N, first (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [first, e0]
    word_cmp
   : ∀ t : Fin grid0.N, first (grid0.coords t) ↔ t.val % 32 = 0)

/-- The kernel's body at a point, on that point's staging buffers. -/
abbrev bodyAt0 (t : Fin cfg0.N) : Prog (TpuEff nD τ sig (Elt F) Λ₀ .tc) PUnit :=
  cc0__tc_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _)

/-- Each window's staging buffer at a point. -/
abbrev ms0_0 (t : Fin cfg0.N) : Memref sig .tc .vmem S256x129 .f32 := win0_0.stage (cfg0.slots t 0)
abbrev ms0_1 (t : Fin cfg0.N) : Memref sig .tc .vmem S256x129 .f32 := win0_1.stage (cfg0.slots t 1)
abbrev ms0_2 (t : Fin cfg0.N) : Memref sig .tc .vmem S1x256 .f32 := win0_2.stage (cfg0.slots t 2)
abbrev ms0_3 (t : Fin cfg0.N) : Memref sig .tc .vmem S8192x256 .f32 := win0_3.stage (cfg0.slots t 3)
abbrev ms0_4 (t : Fin cfg0.N) : Memref sig .tc .vmem S8192x256 .bf16 := win0_4.stage (cfg0.slots t 4)
abbrev ms0_5 (t : Fin cfg0.N) : Memref sig .tc .vmem S256 .i32 := win0_5.stage (cfg0.slots t 5)
abbrev ms0_6 (t : Fin cfg0.N) : Memref sig .tc .vmem S1x1 .f32 := win0_6.stage (cfg0.slots t 6)

/-! ## What the points leave -/

variable (Vw : Dev nD → Valuation τ sig (Elt F))

/-- A window's block at a point, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (Vw c (Proc.devRef .tc (Pipeline.arrRef spec0 w)))

abbrev t0 : Fin cfg0.N := ⟨0, lt_of_lt_of_eq (by decide : 0 < 32) N_0.symm⟩

/-- The codebook's row norms, as the first point stores them. -/
def E2 (c : Dev nD) : Vec F S1x8192 .f32 := k0_pay2 (iblk Vw c 3 t0)
/-- The column numbers. -/
def N2 : Vec F S256x8192 .f32 := k0_pay4 (F := F)
/-- The indices a point writes. -/
def idsAt (c : Dev nD) (t : Fin cfg0.N) : Vec F S256 .i32 :=
  k0_pay7 (iblk Vw c 0 t) (iblk Vw c 1 t) (iblk Vw c 2 t) (iblk Vw c 4 t) (E2 Vw c) N2
/-- The least distances of a point's rows. -/
def minAt (c : Dev nD) (t : Fin cfg0.N) : Vec F S256x1 .f32 :=
  k0_pay6 (iblk Vw c 0 t) (iblk Vw c 1 t) (iblk Vw c 2 t) (iblk Vw c 4 t) (E2 Vw c)
/-- The running loss after a point. -/
def lossAt (c : Dev nD) : (n : ℕ) → n < cfg0.N → Vec F S1x1 .f32
  | 0, h => k0_pay1 (minAt Vw c ⟨0, h⟩) (k0_pay3 (F := F))
  | n + 1, h => k0_pay1 (minAt Vw c ⟨n + 1, h⟩) (lossAt c n (Nat.lt_of_succ_lt h))

/-- The invariant between points: the scratch buffers, at the norms and the column numbers once a point has run. -/
def PhiS (c : Dev nD) (n : ℕ) (_ : n ≤ cfg0.N) : sProp 𝕄 :=
  if n = 0 then iprop((∃ d, owns (c : Thread nD τ) sc0M fullShare d) ∗ (∃ d, owns (c : Thread nD τ) sc1M fullShare d))
  else iprop(owns (c : Thread nD τ) sc0M fullShare (E2 Vw c) ∗ owns (c : Thread nD τ) sc1M fullShare N2)

/-- The call's data: the arrays it finds, what each point leaves, what its core owes meanwhile. -/
def dats (p : Fin 1) (c : Dev nD) : Dat τ (Elt F) (HIx 1) ℕ UU ℕ (cfgs p) c where
  A w := Vw c (Proc.devRef .tc (Pipeline.arrRef spec0 w))
  after := fun
    | 0 => fun t => iblk Vw c 0 t
    | 1 => fun t => iblk Vw c 1 t
    | 2 => fun t => iblk Vw c 2 t
    | 3 => fun t => iblk Vw c 3 t
    | 4 => fun t => iblk Vw c 4 t
    | 5 => fun t => idsAt Vw c t
    | 6 => fun t => lossAt Vw c t.val t.isLt
    | ⟨_ + 7, h⟩ => absurd h (Nat.not_lt.2 (Nat.le_add_left _ _))
  Φ t := PhiS Vw c t.val (Nat.le_of_lt_succ t.isLt)
  q _ := fullShare
  owed _ := (K (F := F)).Otc c 0
  recorded _ := {x | (K (F := F)).lev (SparseCore.T c, x.1) x.2 ≤ 0}

abbrev ι₀ : HIx 1 := none

theorem A_eq (c : Dev nD) (w : Fin cfg0.W) : (dats Vw 0 c).A w = Vw c (Proc.devRef .tc (Pipeline.arrRef spec0 w)) := rfl
theorem after0_0 (c : Dev nD) (t : Fin cfg0.N) : (dats Vw 0 c).after 0 t = iblk Vw c 0 t := rfl
theorem after0_1 (c : Dev nD) (t : Fin cfg0.N) : (dats Vw 0 c).after 1 t = iblk Vw c 1 t := rfl
theorem after0_2 (c : Dev nD) (t : Fin cfg0.N) : (dats Vw 0 c).after 2 t = iblk Vw c 2 t := rfl
theorem after0_3 (c : Dev nD) (t : Fin cfg0.N) : (dats Vw 0 c).after 3 t = iblk Vw c 3 t := rfl
theorem after0_4 (c : Dev nD) (t : Fin cfg0.N) : (dats Vw 0 c).after 4 t = iblk Vw c 4 t := rfl
theorem after0_5 (c : Dev nD) (t : Fin cfg0.N) : (dats Vw 0 c).after 5 t = idsAt Vw c t := rfl
theorem after0_6 (c : Dev nD) (t : Fin cfg0.N) : (dats Vw 0 c).after 6 t = lossAt Vw c t.val t.isLt := rfl

theorem before0_0 (c : Dev nD) (t : Fin cfg0.N) (d) : (dats Vw 0 c).before 0 t d = iblk Vw c 0 t :=
  ((dats Vw 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats Vw 0 c).before 1 t d = iblk Vw c 1 t :=
  ((dats Vw 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats Vw 0 c).before 2 t d = iblk Vw c 2 t :=
  ((dats Vw 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats Vw 0 c).before 3 t d = iblk Vw c 3 t :=
  ((dats Vw 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats Vw 0 c).before 4 t d = iblk Vw c 4 t :=
  ((dats Vw 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Past the first point the loss window still holds what the point before left. -/
theorem before0_6 (c : Dev nD) (t : Fin cfg0.N) (h0 : ¬t.val % 32 = 0) (d) :
    (dats Vw 0 c).before 6 t d = lossAt Vw c (t.val - 1) (Nat.lt_of_le_of_lt (Nat.sub_le _ _) t.isLt) := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body at a point -/

theorem E2_at (c : Dev nD) (t : Fin cfg0.N) (h : t.val = 0) : k0_pay2 (iblk Vw c 3 t) = E2 Vw c := by
  obtain rfl : t = t0 := Fin.ext h
  rfl

theorem lossAt_first (c : Dev nD) (t : Fin cfg0.N) (h : t.val = 0) :
    lossAt Vw c t.val t.isLt = k0_pay1 (minAt Vw c t) (k0_pay3 (F := F)) := by
  obtain rfl : t = t0 := Fin.ext h
  rfl

theorem lossAt_later (c : Dev nD) (t : Fin cfg0.N) (h : t.val ≠ 0) :
    lossAt Vw c t.val t.isLt = k0_pay1 (minAt Vw c t) (lossAt Vw c (t.val - 1) (Nat.lt_of_le_of_lt (Nat.sub_le _ _) t.isLt)) := by
  obtain ⟨n, hn⟩ := t
  match n, hn, h with
  | n + 1, hn, _ => rfl

theorem PhiS_castSucc (c : Dev nD) (t : Fin cfg0.N) : (dats Vw 0 c).Φ t.castSucc = PhiS Vw c t.val (Nat.le_of_lt t.isLt) := by
  dsimp only [dats]; exact Pipeline.Dat.Φ_castSucc (PhiS Vw c) t

def bodyPre (c : Dev nD) (t : Fin cfg0.N) : sProp 𝕄 :=
  iprop((dats Vw 0 c).Φ t.castSucc ∗ (dats Vw 0 c).owesAt ι₀ t.castSucc
    ∗ (∃ d, owns (c : Thread nD τ) (ms0_0 t) fullShare ((dats Vw 0 c).before 0 t d))
    ∗ (∃ d, owns (c : Thread nD τ) (ms0_1 t) fullShare ((dats Vw 0 c).before 1 t d))
    ∗ (∃ d, owns (c : Thread nD τ) (ms0_2 t) fullShare ((dats Vw 0 c).before 2 t d))
    ∗ (∃ d, owns (c : Thread nD τ) (ms0_3 t) fullShare ((dats Vw 0 c).before 3 t d))
    ∗ (∃ d, owns (c : Thread nD τ) (ms0_4 t) fullShare ((dats Vw 0 c).before 4 t d))
    ∗ (∃ d, owns (c : Thread nD τ) (ms0_5 t) fullShare ((dats Vw 0 c).before 5 t d))
    ∗ (∃ d, owns (c : Thread nD τ) (ms0_6 t) fullShare ((dats Vw 0 c).before 6 t d)))

def bodyPost (c : Dev nD) (t : Fin cfg0.N) : sProp 𝕄 :=
  iprop((dats Vw 0 c).Φ t.succ ∗ (dats Vw 0 c).owesAt ι₀ t.succ
    ∗ owns (c : Thread nD τ) (ms0_0 t) fullShare ((dats Vw 0 c).after 0 t)
    ∗ owns (c : Thread nD τ) (ms0_1 t) fullShare ((dats Vw 0 c).after 1 t)
    ∗ owns (c : Thread nD τ) (ms0_2 t) fullShare ((dats Vw 0 c).after 2 t)
    ∗ owns (c : Thread nD τ) (ms0_3 t) fullShare ((dats Vw 0 c).after 3 t)
    ∗ owns (c : Thread nD τ) (ms0_4 t) fullShare ((dats Vw 0 c).after 4 t)
    ∗ owns (c : Thread nD τ) (ms0_5 t) fullShare ((dats Vw 0 c).after 5 t)
    ∗ owns (c : Thread nD τ) (ms0_6 t) fullShare ((dats Vw 0 c).after 6 t))

theorem sound_body (c : Dev nD) (t : Fin cfg0.N) :
    bodyPre Vw c t ⊢ wp frame (wpE (defs₀ (F := F)) 𝒱₀ c none) Set.univ (bodyAt0 t) (fun _ => bodyPost Vw c t) := by
  unfold bodyPre bodyPost bodyAt0
  simp only [before0_0, before0_1, before0_2, before0_3, before0_4]
  rw [show (dats Vw 0 c).owesAt ι₀ t.succ = (dats Vw 0 c).owesAt ι₀ t.castSucc from rfl,
    after0_0, after0_1, after0_2, after0_3, after0_4, after0_5, after0_6]
  rw [show (dats Vw 0 c).Φ t.succ = PhiS Vw c (t.val + 1) t.isLt from rfl, PhiS_castSucc]
  unfold PhiS
  rw [if_neg (Nat.succ_ne_zero t.val)]
  have hN : t.val < 32 := lt_of_lt_of_eq t.isLt (show cfg0.N = 32 from N_0)
  by_cases hz : t.val = 0
  · rw [if_pos hz, lossAt_first Vw c t hz]
    unfold idsAt minAt N2
    rw [← E2_at Vw c t hz]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ _ _ ((hfirst t).mpr (by omega)) (iblk Vw c 0 t) (iblk Vw c 1 t) (iblk Vw c 2 t) (iblk Vw c 3 t) (iblk Vw c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1]
    · isplitl [HS0] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [if_neg hz, lossAt_later Vw c t hz]
    simp only [before0_6 Vw c t (by omega)]
    unfold idsAt minAt
    iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ _ _ _ _ (fun h => absurd ((hfirst t).mp h) (by omega)) (iblk Vw c 0 t) (iblk Vw c 1 t) (iblk Vw c 2 t) (iblk Vw c 3 t) (iblk Vw c 4 t)
      (lossAt Vw c (t.val - 1) (Nat.lt_of_le_of_lt (Nat.sub_le _ _) t.isLt)) (E2 Vw c) N2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, H5, H6, HS0, HS1⟩
    isplitl [HS0 HS1]
    · isplitl [HS0] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rfl

theorem body_obligation (c : Dev nD) : BodyObligation (dats (F := F) Vw 0 c) (defs₀ (F := F)) 𝒱₀ ι₀ Set.univ := fun t => by
  rw [bigSep_W0, bigSep_W0, defs₀_row]
  exact triple_restated (sound_body Vw c t) rfl .rfl fun _ => .rfl

/-! ## The two results' arrays after the call -/

theorem idx_facts5 : ∀ t : Fin cfg0.N, win0_5.index t (0 : Fin 1) = t.val :=
  (by decide +kernel : ∀ t : Fin grid0.N, win0_5.index t (0 : Fin 1) = t.val)
theorem idx_facts6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem pt_lt (i : S8192.Idx) : (i 0).val / 256 < cfg0.N := by
  have h : (i 0).val < 8192 := (i 0).isLt
  exact lt_of_lt_of_eq (by omega : (i 0).val / 256 < 32) N_0.symm
/-- The point that writes an index, and its place there. -/
abbrev ptOf (i : S8192.Idx) : Fin cfg0.N := ⟨(i 0).val / 256, pt_lt i⟩
set_option backward.proofsInPublic true in
abbrev locOf (i : S8192.Idx) : S256.Idx := fun a => match a with
  | ⟨0, _⟩ => ⟨(i 0).val % 256, Nat.mod_lt _ (by decide)⟩

/-- All the indices. -/
def G5 (c : Dev nD) : (⟨S8192, .i32⟩ : BufTy).Contents (Elt F) := fun i => idsAt Vw c (ptOf i) (locOf i)
/-- The loss sum. -/
def G6 (c : Dev nD) : (⟨S1x1, .f32⟩ : BufTy).Contents (Elt F) := lossAt Vw c 31 (lt_of_lt_of_eq (by decide : 31 < 32) N_0.symm)

theorem flushed5_eq (c : Dev nD) (t : Fin cfg0.N) :
    (dats Vw 0 c).flushed 5 t = ((cfg0.win 5).blk t).view.read (Elt F) (G5 Vw c) := by
  show (cfg0.win 5).cut (grid0.coords t) ((dats Vw 0 c).after 5 t) = _
  rw [after0_5]
  have e0 := idx_facts5 t
  funext y
  have hy0 : (y 0).val < 256 := (y 0).isLt
  have hb0 : (((cfg0.win 5).blk t).view.emb y 0).val = win0_5.index t (0 : Fin 1) * 256 + 1 * (y 0).val := rfl
  have hp : ptOf (((cfg0.win 5).blk t).view.emb y) = t := by
    apply Fin.ext
    show (((cfg0.win 5).blk t).view.emb y 0).val / 256 = _
    rw [hb0, e0]; omega
  have hl : locOf (((cfg0.win 5).blk t).view.emb y) = (cfg0.win 5).xinj (grid0.coords t) y := by
    funext a; apply Fin.ext
    match a with
    | ⟨0, _⟩ => show (((cfg0.win 5).blk t).view.emb y 0).val % 256 = (y 0).val; rw [hb0]; omega
  show idsAt Vw c t ((cfg0.win 5).xinj (grid0.coords t) y) = G5 Vw c (((cfg0.win 5).blk t).view.emb y)
  unfold G5
  rw [hp, hl]

theorem mem_blk5 (t : Fin cfg0.N) (i : S8192.Idx) :
    i ∈ ((cfg0.win 5).blk t).view.set ↔ ∀ a : Fin 1, win0_5.index t a * S256.size a ≤ (i a).val ∧ (i a).val < win0_5.index t a * S256.size a + S256.size a := by
  show i ∈ ((View.whole main_v4_0).slice (win0_5.rect t)).set ↔ _
  rw [View.set_slice_whole, Rect.mem_set_unit]
  exact Iff.rfl

theorem final5 (c : Dev nD) : (dats Vw 0 c).arrAt 5 cfg0.N = G5 Vw c :=
  (dats Vw 0 c).arrAt_eq_of_cover 5 _ (fun t _ => flushed5_eq Vw c t) (fun i => ⟨ptOf i, flush0_5 _, by
    rw [mem_blk5]
    have e0 := idx_facts5 (ptOf i)
    intro a
    match a with
    | ⟨0, _⟩ =>
      show win0_5.index (ptOf i) (0 : Fin 1) * 256 ≤ (i 0).val ∧ (i 0).val < win0_5.index (ptOf i) (0 : Fin 1) * 256 + 256
      rw [e0]; show (i 0).val / 256 * 256 ≤ (i 0).val ∧ (i 0).val < (i 0).val / 256 * 256 + 256
      omega⟩)

omit [FloatOps F] in
theorem one_place (j k : S1x1.Idx) : j = k := by
  funext a; apply Fin.ext
  match a with
  | ⟨0, _⟩ => have h1 : (j 0).val < 1 := (j 0).isLt; have h2 : (k 0).val < 1 := (k 0).isLt; show (j 0).val = (k 0).val; omega
  | ⟨1, _⟩ => have h1 : (j 1).val < 1 := (j 1).isLt; have h2 : (k 1).val < 1 := (k 1).isLt; show (j 1).val = (k 1).val; omega

theorem flushed6_eq (c : Dev nD) (t : Fin cfg0.N) (hf : (cfg0.win 6).flush t = true) :
    (dats Vw 0 c).flushed 6 t = ((cfg0.win 6).blk t).view.read (Elt F) (G6 Vw c) := by
  show (cfg0.win 6).cut (grid0.coords t) ((dats Vw 0 c).after 6 t) = _
  rw [after0_6]
  have hm : t.val % 32 = 31 := (flush0_6 t).mp hf
  have hN : t.val < 32 := lt_of_lt_of_eq t.isLt (show cfg0.N = 32 from N_0)
  obtain rfl : t = ⟨31, lt_of_lt_of_eq (by decide : 31 < 32) N_0.symm⟩ := Fin.ext (by show t.val = 31; omega)
  funext y
  exact congrArg (lossAt Vw c 31 (lt_of_lt_of_eq (by decide : 31 < 32) N_0.symm)) (one_place _ _)

theorem mem_blk6 (t : Fin cfg0.N) (i : S1x1.Idx) :
    i ∈ ((cfg0.win 6).blk t).view.set ↔ ∀ a : Fin 2, win0_6.index t a * S1x1.size a ≤ (i a).val ∧ (i a).val < win0_6.index t a * S1x1.size a + S1x1.size a := by
  show i ∈ ((View.whole main_v4_1).slice (win0_6.rect t)).set ↔ _
  rw [View.set_slice_whole, Rect.mem_set_unit]
  exact Iff.rfl

theorem final6 (c : Dev nD) : (dats Vw 0 c).arrAt 6 cfg0.N = G6 Vw c :=
  (dats Vw 0 c).arrAt_eq_of_cover 6 _ (fun t hf => flushed6_eq Vw c t hf) (fun i => ⟨⟨31, lt_of_lt_of_eq (by decide : 31 < 32) N_0.symm⟩, (flush0_6 _).mpr rfl, by
    rw [mem_blk6]
    obtain ⟨e0, e1⟩ := idx_facts6 ⟨31, lt_of_lt_of_eq (by decide : 31 < 32) N_0.symm⟩
    have h0 : (i 0).val < 1 := (i 0).isLt
    have h1 : (i 1).val < 1 := (i 1).isLt
    intro a
    match a with
    | ⟨0, _⟩ =>
      show win0_6.index _ (0 : Fin 2) * 1 ≤ (i 0).val ∧ (i 0).val < win0_6.index _ (0 : Fin 2) * 1 + 1
      rw [e0]; omega
    | ⟨1, _⟩ =>
      show win0_6.index _ (1 : Fin 2) * 1 ≤ (i 1).val ∧ (i 1).val < win0_6.index _ (1 : Fin 2) * 1 + 1
      rw [e1]; omega⟩)

end Cert.Proof.WholeRows

end
-- ==== Proof.WholeLaunch.lean ====
/-
  The SparseCore call as the launch theorem takes it: each tile's task from the pieces it is dealt to the pieces it
  hands back, how the arrays of the call are cut into the 32 tiles' pieces (read shares of the indices, the table and
  the position rows; the result by blocks of 128 rows, two to a tile), and how the results join.
-/
module

public import proofs.«01_k».proof.Proof.WholeTile

@[expose] public section

noncomputable section

namespace Cert.Proof.WholeRows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v5_scv : Memref Cert.KernelIdeal.sig Kind.scVector Space.hbm Cert.KernelIdeal.S8192x2x128 EltTy.f32)
local notation "iV" => (Memref.whole Cert.KernelIdeal.main_v4_0_scv : Memref Cert.KernelIdeal.sig Kind.scVector Space.hbm Cert.KernelIdeal.S8192 EltTy.i32)
local notation "pV" => (Memref.whole Cert.KernelIdeal.main_v2_scv : Memref Cert.KernelIdeal.sig Kind.scVector Space.hbm Cert.KernelIdeal.S512x256 EltTy.f32)
local notation "oV" => (Memref.whole Cert.KernelIdeal.main_v6_scv : Memref Cert.KernelIdeal.sig Kind.scVector Space.hbm Cert.KernelIdeal.S8192x2x128 EltTy.f32)
local notation "aV" => (Memref.whole Cert.KernelIdeal.cc1_scratch0 : Memref Cert.KernelIdeal.sig Kind.scVector Space.vmem Cert.KernelIdeal.S128 EltTy.i32)
local notation "bV" => (Memref.whole Cert.KernelIdeal.cc1_scratch1 : Memref Cert.KernelIdeal.sig Kind.scVector Space.vmem Cert.KernelIdeal.S128 EltTy.i32)
local notation "rV" => (Memref.whole Cert.KernelIdeal.cc1_scratch2 : Memref Cert.KernelIdeal.sig Kind.scVector Space.vmem Cert.KernelIdeal.S128x2x128 EltTy.f32)
local notation "sV" => (Memref.whole Cert.KernelIdeal.cc1_scratch3 : Memref Cert.KernelIdeal.sig Kind.scVector Space.vmem Cert.KernelIdeal.S128x2x128 EltTy.f32)
local notation "qV" => (Memref.whole Cert.KernelIdeal.cc1_scratch4 : Memref Cert.KernelIdeal.sig Kind.scVector Space.vmem Cert.KernelIdeal.S128x256 EltTy.f32)

abbrev EH : Emb UH (MT nD τ sig (HIx 1) (Elt F) ℕ UU ℕ) := embL

/-! ## The blocks of the result and the shares -/

def coordsV (c : Fin (grid1.bound 0)) (s : Fin (grid1.bound 1)) : grid1.Coords :=
  fun | 0 => c | 1 => s | ⟨_ + 2, h⟩ => absurd h (Nat.not_lt.2 (Nat.le_add_left _ _))

/-- The tile of an index pair. -/
abbrev LT (p : Fin 2 × Fin 16) : grid1.Coords := coordsV p.1 p.2
/-- The two blocks of a tile. -/
def oSet (p : (Fin 2 × Fin 16) × Fin 2) : Finset S8192x2x128.Idx := if p.2 = 0 then (oA (LT p.1)).view.set else (oB (LT p.1)).view.set
/-- A tile's read share. -/
def qT (p : Fin 2 × Fin 16) : PosShare TreeShare := Transfers.dealOf fullShare Finset.univ (finProdFinEquiv p : Fin (2 * 16))

theorem mem_oA (L : grid1.Coords) (b : S8192x2x128.Idx) :
    b ∈ (oA L).view.set ↔ 512 * (L 1).val + 256 * (L 0).val ≤ (b 0).val ∧ (b 0).val < 512 * (L 1).val + 256 * (L 0).val + 128 := by
  constructor
  · intro hb
    obtain ⟨y, -, rfl⟩ := Finset.mem_map.mp hb
    have e0 : ((oA L).view.emb y 0 : ℕ) = 512 * (L 1).val + 256 * (L 0).val + (y 0).val := by
      show (k1_off36 L) 0 + 1 * (y 0).val = _
      rw [k1_off36_eq]; show 512 * (L 1).val + 256 * (L 0).val + 1 * (y 0).val = _; omega
    have b2 : (y 0).val < 128 := (y 0).isLt
    omega
  · intro ⟨h0, h1⟩
    refine Finset.mem_map.mpr ⟨(ix3 (n0 := 128) (n1 := 2) (n2 := 128) ⟨(b 0).val - (512 * (L 1).val + 256 * (L 0).val), by omega⟩ (b 1) (b 2) : S128x2x128.Idx), Finset.mem_univ _, ?_⟩
    funext a; refine Fin.ext ?_
    match a with
    | 0 => show (k1_off36 L) 0 + 1 * ((b 0).val - (512 * (L 1).val + 256 * (L 0).val)) = (b 0).val
           rw [k1_off36_eq]; show 512 * (L 1).val + 256 * (L 0).val + 1 * ((b 0).val - (512 * (L 1).val + 256 * (L 0).val)) = _; omega
    | 1 => show (k1_off36 L) 1 + 1 * (b 1).val = (b 1).val
           rw [k1_off36_eq]; show 0 + 1 * (b 1).val = _; omega
    | 2 => show (k1_off36 L) 2 + 1 * (b 2).val = (b 2).val
           rw [k1_off36_eq]; show 0 + 1 * (b 2).val = _; omega

theorem mem_oB (L : grid1.Coords) (b : S8192x2x128.Idx) :
    b ∈ (oB L).view.set ↔ 512 * (L 1).val + 256 * (L 0).val + 128 ≤ (b 0).val ∧ (b 0).val < 512 * (L 1).val + 256 * (L 0).val + 256 := by
  constructor
  · intro hb
    obtain ⟨y, -, rfl⟩ := Finset.mem_map.mp hb
    have e0 : ((oB L).view.emb y 0 : ℕ) = 512 * (L 1).val + 256 * (L 0).val + 128 + (y 0).val := by
      show (k1_off70 L) 0 + 1 * (y 0).val = _
      rw [k1_off70_eq]; show 512 * (L 1).val + 256 * (L 0).val + 128 + 1 * (y 0).val = _; omega
    have b2 : (y 0).val < 128 := (y 0).isLt
    omega
  · intro ⟨h0, h1⟩
    refine Finset.mem_map.mpr ⟨(ix3 (n0 := 128) (n1 := 2) (n2 := 128) ⟨(b 0).val - (512 * (L 1).val + 256 * (L 0).val + 128), by omega⟩ (b 1) (b 2) : S128x2x128.Idx), Finset.mem_univ _, ?_⟩
    funext a; refine Fin.ext ?_
    match a with
    | 0 => show (k1_off70 L) 0 + 1 * ((b 0).val - (512 * (L 1).val + 256 * (L 0).val + 128)) = (b 0).val
           rw [k1_off70_eq]; show 512 * (L 1).val + 256 * (L 0).val + 128 + 1 * ((b 0).val - (512 * (L 1).val + 256 * (L 0).val + 128)) = _; omega
    | 1 => show (k1_off70 L) 1 + 1 * (b 1).val = (b 1).val
           rw [k1_off70_eq]; show 0 + 1 * (b 1).val = _; omega
    | 2 => show (k1_off70 L) 2 + 1 * (b 2).val = (b 2).val
           rw [k1_off70_eq]; show 0 + 1 * (b 2).val = _; omega

theorem mem_oSet (p : (Fin 2 × Fin 16) × Fin 2) (b : S8192x2x128.Idx) :
    b ∈ oSet p ↔ 512 * p.1.2.val + 256 * p.1.1.val + 128 * p.2.val ≤ (b 0).val ∧ (b 0).val < 512 * p.1.2.val + 256 * p.1.1.val + 128 * p.2.val + 128 := by
  obtain ⟨⟨c, s⟩, k⟩ := p
  unfold oSet
  match k with
  | 0 => rw [if_pos rfl, mem_oA]; exact Iff.rfl
  | 1 => rw [if_neg (by decide : ¬ (1 : Fin 2) = 0), mem_oB]; exact Iff.rfl

theorem oSet_disjoint : ∀ p ∈ (Finset.univ : Finset ((Fin 2 × Fin 16) × Fin 2)), ∀ p' ∈ (Finset.univ : Finset ((Fin 2 × Fin 16) × Fin 2)), p ≠ p' → Disjoint (oSet p) (oSet p') := by
  intro p _ p' _ hne
  refine Finset.disjoint_left.mpr fun b hb hb' => hne ?_
  rw [mem_oSet] at hb hb'
  obtain ⟨⟨c, s⟩, k⟩ := p
  obtain ⟨⟨c', s'⟩, k'⟩ := p'
  have h1 := c.isLt; have h2 := c'.isLt; have h3 := k.isLt; have h4 := k'.isLt
  dsimp only at hb hb'
  have e1 : s.val = s'.val := by omega
  have e2 : c.val = c'.val := by omega
  have e3 : k.val = k'.val := by omega
  rw [Fin.ext e1, Fin.ext e2, Fin.ext e3]

theorem oSet_cover : (Finset.univ : Finset ((Fin 2 × Fin 16) × Fin 2)).biUnion oSet = Finset.univ := by
  refine Finset.eq_univ_of_forall fun b => ?_
  have hb : (b 0).val < 8192 := (b 0).isLt
  refine Finset.mem_biUnion.mpr ⟨((⟨(b 0).val / 256 % 2, by omega⟩, ⟨(b 0).val / 512, by omega⟩), ⟨(b 0).val / 128 % 2, by omega⟩), Finset.mem_univ _, ?_⟩
  rw [mem_oSet]; dsimp only; omega

theorem o_tiles (d : Dev nD) (f : Buf (Elt F) (oLoc d)) :
    (oLoc d ↦{fullShare} f : sProp 𝕄) = bigSep Finset.univ fun p : Fin 2 × Fin 16 => iprop((oLoc d ↦[oSet (p, 0)]{fullShare} f) ∗ oLoc d ↦[oSet (p, 1)]{fullShare} f) := by
  rw [show (oLoc d ↦{fullShare} f : sProp 𝕄) = bigSep Finset.univ fun p : (Fin 2 × Fin 16) × Fin 2 => oLoc d ↦[oSet p]{fullShare} f by
    rw [← pointsTo_biUnion Finset.univ (ℓ := oLoc d) oSet oSet_disjoint, oSet_cover], BI.bigSep_univ_prod]
  exact bigSep_congr fun i _ => bigSep_fin_two _

theorem shares {ℓ : Loc nD τ sig} (f : Buf (Elt F) ℓ) :
    (ℓ ↦{fullShare} f : sProp 𝕄) = bigSep Finset.univ fun p : Fin 2 × Fin 16 => ℓ ↦{qT p} f := by
  rw [Transfers.pointsTo_deal (ℓ := ℓ) (S := Finset.univ) (f := f) (Finset.univ : Finset (Fin (2 * 16))) ⟨0, Finset.mem_univ _⟩ fullShare,
    bigSep_univ_equiv (finProdFinEquiv : Fin 2 × Fin 16 ≃ Fin (2 * 16))]
  rfl

variable [FloatOps F]

variable (X : (d : Dev nD) → Buf (Elt F) (xLoc d)) (I : (d : Dev nD) → Buf (Elt F) (iLoc d)) (P : (d : Dev nD) → Buf (Elt F) (pLoc d))
variable (O₀ : (d : Dev nD) → Buf (Elt F) (oLoc d))

/-- What a tile is dealt, its blocks of the result at contents `f`. -/
def piece (d : Dev nD) (p : Fin 2 × Fin 16) (f : Buf (Elt F) (oLoc d)) : sProp 𝕄 :=
  iprop((iLoc d ↦{qT p} I d) ∗ (pLoc d ↦{qT p} P d) ∗ (xLoc d ↦{qT p} X d) ∗ (oLoc d ↦[oSet (p, 0)]{fullShare} f) ∗ oLoc d ↦[oSet (p, 1)]{fullShare} f)

instance piece_storable (d : Dev nD) (p : Fin 2 × Fin 16) (f : Buf (Elt F) (oLoc d)) : BI.Storable (upEmb : UEmb _ 𝕄) (piece X I P d p f) := by
  unfold piece; infer_instance

/-- The result of the call. -/
abbrev OV (d : Dev nD) : Buf (Elt F) (oLoc d) := outVal (X d) (I d) (P d)

/-- The tiles' pieces together are the four arrays. -/
theorem pieces_all (d : Dev nD) (f : Buf (Elt F) (oLoc d)) :
    (bigSep Finset.univ fun c : Fin 2 => bigSep Finset.univ fun s : Fin 16 => piece X I P d (c, s) f)
      = (iprop((iLoc d ↦{fullShare} I d) ∗ (pLoc d ↦{fullShare} P d) ∗ (xLoc d ↦{fullShare} X d) ∗ oLoc d ↦{fullShare} f) : sProp 𝕄) := by
  rw [← BI.bigSep_univ_prod (fun p : Fin 2 × Fin 16 => piece X I P d p f)]
  unfold piece
  rw [bigSep_sep', bigSep_sep', bigSep_sep', ← o_tiles, ← shares, ← shares, ← shares]

/-- The call's pieces: a core takes its tiles' together. -/
def PC : (K (F := F)).Pay (nD := nD) (Val := Elt F) (Name := ℕ) (U := UU) where
  st := fun q d c => match q with | 0 => bigSep Finset.univ fun s : Fin 16 => piece X I P d (Fin.cast nCore_zero c, s) (O₀ d)
  dn := fun q d c => match q with | 0 => bigSep Finset.univ fun s : Fin 16 => piece X I P d (Fin.cast nCore_zero c, s) (OV X I P d)
  go := fun q d c i => match q with | 0 => piece X I P d (Fin.cast nCore_zero c, Fin.cast nSub_zero i) (O₀ d)
  td := fun q d c i => match q with | 0 => piece X I P d (Fin.cast nCore_zero c, Fin.cast nSub_zero i) (OV X I P d)
  x := fun _ _ => iprop(emp)

instance PC_storable : (PC X I P O₀).IsStorable where
  st q d c := match q with
    | 0 => (inferInstance : BI.Storable (upEmb : UEmb _ 𝕄) (bigSep Finset.univ fun s : Fin 16 => piece X I P d (Fin.cast nCore_zero c, s) (O₀ d)))
  dn q d c := match q with
    | 0 => (inferInstance : BI.Storable (upEmb : UEmb _ 𝕄) (bigSep Finset.univ fun s : Fin 16 => piece X I P d (Fin.cast nCore_zero c, s) (OV X I P d)))
  go q d c i := match q with | 0 => piece_storable X I P d _ _
  td q d c i := match q with | 0 => piece_storable X I P d _ _

/-! ## One tile's task -/

section Body

variable (d : Dev nD)

omit [FloatOps F] in
/-- A read share of the table as what stays and two read tokens. -/
theorem xToks (q : PosShare TreeShare) (f : Buf (Elt F) (xLoc d)) :
    (xLoc d ↦{q} f : sProp 𝕄) ⊣⊢ iprop((xLoc d ↦{Transfers.shareDrop q 2} f) ∗ (xLoc d ↦{Transfers.shareTokN q 0} f) ∗ (xLoc d ↦{Transfers.shareTokN q 1} f)) := by
  have h : (xLoc d ↦{q} f : sProp 𝕄) ⊣⊢ iprop((xLoc d ↦{Transfers.shareDrop q 2} f) ∗ bigSep (Finset.range 2) fun i => xLoc d ↦{Transfers.shareTokN q i} f) :=
    Transfers.pointsTo_toks_range (ℓ := xLoc d) (S := Finset.univ) (f := f) q 2
  rw [show Finset.range 2 = {0, 1} by decide, SparseCore.bigSep_insert' (by decide), bigSep_singleton] at h
  exact h

set_option maxHeartbeats 1000000 in
theorem tile_body (hF : (K (F := F)).Facts) (hI : InRange I) (p : Fin 2 × Fin 16) (O : CellTallies nD τ sig (HIx 1)) (W : Waits sig (HIx 1)) (hO : ∀ g, O g none = 0) :
    iprop(levAts (K (F := F)).L (K (F := F)).lev ∗ emp ∗ piece X I P d p (O₀ d)
        ∗ scopedBufs (VT d (LT p)) ∗ scopedSems0 (VT d (LT p)) ∗ owes (VT d (LT p)) O W)
      ⊢ wp frame (wpE (defs₀ (F := F)) 𝒱₀ (VT d (LT p)) none) Set.univ
          (cc1_sc_gather (LT p) xV (Memref.isWhole_whole _) iV (Memref.isWhole_whole _) pV (Memref.isWhole_whole _) oV (Memref.isWhole_whole _)
            aV (Memref.isWhole_whole _) bV (Memref.isWhole_whole _) rV (Memref.isWhole_whole _) sV (Memref.isWhole_whole _) qV (Memref.isWhole_whole _)
            cc1_scratch5 cc1_scratch6 cc1_scratch7 cc1_scoped0 cc1_scoped1 cc1_scoped2 cc1_scoped3 cc1_scoped4)
          fun _ => iprop(piece X I P d p (OV X I P d) ∗ scopedBufs (VT d (LT p)) ∗ scopedSems0 (VT d (LT p))
            ∗ ∃ W', ⌜∀ p ∈ W', p ∈ W ∨ p.2 = none ∨ p.2 = some (0 : Fin 1)⌝ ∗ owes (VT d (LT p)) O W') := by
  rw [(K (F := F)).scopedBufs_V hF d (cV (LT p)) (jV (LT p)), SparseCore.Cfg.scopedSems0_V (Val := Elt F) d (cV (LT p)) (jV (LT p)), ownSems0_V, ownBufs_V]
  unfold piece
  have hwa : (aV).view.set = Finset.univ := View.set_whole _
  have hwb : (bV).view.set = Finset.univ := View.set_whole _
  have hwr : (rV).view.set = Finset.univ := View.set_whole _
  have hws : (sV).view.set = Finset.univ := View.set_whole _
  have hwq : (qV).view.set = Finset.univ := View.set_whole _
  iintro ⟨#Hlv, -, ⟨Hi, Hp, Hx, Ho0, Ho1⟩, ⟨⟨%a0, Ha⟩, ⟨%b0, Hb⟩, ⟨%r0, Hr⟩, ⟨%s0, Hs⟩, ⟨%p0, Hq⟩, Hbufs⟩, ⟨HC, Hsems⟩, HO⟩
  ihave Hmw := (show levAts (K (F := F)).L (K (F := F)).lev ⊢ Transfers.MayWaits (VT d (LT p)) (default : HIx 1) O from
    (K (F := F)).mayWaits_none (thr := VT d (LT p)) hO) $$ Hlv
  ihave Hx' := (xToks d (qT p) (X d)).1 $$ Hx
  icases Hx' with ⟨Hxr, Hx0, Hx1⟩
  iapply (wp_wand_r Idealize.ShloMosaic.frame (wpE (defs₀ (F := F)) 𝒱₀ (VT d (LT p)) none) Set.univ)
  isplitl [Hi Hp Hx0 Hx1 Ho0 Ho1 Ha Hb Hr Hs Hq HC HO]
  · iapply (tile_run X I P d (LT p) hI (qT p) (Transfers.shareTokN (qT p) 0) (Transfers.shareTokN (qT p) 1) O W (O₀ d) a0 b0 r0 s0 p0)
    rw [hwa, hwb, hwr, hws, hwq]
    isplitr; · iexact Hmw
    isplitl [Hi]; · iexact Hi
    isplitl [Hp]; · iexact Hp
    isplitl [Hx0]; · iexact Hx0
    isplitl [Hx1]; · iexact Hx1
    isplitl [Ho0]; · iexact Ho0
    isplitl [Ho1]; · iexact Ho1
    isplitl [Ha]; · iexact Ha
    isplitl [Hb]; · iexact Hb
    isplitl [Hr]; · iexact Hr
    isplitl [Hs]; · iexact Hs
    isplitl [Hq]; · iexact Hq
    isplitl [HC]; · iexact HC
    iexact HO
  iintro %_ ⟨Hi, Hp, Hx0, Hx1, Ho0, Ho1, Ha, Hb, Hr, Hs, Hq, HC, ⟨%W', %hW', HO⟩⟩
  ihave Hx := (xToks d (qT p) (X d)).2 $$ [Hxr Hx0 Hx1]
  · isplitl [Hxr]; · iexact Hxr
    isplitl [Hx0]; · iexact Hx0
    iexact Hx1
  isplitl [Hi Hp Hx Ho0 Ho1]
  · isplitl [Hi]; · iexact Hi
    isplitl [Hp]; · iexact Hp
    isplitl [Hx]; · iexact Hx
    isplitl [Ho0]; · iexact Ho0
    iexact Ho1
  isplitl [Ha Hb Hr Hs Hq Hbufs]
  · isplitl [Ha]; · iexact Ha
    isplitl [Hb]; · iexact Hb
    isplitl [Hr]; · iexact Hr
    isplitl [Hs]; · iexact Hs
    isplitl [Hq]; · iexact Hq
    iexact Hbufs
  isplitl [HC Hsems]
  · isplitl [HC]; · iexact HC
    iexact Hsems
  iexists W'; isplitr
  · ipureintro; exact fun w hw => (hW' w hw).imp_right Or.inl
  · iexact HO

theorem defs₀_vector (c : Fin τ.nSC) (s : Fin τ.nSub) :
    defs₀ (F := F) (.scVector c s) 1 ()
      = SparseCore.onTile hcore1 hsub1 (fun c s => cc1_sc_gather (coordsV c s)
          xV (Memref.isWhole_whole _) iV (Memref.isWhole_whole _) pV (Memref.isWhole_whole _) oV (Memref.isWhole_whole _)
            aV (Memref.isWhole_whole _) bV (Memref.isWhole_whole _) rV (Memref.isWhole_whole _) sV (Memref.isWhole_whole _) qV (Memref.isWhole_whole _)
            cc1_scratch5 cc1_scratch6 cc1_scratch7 cc1_scoped0 cc1_scoped1 cc1_scoped2 cc1_scoped3 cc1_scoped4) ⟨⟩ c s := rfl

end Body

theorem tileObl (hI : InRange I) : (K (F := F)).TileObl (D (F := F)) 𝒱 (PC X I P O₀) v₀ 0 := by
  intro d c i O W hO _ _
  simp only [show (PC X I P O₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body X I P O₀ d facts hI (Fin.cast nCore_zero c, Fin.cast nSub_zero i) O W hO

theorem vecSplit : (K (F := F)).VecSplit' (PC X I P O₀) 0 := by
  intro d c
  show (bigSep Finset.univ fun s : Fin 16 => piece X I P d (Fin.cast nCore_zero c, s) (O₀ d)) ⊢ |={Set.univ}=> iprop(
      (bigSep Finset.univ fun i : Fin 16 => piece X I P d (Fin.cast nCore_zero c, i) (O₀ d))
      ∗ ((bigSep Finset.univ fun i : Fin 16 => piece X I P d (Fin.cast nCore_zero c, i) (OV X I P d))
          -∗ bigSep Finset.univ fun s : Fin 16 => piece X I P d (Fin.cast nCore_zero c, s) (OV X I P d)))
  iintro H; imodintro
  isplitl [H]; · iexact H
  iintro H; iexact H

/-- What the call takes, what it hands back: the four arrays. -/
theorem st0_eq (d : Dev nD) : (bigSep Finset.univ fun c : Fin ((K (F := F)).nCore 0) => (PC X I P O₀).st 0 d c)
    = iprop((iLoc d ↦{fullShare} I d) ∗ (pLoc d ↦{fullShare} P d) ∗ (xLoc d ↦{fullShare} X d) ∗ oLoc d ↦{fullShare} O₀ d) :=
  pieces_all X I P d (O₀ d)
theorem dn0_eq (d : Dev nD) : (bigSep Finset.univ fun c : Fin ((K (F := F)).nCore 0) => (PC X I P O₀).dn 0 d c)
    = iprop((iLoc d ↦{fullShare} I d) ∗ (pLoc d ↦{fullShare} P d) ∗ (xLoc d ↦{fullShare} X d) ∗ oLoc d ↦{fullShare} OV X I P d) :=
  pieces_all X I P d (OV X I P d)

end Cert.Proof.WholeRows

end
-- ==== Proof.WholeRegion.lean ====
/-
  The TensorCore call as one step of @main: entered holding the arrays of its windows, it leaves them with the two
  results written, the core owing what it owed before.
-/
module

public import proofs.«01_k».proof.Proof.WholeTc
public import proofs.«01_k».proof.Proof.WholeLaunch

@[expose] public section

set_option maxRecDepth 16384

noncomputable section

namespace Cert.Proof.WholeRows

open Cert.KernelIdeal Cert.KernelIdeal.Gen

open Idealize.ShloMosaic Idealize.ShloMosaic.TcCoe
open Idealize.ShloMosaic.SparseCore (T)
open Idealize.ShloMosaic.SparseCore.Cfg (HIx)
open Idealize.ShloMosaic.Pipeline (Dat Cfg Window BodyObligation cellOf RegionSeg OwnSemFacts)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

def EP : Emb UP (MT nD τ sig (HIx 1) (Elt F) ℕ UU ℕ) := (Emb.inl.trans Emb.inr).trans uEmb.toEmb
instance EP_landsIn : (EP : Emb UP 𝕄).LandsIn (upEmb : UEmb _ 𝕄) := by unfold EP; infer_instance

variable (Vw Vw' : Dev nD → Valuation τ sig (Elt F))

abbrev adm : (p : Fin 1) → (pcfgs (F := F) p).Adm := fun p => (cfgs p).toPCfg_adm
abbrev pdats (p : Fin 1) (c : Dev nD) : Dat τ (Elt F) (HIx 1) ℕ UU ℕ (Pipeline.pin (pcfgs (F := F)) adm p) c := dats Vw p c

/-- The arrays the call's windows name. -/
abbrev arrs : Finset (DevRef τ sig) := Pipeline.arrRefs (τ := τ) spec0
/-- What the core owes through the call. -/
def owing (c : Dev nD) : sProp 𝕄 := iprop(∃ W, ⌜(K (F := F)).WBelow (T c) W 0⌝ ∗ owes (T c) ((K (F := F)).Otc c 0) W)

theorem Otc_none (c : Dev nD) (g : GSem nD τ sig) : (K (F := F)).Otc c 0 g none = 0 := by
  rcases Nat.eq_zero_or_pos ((K (F := F)).Otc c 0 g none) with h | h
  · exact h
  · have := SparseCore.Cfg.lev_of_Otc_pos h
    rw [SparseCore.Cfg.lev_none] at this
    omega

def seg (hA : ∀ c w, (pdats Vw 0 c).arrAt w cfg0.N = Vw' c (Proc.devRef .tc (Pipeline.arrRef spec0 w))) :
    RegionSeg (pcfgs (F := F)) adm (pdats Vw) ι₀ (defs₀ (F := F)) 𝒱₀ (K (F := F)).L (K (F := F)).lev 0 where
  win := (launch0.toP (Val := Elt F)).to₀.win
  block_pos := (launch0.toP (Val := Elt F)).block_pos
  stage_whole := (launch0.toP (Val := Elt F)).stage_whole
  K := PEmpty
  osem k := k.elim
  ho := OwnSemFacts.none _
  hbody c := (body_obligation Vw c).loose
  hwaits c := Pipeline.cellsWaits_intro _ (pdats Vw) ι₀ 0 c fun w s t => (K (F := F)).mayWait_none _ (Otc_none c)
  pre c := iprop(held (T c) arrs (Vw c) ∗ owing c)
  post c := iprop(held (T c) arrs (Vw' c) ∗ owing c)
  X _ := iprop(emp)
  Y _ := iprop(emp)
  Z _ := iprop(emp)
  hentry c := by
    rw [Pipeline.ownSems0_none, Pipeline.prefHeld_of_none _ rfl,
      Pipeline.arrays_held (pcfgs (F := F)) adm (pdats Vw) 0 launch0.toP c ((dats Vw 0 c).share_full fun _ => rfl) ((pdats Vw 0 c).arrAt · 0) (Vw c) (fun _ => rfl)]
    unfold owing Dat.owesAt Pipeline.owesWithin Dat.bound
    iintro ⟨⟨Ha, ⟨%W, %hW, HO⟩⟩, -, -⟩
    imodintro
    isplitl [Ha]; · iexact Ha
    isplitr; · iempintro
    isplitl [HO]
    · iexists W; isplitr; · ipureintro; exact fun x hx => Or.inl (hW x hx)
      iexact HO
    isplitr <;> iempintro
  hin c := by
    iintro ⟨-, -, Hr⟩
    rw [show (pdats Vw 0 c).Φ 0 = PhiS Vw c 0 (Nat.zero_le _) from rfl]
    unfold PhiS
    rw [if_pos rfl]
    iapply (Entails.of_eq (scopedRest0_eq c)) $$ Hr
  hout c := by
    rw [Pipeline.ownSems0_none, show (pdats Vw 0 c).Φ (Fin.last _) = PhiS Vw c cfg0.N (Nat.le_refl _) from rfl]
    unfold PhiS
    rw [if_neg (by rw [show cfg0.N = 32 from N_0]; decide)]
    iintro ⟨H0, H1⟩
    isplitr; · iempintro
    isplitr; · iempintro
    iapply (Entails.of_eq (scopedRest0_eq c).symm)
    isplitl [H0]
    · iexists _; iexact H0
    iexists _; iexact H1
  hexit c := by
    rw [Pipeline.arrays_held (pcfgs (F := F)) adm (pdats Vw) 0 launch0.toP c ((dats Vw 0 c).share_full fun _ => rfl) ((pdats Vw 0 c).arrAt · cfg0.N) (Vw' c) (hA c)]
    unfold owing Dat.owesAt Pipeline.owesWithin Dat.bound
    iintro ⟨Ha, ⟨%W, %hW, HO⟩, -, -⟩
    imodintro
    isplitl [Ha]; · iexact Ha
    iexists W; isplitr
    · ipureintro
      intro x hx
      rcases hW hx with h | ⟨w, s, h⟩
      · exact h
      · subst h; exact Nat.le_refl _
    iexact HO

/-- What the launch deals the core for the call. -/
def ghost (c : Dev nD) : sProp 𝕄 :=
  iprop(Pipeline.cellsGhost (Pipeline.pin (pcfgs (F := F)) adm) EP 0 c ∗ Pipeline.toksInit (Pipeline.pin (pcfgs (F := F)) adm) EP 0 c)

/-- The call as a program of the TensorCore's own table. -/
def callP (c : Dev nD) : Prog (TpuEff nD τ sig (Elt F) (ΛP (F := F)) (SparseCore.T (nD := nD) (τ := τ) c).2) PUnit := .op (.customCall (Pipeline.entry 0) ()) fun _ => .ret ⟨⟩

theorem region_wp_own [∀ e, Nonempty (Elt F e)] (hA : ∀ c w, (pdats Vw 0 c).arrAt w cfg0.N = Vw' c (Proc.devRef .tc (Pipeline.arrRef spec0 w))) (c : Dev nD) (Q : PUnit → sProp 𝕄) :
    iprop((iprop(boundary (T c) ∗ held (T c) arrs (Vw' c) ∗ owing c) -∗ Q ⟨⟩)
        ∗ boundary (T c) ∗ (held (T c) arrs (Vw c) ∗ owing c) ∗ levAts (K (F := F)).L (K (F := F)).lev ∗ ghost c)
      ⊢ wp frame (wpE (D (F := F)) 𝒱 (T c) none) Set.univ (callP (F := F) c) Q := by
  have h := RegionSeg.wp (pcfgs (F := F)) adm (pdats Vw) ι₀ cellOf_inj EP (defs₀ (F := F)) 𝒱₀ (K (F := F)).L (K (F := F)).lev (seg Vw Vw' hA) c none (fun _ h => nomatch h) (fun _ => .ret ⟨⟩) Q
  rw [show (seg Vw Vw' hA).pre c = iprop(held (T c) arrs (Vw c) ∗ owing c) from rfl,
    show (seg Vw Vw' hA).post c = iprop(held (T c) arrs (Vw' c) ∗ owing c) from rfl] at h
  refine BIBase.Entails.trans ?_ h
  unfold ghost
  iintro ⟨Hk, Hb, Hp, Hl, Hg, Ht⟩
  isplitl [Hk]
  · iintro H
    rw [wp_ret]
    imodintro
    iapply Hk $$ H
  isplitl [Hb]; · iexact Hb
  isplitl [Hp]; · iexact Hp
  isplitl [Hl]; · iexact Hl
  isplitl [Hg]; · iexact Hg
  iexact Ht

theorem region_wp [∀ e, Nonempty (Elt F e)] (hA : ∀ c w, (pdats Vw 0 c).arrAt w cfg0.N = Vw' c (Proc.devRef .tc (Pipeline.arrRef spec0 w))) (c : Dev nD) (Q : PUnit → sProp 𝕄) :
    iprop((iprop(boundary (T c) ∗ held (T c) arrs (Vw' c) ∗ owing c) -∗ Q ⟨⟩)
        ∗ boundary (T c) ∗ (held (T c) arrs (Vw c) ∗ owing c) ∗ levAts (K (F := F)).L (K (F := F)).lev ∗ ghost c)
      ⊢ wp frame (wpE ((K (F := F)).defs (D (F := F))) 𝒱 (T c) none) Set.univ
          (Prog.lift (.customCall (SparseCore.inner (Pipeline.entry 0)) ())) Q :=
  (region_wp_own Vw Vw' hA c Q).trans ((K (F := F)).wp_liftProg (D (F := F)) 𝒱 (T c) Set.univ none (callP (F := F) c) Q)

end Cert.Proof.WholeRows

end
-- ==== Proof.WholeMain.lean ====
/-
  The whole @main: four host operations, the TensorCore call, a reshape, the SparseCore call, four host operations;
  the run of the program to the contents it leaves in every array of @main, over any reading of the floats under which
  the indices the TensorCore call leaves are in range.
-/
module

public import proofs.«01_k».proof.Proof.WholeRegion

@[expose] public section

set_option maxRecDepth 16384

noncomputable section

namespace Cert.Proof.WholeRows

open Cert.KernelIdeal Cert.KernelIdeal.Gen

open Idealize.ShloMosaic Idealize.ShloMosaic.TcCoe
open Idealize.ShloMosaic.SparseCore (T)
open Idealize.ShloMosaic.SparseCore.Cfg (HIx)
open Idealize.ShloMosaic.Pipeline (Dat Cfg Window)
open Idealize.ShloMosaic.StableHlo (held held_split held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- A buffer of @main as the device's. -/
abbrev dr (b : Ref sig .tc) : DevRef τ sig := Proc.devRef .tc b

abbrev opX : HloOp τ sig (Elt F) := StableHlo.reshape main_arg0 main_v0 (rfl : (.f32 : EltTy) = .f32) shapeCasts_S16x512x129_S8192x129
abbrev opB : HloOp τ sig (Elt F) := StableHlo.reshape main_arg2 main_v1 (rfl : (.f32 : EltTy) = .f32) shapeCasts_S256_S1x256
abbrev opP : HloOp τ sig (Elt F) := StableHlo.reshape main_arg4 main_v2 (rfl : (.f32 : EltTy) = .f32) shapeCasts_S1x512x256_S512x256
abbrev opH : HloOp τ sig (Elt F) := StableHlo.unary main_arg3 main_v3 ((truncf .bf16 · bitsLt_bf16_f32) : (⟨S8192x256, .f32⟩ : BufTy).Contents (Elt F) → (⟨S8192x256, .bf16⟩ : BufTy).Contents (Elt F))
abbrev opC : HloOp τ sig (Elt F) := StableHlo.reshape main_arg3 main_v5 (rfl : (.f32 : EltTy) = .f32) shapeCasts_S8192x256_S8192x2x128
abbrev opR : HloOp τ sig (Elt F) := StableHlo.reshape main_v6 main_v7 (rfl : (.f32 : EltTy) = .f32) shapeCasts_S8192x2x128_S16x512x256
abbrev opL : HloOp τ sig (Elt F) := StableHlo.reshape main_v4_1 main_v8 (rfl : (.f32 : EltTy) = .f32) shapeCasts_S1x1_S_
abbrev opK : HloOp τ sig (Elt F) := StableHlo.nullary main_cst (constant S_ .f32 0x4A000000#32)
abbrev opD : HloOp τ sig (Elt F) := StableHlo.binary main_v8 main_cst main_v9 (Host.divf : (⟨S_, .f32⟩ : BufTy).Contents (Elt F) → (⟨S_, .f32⟩ : BufTy).Contents (Elt F) → (⟨S_, .f32⟩ : BufTy).Contents (Elt F))

/-- At the launch. -/
def V0 (d : Dev nD) : Valuation τ sig (Elt F) := fun b => m (d, b)
/-- As the TensorCore call finds the arrays. -/
def V1 (d : Dev nD) : Valuation τ sig (Elt F) := (opH (F := F)).result ((opP (F := F)).result ((opB (F := F)).result ((opX (F := F)).result (V0 m d))))
/-- After it. -/
def V2 (d : Dev nD) : Valuation τ sig (Elt F) :=
  Function.update (Function.update (V1 m d) (dr main_v4_0) (G5 (V1 m) d)) (dr main_v4_1) (G6 (V1 m) d)
/-- As the SparseCore call finds them. -/
def V3 (d : Dev nD) : Valuation τ sig (Elt F) := (opC (F := F)).result (V2 m d)

def X0 (d : Dev nD) : Buf (Elt F) (xLoc d) := V3 m d (dr main_v5)
def I0 (d : Dev nD) : Buf (Elt F) (iLoc d) := V3 m d (dr main_v4_0)
def P0 (d : Dev nD) : Buf (Elt F) (pLoc d) := V3 m d (dr main_v2)
def O0 (d : Dev nD) : Buf (Elt F) (oLoc d) := V3 m d (dr main_v6)

/-- After it. -/
def V4 (d : Dev nD) : Valuation τ sig (Elt F) := Function.update (V3 m d) (dr main_v6) (OV (X0 m) (I0 m) (P0 m) d)
/-- At the end. -/
def V5 (d : Dev nD) : Valuation τ sig (Elt F) := (opD (F := F)).result ((opK (F := F)).result ((opL (F := F)).result ((opR (F := F)).result (V4 m d))))

/-! ## The launch -/

def u₀ : UU := (initOf (K (F := F)).hsCells (K (F := F)).hsToks, (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (PC (X0 m) (I0 m) (P0 m) (O0 m)).x q thr) := by
  unfold u₀
  iintro Hu
  ihave H := (ownU_pair (initOf (K (F := F)).hsCells (K (F := F)).hsToks) (initOf (Pipeline.cells (Pipeline.pin (pcfgs (F := F)) adm) cellOf_inj) (Pipeline.launchToks (Pipeline.pin (pcfgs (F := F)) adm) cellOf_inj), (1 : Counters))) $$ Hu
  icases H with ⟨HH, HP⟩
  ihave H := (own_pair_emb (embR : Emb (UP × Counters) 𝕄) (initOf (Pipeline.cells (Pipeline.pin (pcfgs (F := F)) adm) cellOf_inj) (Pipeline.launchToks (Pipeline.pin (pcfgs (F := F)) adm) cellOf_inj)) (1 : Counters)) $$ HP
  icases H with ⟨HP, -⟩
  ihave HP := (Entails.of_eq (show BI.own ((((Emb.inl : Emb UP (UP × Counters)).trans (embR : Emb (UP × Counters) 𝕄)) (initOf (Pipeline.cells (Pipeline.pin (pcfgs (F := F)) adm) cellOf_inj) (Pipeline.launchToks (Pipeline.pin (pcfgs (F := F)) adm) cellOf_inj))))
      = (BI.own (EP (initOf (Pipeline.cells (Pipeline.pin (pcfgs (F := F)) adm) cellOf_inj) (Pipeline.launchToks (Pipeline.pin (pcfgs (F := F)) adm) cellOf_inj))) : sProp 𝕄) from rfl)) $$ HP
  ihave Hf := (Pipeline.fund_ghost (Pipeline.pin (pcfgs (F := F)) adm) (EP : Emb UP 𝕄) cellOf_inj) $$ HP
  imod Hf
  icases Hf with ⟨Hg, Ht⟩
  imodintro
  isplitl [HH]; · iexact HH
  isplitl [Hg Ht]
  · rw [show (bigSep Finset.univ fun d : Dev nD => (ghost d : sProp 𝕄))
        = iprop((bigSep Finset.univ fun c : Dev nD => bigSep Finset.univ fun p => Pipeline.cellsGhost (Pipeline.pin (pcfgs (F := F)) adm) EP p c)
          ∗ (bigSep Finset.univ fun c : Dev nD => bigSep Finset.univ fun p => Pipeline.toksInit (Pipeline.pin (pcfgs (F := F)) adm) EP p c)) from by
      unfold ghost
      rw [← bigSep_sep']
      refine bigSep_congr fun c _ => ?_
      rw [bigSep_univ_of_subsingleton (0 : Fin 1), bigSep_univ_of_subsingleton (0 : Fin 1)]]
    isplitl [Hg] <;> iassumption
  rw [show (bigSep Finset.univ fun thr : Thread nD τ => bigSep Finset.univ fun q : Fin 1 => (PC (F := F) (X0 m) (I0 m) (P0 m) (O0 m)).x q thr) = bigSep Finset.univ fun _ => iprop(emp) from
    bigSep_congr fun _ _ => bigSep_univ_of_subsingleton (0 : Fin 1), bigSep_emp']
  iempintro

/-! ## The calls' arrays out of @main's -/

abbrev SA : Finset (DevRef τ sig) := Pipeline.ucRefs τ sig
abbrev S4 : Finset (DevRef τ sig) := {dr main_v4_0, dr main_v2, dr main_v5, dr main_v6}

theorem arrs_sub : arrs ⊆ SA := Pipeline.arrRefs_sub_ucRefs spec0 (by decide)
theorem mem_SA (b : Ref sig .tc) (h : b.isScoped = false) : dr b ∈ SA :=
  Finset.mem_filter.mpr ⟨StableHlo.devRef_mem_tcRefs b, by
    intro h'
    exact Bool.false_ne_true (h.symm.trans h')⟩
theorem S4_sub : S4 ⊆ SA := by
  intro b hb
  simp only [S4, Finset.mem_insert, Finset.mem_singleton] at hb
  rcases hb with rfl | rfl | rfl | rfl
  · exact mem_SA main_v4_0 rfl
  · exact mem_SA main_v2 rfl
  · exact mem_SA main_v5 rfl
  · exact mem_SA main_v6 rfl

omit [FloatOps F] in
theorem held_S4 (d : Dev nD) (W : Valuation τ sig (Elt F)) :
    (held (T d) S4 W : sProp 𝕄)
      = iprop((iLoc d ↦{fullShare} W (dr main_v4_0)) ∗ (pLoc d ↦{fullShare} W (dr main_v2)) ∗ (xLoc d ↦{fullShare} W (dr main_v5)) ∗ oLoc d ↦{fullShare} W (dr main_v6)) := by
  unfold held S4
  rw [SparseCore.bigSep_insert' (by decide), SparseCore.bigSep_insert' (by decide), SparseCore.bigSep_insert' (by decide), bigSep_singleton]

theorem V2_ids (d : Dev nD) : V2 m d (dr main_v4_0) = G5 (V1 m) d := by
  unfold V2
  rw [Function.update_of_ne (by decide), Function.update_self]
theorem V2_loss (d : Dev nD) : V2 m d (dr main_v4_1) = G6 (V1 m) d := by
  unfold V2
  rw [Function.update_self]
theorem V2_ne (d : Dev nD) (b : DevRef τ sig) (h1 : b ≠ dr main_v4_0) (h2 : b ≠ dr main_v4_1) : V2 m d b = V1 m d b := by
  unfold V2
  rw [Function.update_of_ne h2, Function.update_of_ne h1]

theorem ids_arr : dr main_v4_0 ∈ arrs := by
  exact Finset.mem_map.mpr ⟨Pipeline.arrRef spec0 5, Finset.mem_image.mpr ⟨5, Finset.mem_univ _, rfl⟩, rfl⟩
theorem loss_arr : dr main_v4_1 ∈ arrs := by
  exact Finset.mem_map.mpr ⟨Pipeline.arrRef spec0 6, Finset.mem_image.mpr ⟨6, Finset.mem_univ _, rfl⟩, rfl⟩

theorem hA (c : Dev nD) : ∀ w : Fin cfg0.W, (pdats (V1 m) 0 c).arrAt w cfg0.N = V2 m c (Proc.devRef .tc (Pipeline.arrRef spec0 w))
  | 0 => ((dats (V1 m) 0 c).arrAt_in 0 rfl _).trans ((A_eq (V1 m) c 0).trans (V2_ne m c _ (by decide) (by decide)).symm)
  | 1 => ((dats (V1 m) 0 c).arrAt_in 1 rfl _).trans ((A_eq (V1 m) c 1).trans (V2_ne m c _ (by decide) (by decide)).symm)
  | 2 => ((dats (V1 m) 0 c).arrAt_in 2 rfl _).trans ((A_eq (V1 m) c 2).trans (V2_ne m c _ (by decide) (by decide)).symm)
  | 3 => ((dats (V1 m) 0 c).arrAt_in 3 rfl _).trans ((A_eq (V1 m) c 3).trans (V2_ne m c _ (by decide) (by decide)).symm)
  | 4 => ((dats (V1 m) 0 c).arrAt_in 4 rfl _).trans ((A_eq (V1 m) c 4).trans (V2_ne m c _ (by decide) (by decide)).symm)
  | 5 => (final5 (V1 m) c).trans (V2_ids m c).symm
  | 6 => (final6 (V1 m) c).trans (V2_loss m c).symm
  | ⟨_ + 7, h⟩ => absurd h (Nat.not_lt.2 (Nat.le_add_left _ _))

theorem rest_V2 (d : Dev nD) : (held (T d) (SA \ arrs) (V1 m d) : sProp 𝕄) = held (T d) (SA \ arrs) (V2 m d) :=
  held_congr (T d) fun b hb => (V2_ne m d b (fun h => (Finset.mem_sdiff.mp hb).2 (h ▸ ids_arr)) (fun h => (Finset.mem_sdiff.mp hb).2 (h ▸ loss_arr))).symm

theorem V4_o (d : Dev nD) : V4 m d (dr main_v6) = OV (X0 m) (I0 m) (P0 m) d := Function.update_self _ _ _
theorem V4_ne (d : Dev nD) (b : DevRef τ sig) (h : b ≠ dr main_v6) : V4 m d b = V3 m d b := Function.update_of_ne h _ _
theorem rest_V4 (d : Dev nD) : (held (T d) (SA \ S4) (V3 m d) : sProp 𝕄) = held (T d) (SA \ S4) (V4 m d) :=
  held_congr (T d) fun b hb => (V4_ne m d b (fun h => (Finset.mem_sdiff.mp hb).2 (by rw [h]; decide))).symm

/-! ## @main -/

/-- What @main leaves the claims: every array at its final contents. -/
def FIN (d : Dev nD) : sProp 𝕄 := held (T d) SA (V5 m d)

/-- The core's state before the SparseCore call but for what it owes. -/
def restSt (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
theorem tcSt_zero (d : Dev nD) : ((K (F := F)).tcSt EH d 0 : sProp 𝕄) = iprop(owing d ∗ restSt d) := rfl

theorem hmain [∀ e, Nonempty (Elt F e)] (κ : GSem nD τ sig → ℕ) (d : Dev nD) :
    iprop((K (F := F)).ctx EH (PC (X0 m) (I0 m) (P0 m) (O0 m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) SA (V0 m d) from Pipeline.unscopedBufs_held d (V0 m d)]
  simp only [main, wp_bind, wp_pure]
  iintro ⟨#Hctx, Hst, ⟨Hb, Hh, Hts, -⟩, Hg⟩
  iapply (wp_hlo_within 𝒱 (SparseCore.T d) none Set.univ (op := opX) (S := SA) (Pipeline.sub_ucRefs _ (StableHlo.reshape_bufs_sub ..)) (V := V0 m d)) $$ [Hb Hh]
  · isplitl [Hb] <;> iassumption
  iintro ⟨Hb, Hh⟩
  rw [wp_ret]; imodintro
  iapply (wp_hlo_within 𝒱 (SparseCore.T d) none Set.univ (op := opB) (S := SA) (Pipeline.sub_ucRefs _ (StableHlo.reshape_bufs_sub ..)) (V := (opX (F := F)).result (V0 m d))) $$ [Hb Hh]
  · isplitl [Hb] <;> iassumption
  iintro ⟨Hb, Hh⟩
  rw [wp_ret]; imodintro
  iapply (wp_hlo_within 𝒱 (SparseCore.T d) none Set.univ (op := opP) (S := SA) (Pipeline.sub_ucRefs _ (StableHlo.reshape_bufs_sub ..)) (V := (opB (F := F)).result ((opX (F := F)).result (V0 m d)))) $$ [Hb Hh]
  · isplitl [Hb] <;> iassumption
  iintro ⟨Hb, Hh⟩
  rw [wp_ret]; imodintro
  iapply (wp_hlo_within 𝒱 (SparseCore.T d) none Set.univ (op := opH) (S := SA) (Pipeline.sub_ucRefs _ (StableHlo.unary_bufs_sub ..)) (V := (opP (F := F)).result ((opB (F := F)).result ((opX (F := F)).result (V0 m d))))) $$ [Hb Hh]
  · isplitl [Hb] <;> iassumption
  iintro ⟨Hb, Hh⟩
  rw [wp_ret]; imodintro
  ihave Hh := (Entails.of_eq (show (held (T d) SA ((opH (F := F)).result ((opP (F := F)).result ((opB (F := F)).result ((opX (F := F)).result (V0 m d))))) : sProp 𝕄)
      = iprop(held (T d) arrs (V1 m d) ∗ held (T d) (SA \ arrs) (V1 m d)) from held_sub_split (T d) arrs_sub (V1 m d))) $$ Hh
  icases Hh with ⟨Ha, Hr⟩
  ihave Hst := (Entails.of_eq (tcSt_zero (F := F) d)) $$ Hst
  icases Hst with ⟨HO, Hst⟩
  iapply (region_wp (V1 m) (V2 m) (hA m) d _)
  isplitr [Hb Ha HO Hg]
  swap
  · isplitl [Hb]; · iexact Hb
    isplitl [Ha HO]
    · isplitl [Ha]; · iexact Ha
      iexact HO
    isplitr [Hg]
    · iapply ((K (F := F)).ctx_levAts (EH := EH) (P := PC (X0 m) (I0 m) (P0 m) (O0 m)) κ) $$ Hctx
    iexact Hg
  iintro ⟨Hb, Ha, HO⟩
  ihave Hh := (Entails.of_eq (show iprop(held (T d) arrs (V2 m d) ∗ held (T d) (SA \ arrs) (V1 m d)) = (held (T d) SA (V2 m d) : sProp 𝕄) from by
    rw [rest_V2, ← held_sub_split (T d) arrs_sub (V2 m d)])) $$ [Ha Hr]
  · isplitl [Ha] <;> iassumption
  iapply (wp_hlo_within 𝒱 (SparseCore.T d) none Set.univ (op := opC) (S := SA) (Pipeline.sub_ucRefs _ (StableHlo.reshape_bufs_sub ..)) (V := V2 m d)) $$ [Hb Hh]
  · isplitl [Hb] <;> iassumption
  iintro ⟨Hb, Hh⟩
  rw [wp_ret]; imodintro
  ihave Hh := (Entails.of_eq (show (held (T d) SA ((opC (F := F)).result (V2 m d)) : sProp 𝕄)
      = iprop(((iLoc d ↦{fullShare} I0 m d) ∗ (pLoc d ↦{fullShare} P0 m d) ∗ (xLoc d ↦{fullShare} X0 m d) ∗ oLoc d ↦{fullShare} O0 m d) ∗ held (T d) (SA \ S4) (V3 m d)) from
    (held_sub_split (T d) S4_sub (V3 m d)).trans (by rw [held_S4]; rfl))) $$ Hh
  icases Hh with ⟨⟨Hi, Hp, Hx, Ho⟩, Hr⟩
  iapply ((K (F := F)).wp_run (D (F := F)) 𝒱 (EH := EH) (P := PC (X0 m) (I0 m) (P0 m) (O0 m)) κ d 0) $$ [HO Hst Hi Hp Hx Ho Hr Hb Hts]
  isplitr; · iexact Hctx
  isplitl [HO Hst]
  · iapply (Entails.of_eq (tcSt_zero (F := F) d).symm)
    isplitl [HO]; · iexact HO
    iexact Hst
  isplitl [Hi Hp Hx Ho]
  · rw [st0_eq]
    isplitl [Hi]; · iexact Hi
    isplitl [Hp]; · iexact Hp
    isplitl [Hx]; · iexact Hx
    iexact Ho
  iintro ⟨Hst, Hdn⟩
  ihave Hh := (Entails.of_eq (show iprop((bigSep Finset.univ fun c : Fin ((K (F := F)).nCore 0) => (PC (X0 m) (I0 m) (P0 m) (O0 m)).dn 0 d c) ∗ held (T d) (SA \ S4) (V3 m d))
      = (held (T d) SA (V4 m d) : sProp 𝕄) from by
    rw [dn0_eq, rest_V4, held_sub_split (T d) S4_sub (V4 m d), held_S4, V4_o, V4_ne m d (dr main_v4_0) (by decide), V4_ne m d (dr main_v2) (by decide), V4_ne m d (dr main_v5) (by decide)]
    rfl)) $$ [Hdn Hr]
  · isplitl [Hdn] <;> iassumption
  iapply (wp_hlo_within 𝒱 (SparseCore.T d) none Set.univ (op := opR) (S := SA) (Pipeline.sub_ucRefs _ (StableHlo.reshape_bufs_sub ..)) (V := V4 m d)) $$ [Hb Hh]
  · isplitl [Hb] <;> iassumption
  iintro ⟨Hb, Hh⟩
  rw [wp_ret]; imodintro
  iapply (wp_hlo_within 𝒱 (SparseCore.T d) none Set.univ (op := opL) (S := SA) (Pipeline.sub_ucRefs _ (StableHlo.reshape_bufs_sub ..)) (V := (opR (F := F)).result (V4 m d))) $$ [Hb Hh]
  · isplitl [Hb] <;> iassumption
  iintro ⟨Hb, Hh⟩
  rw [wp_ret]; imodintro
  iapply (wp_hlo_within 𝒱 (SparseCore.T d) none Set.univ (op := opK) (S := SA) (Pipeline.sub_ucRefs _ (StableHlo.nullary_bufs_sub ..)) (V := (opL (F := F)).result ((opR (F := F)).result (V4 m d)))) $$ [Hb Hh]
  · isplitl [Hb] <;> iassumption
  iintro ⟨Hb, Hh⟩
  rw [wp_ret]; imodintro
  iapply (wp_hlo_within 𝒱 (SparseCore.T d) none Set.univ (op := opD) (S := SA) (Pipeline.sub_ucRefs _ (StableHlo.binary_bufs_sub ..)) (V := (opK (F := F)).result ((opL (F := F)).result ((opR (F := F)).result (V4 m d))))) $$ [Hb Hh]
  · isplitl [Hb] <;> iassumption
  iintro ⟨Hb, Hh⟩
  rw [wp_ret]; imodintro; imodintro
  isplitl [Hst]; · iexact Hst
  isplitl [Hh]
  · unfold FIN V5; iexact Hh
  isplitl [Hb] <;> iassumption

/-- What the claims read of the final state. -/
def fq (d : Dev nD) (s' : Phys nD τ sig (Elt F)) : Prop :=
  ∀ b : Ref sig .tc, b.isScoped = false → s'.mem.mem ((SparseCore.T d).loc b) = V5 m d (dr b)

theorem hfin (d : Dev nD) (s' : Phys nD τ sig (Elt F)) : iprop(FIN m d ∗ SI s') ⊢ (⌜fq m d s'⌝ : sProp 𝕄) := by
  classical
  have h : ∀ b : Ref sig .tc, b.isScoped = false → iprop(FIN m d ∗ SI s') ⊢ (⌜s'.mem.mem ((SparseCore.T d).loc b) = V5 m d (dr b)⌝ : sProp 𝕄) := by
    intro b hb
    unfold FIN
    rw [held_sub_split (T d) (Finset.singleton_subset_iff.mpr (mem_SA b hb))]
    unfold held
    rw [bigSep_singleton]
    iintro ⟨⟨Hb, -⟩, HSI⟩
    ihave H := (SI_pointsTo_agree (st := s') (ℓ := (SparseCore.T d).loc b) (I := Finset.univ) (q := fullShare) (f := V5 m d (dr b))) $$ [HSI Hb]
    · isplitl [HSI] <;> iassumption
    icases H with %h4
    ipureintro
    exact funext fun i => h4 i (Finset.mem_univ i)
  by_cases hq : fq m d s'
  · exact BIClass.pure_intro hq
  · unfold fq at hq
    simp only [not_forall] at hq
    obtain ⟨b, hb, hne⟩ := hq
    exact (h b hb).trans (Laws.pure_mono fun e => absurd e hne)

def QC : PUnit × MemSt nD τ sig (Elt F) → Prop := fun r =>
  (∀ (d : Dev nD) (b : Ref sig .tc), b.isScoped = false → r.2.mem ((SparseCore.T d).loc b) = V5 m d (dr b)) ∧ r.2.sem = fun _ => 0

theorem run_main [∀ e, Nonempty (Elt F e)] (hI : InRange (I0 m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PC (X0 m) (I0 m) (P0 m) (O0 m)) (A := ∅) facts v₀
    (fun q hq => match q with | 0 => nomatch hq)
    (fun q _ => match q with | 0 => tileObl (X0 m) (I0 m) (P0 m) (O0 m) hI)
    (fun q _ => match q with | 0 => SparseCore.Cfg.VecSplit.of_plain (vecSplit (X0 m) (I0 m) (P0 m) (O0 m)))
    m ρ main ghost (FIN m) (u₀ (F := F)) (sep_elim_left.trans (hu₀ m)) (hmain m ρ) (fq m) (hfin m) (QC m) (fun _ h hz => ⟨h, hz⟩)

end Cert.Proof.WholeRows

end
-- ==== Proof.WholeVal.lean ====
/-
  What the TensorCore call leaves when the arrays it reads are arrays of reals: each row's index is the first least place
  of its distances, and the loss is the sum of the least distances.
-/
module

public import proofs.«01_k».proof.Proof.WholeRefVal
public import proofs.«01_k».proof.Proof.WholeMain

@[expose] public section

set_option maxRecDepth 16384

noncomputable section

namespace Cert.Proof.WholeVal

open Cert.KernelIdeal Cert.KernelIdeal.Gen
open Idealize.ShloMosaic
open Cert.Proof.WholeNum (coe_sum least)
open Cert.Proof.WholePay (zR dR)
open Cert.Proof.WholeRefVal (near lossR rowOf)
open Cert.Proof.WholeRows (iblk idsAt minAt lossAt E2 N2 G5 G6 ptOf locOf N_0 dr t0)
open scoped BigOperators

/-! ## Where the points read -/

theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_facts1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_facts2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_facts3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_facts4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem t_lt (t : Fin cfg0.N) : t.val < 32 := lt_of_lt_of_eq t.isLt (show cfg0.N = 32 from N_0)
theorem at_lt (t : Fin cfg0.N) (p : Fin 256) : t.val * 256 + p.val < 8192 := by have := t_lt t; omega
/-- The row a point meets at a place of its block. -/
def rowAt (t : Fin cfg0.N) (p : Fin 256) : Fin 8192 := ⟨t.val * 256 + p.val, at_lt t p⟩

theorem emb0 (t : Fin cfg0.N) (p : Fin 256) (f : Fin 129) :
    ((cfg0.win 0).blk t).view.emb (ix2 (n0 := 256) (n1 := 129) p f) = ix2 (n0 := 8192) (n1 := 129) (rowAt t p) f := by
  obtain ⟨e0, e1⟩ := idx_facts0 t
  have hb0 : (((cfg0.win 0).blk t).view.emb (ix2 (n0 := 256) (n1 := 129) p f) 0).val = win0_0.index t (0 : Fin 2) * 256 + 1 * p.val := rfl
  have hb1 : (((cfg0.win 0).blk t).view.emb (ix2 (n0 := 256) (n1 := 129) p f) 1).val = win0_0.index t (1 : Fin 2) * 129 + 1 * f.val := rfl
  funext a; apply Fin.ext
  match a with
  | ⟨0, _⟩ => refine hb0.trans ?_; rw [e0]; show _ = t.val * 256 + p.val; omega
  | ⟨1, _⟩ => refine hb1.trans ?_; rw [e1]; show _ = f.val; omega
theorem emb1 (t : Fin cfg0.N) (p : Fin 256) (f : Fin 129) :
    ((cfg0.win 1).blk t).view.emb (ix2 (n0 := 256) (n1 := 129) p f) = ix2 (n0 := 256) (n1 := 129) p f := by
  obtain ⟨e0, e1⟩ := idx_facts1 t
  have hb0 : (((cfg0.win 1).blk t).view.emb (ix2 (n0 := 256) (n1 := 129) p f) 0).val = win0_1.index t (0 : Fin 2) * 256 + 1 * p.val := rfl
  have hb1 : (((cfg0.win 1).blk t).view.emb (ix2 (n0 := 256) (n1 := 129) p f) 1).val = win0_1.index t (1 : Fin 2) * 129 + 1 * f.val := rfl
  funext a; apply Fin.ext
  match a with
  | ⟨0, _⟩ => refine hb0.trans ?_; rw [e0]; show _ = p.val; omega
  | ⟨1, _⟩ => refine hb1.trans ?_; rw [e1]; show _ = f.val; omega
theorem emb2 (t : Fin cfg0.N) (d : Fin 256) :
    ((cfg0.win 2).blk t).view.emb (ix2 (n0 := 1) (n1 := 256) 0 d) = ix2 (n0 := 1) (n1 := 256) 0 d := by
  obtain ⟨e0, e1⟩ := idx_facts2 t
  have hb0 : (((cfg0.win 2).blk t).view.emb (ix2 (n0 := 1) (n1 := 256) 0 d) 0).val = win0_2.index t (0 : Fin 2) * 1 + 1 * 0 := rfl
  have hb1 : (((cfg0.win 2).blk t).view.emb (ix2 (n0 := 1) (n1 := 256) 0 d) 1).val = win0_2.index t (1 : Fin 2) * 256 + 1 * d.val := rfl
  funext a; apply Fin.ext
  match a with
  | ⟨0, _⟩ => refine hb0.trans ?_; rw [e0]; rfl
  | ⟨1, _⟩ => refine hb1.trans ?_; rw [e1]; show _ = d.val; omega
theorem emb3 (t : Fin cfg0.N) (k : Fin 8192) (d : Fin 256) :
    ((cfg0.win 3).blk t).view.emb (ix2 (n0 := 8192) (n1 := 256) k d) = ix2 (n0 := 8192) (n1 := 256) k d := by
  obtain ⟨e0, e1⟩ := idx_facts3 t
  have hb0 : (((cfg0.win 3).blk t).view.emb (ix2 (n0 := 8192) (n1 := 256) k d) 0).val = win0_3.index t (0 : Fin 2) * 8192 + 1 * k.val := rfl
  have hb1 : (((cfg0.win 3).blk t).view.emb (ix2 (n0 := 8192) (n1 := 256) k d) 1).val = win0_3.index t (1 : Fin 2) * 256 + 1 * d.val := rfl
  funext a; apply Fin.ext
  match a with
  | ⟨0, _⟩ => refine hb0.trans ?_; rw [e0]; show _ = k.val; omega
  | ⟨1, _⟩ => refine hb1.trans ?_; rw [e1]; show _ = d.val; omega
theorem emb4 (t : Fin cfg0.N) (k : Fin 8192) (d : Fin 256) :
    ((cfg0.win 4).blk t).view.emb (ix2 (n0 := 8192) (n1 := 256) k d) = ix2 (n0 := 8192) (n1 := 256) k d := by
  obtain ⟨e0, e1⟩ := idx_facts4 t
  have hb0 : (((cfg0.win 4).blk t).view.emb (ix2 (n0 := 8192) (n1 := 256) k d) 0).val = win0_4.index t (0 : Fin 2) * 8192 + 1 * k.val := rfl
  have hb1 : (((cfg0.win 4).blk t).view.emb (ix2 (n0 := 8192) (n1 := 256) k d) 1).val = win0_4.index t (1 : Fin 2) * 256 + 1 * d.val := rfl
  funext a; apply Fin.ext
  match a with
  | ⟨0, _⟩ => refine hb0.trans ?_; rw [e0]; show _ = k.val; omega
  | ⟨1, _⟩ => refine hb1.trans ?_; rw [e1]; show _ = d.val; omega

/-! ## The points' values -/

/-- Every row's index is a row of the table, whatever the floats. -/
theorem G5_some (Vw : Dev nD → Valuation τ sig (Elt Ideal)) (e : Dev nD) (r : Fin 8192) : ∃ k : Fin 8192, G5 Vw e (ix1 (n0 := 8192) r) = BitVec.ofNat 32 k.val := by
  have hr := r.isLt
  let p : Fin 256 := ⟨r.val % 256, by omega⟩
  have hl : locOf (ix1 (n0 := 8192) r) = ix1 (n0 := 256) p := by
    funext a
    match a with
    | ⟨0, _⟩ => rfl
  unfold G5
  rw [hl]
  exact WholePay.pay7_some (iblk Vw e 0 _) (iblk Vw e 1 _) (iblk Vw e 2 _) (iblk Vw e 4 _) (E2 Vw e) p

section Reals
variable (x : Fin 8192 → Fin 129 → ℝ) (w : Fin 256 → Fin 129 → ℝ) (b : Fin 256 → ℝ) (c : Fin 8192 → Fin 256 → ℝ)
variable (Vw : Dev nD → Valuation τ sig (Elt Ideal)) (e : Dev nD)
variable (h0 : ∀ r f, (Vw e (dr main_v0) : FVec Ideal S8192x129 .f32) (ix2 (n0 := 8192) (n1 := 129) r f) = ((x r f : ℝ) : EReal))
variable (h1 : ∀ d f, (Vw e (dr main_arg1) : FVec Ideal S256x129 .f32) (ix2 (n0 := 256) (n1 := 129) d f) = ((w d f : ℝ) : EReal))
variable (h2 : ∀ d, (Vw e (dr main_v1) : FVec Ideal S1x256 .f32) (ix2 (n0 := 1) (n1 := 256) 0 d) = ((b d : ℝ) : EReal))
variable (h3 : ∀ k d, (Vw e (dr main_arg3) : FVec Ideal S8192x256 .f32) (ix2 (n0 := 8192) (n1 := 256) k d) = ((c k d : ℝ) : EReal))
variable (h4 : ∀ k d, (Vw e (dr main_v3) : FVec Ideal S8192x256 .bf16) (ix2 (n0 := 8192) (n1 := 256) k d) = ((c k d : ℝ) : EReal))

include h0 in
theorem blk0 (t : Fin cfg0.N) (p : Fin 256) (f : Fin 129) :
    (iblk Vw e 0 t : Vec Ideal S256x129 .f32) (ix2 (n0 := 256) (n1 := 129) p f) = ((x (rowAt t p) f : ℝ) : EReal) :=
  (congrArg (Vw e (dr main_v0) : FVec Ideal S8192x129 .f32) (emb0 t p f)).trans (h0 _ _)
include h1 in
theorem blk1 (t : Fin cfg0.N) (p : Fin 256) (f : Fin 129) :
    (iblk Vw e 1 t : Vec Ideal S256x129 .f32) (ix2 (n0 := 256) (n1 := 129) p f) = ((w p f : ℝ) : EReal) :=
  (congrArg (Vw e (dr main_arg1) : FVec Ideal S256x129 .f32) (emb1 t p f)).trans (h1 _ _)
include h2 in
theorem blk2 (t : Fin cfg0.N) (d : Fin 256) :
    (iblk Vw e 2 t : Vec Ideal S1x256 .f32) (ix2 (n0 := 1) (n1 := 256) 0 d) = ((b d : ℝ) : EReal) :=
  (congrArg (Vw e (dr main_v1) : FVec Ideal S1x256 .f32) (emb2 t d)).trans (h2 _)
include h3 in
theorem blk3 (t : Fin cfg0.N) (k : Fin 8192) (d : Fin 256) :
    (iblk Vw e 3 t : Vec Ideal S8192x256 .f32) (ix2 (n0 := 8192) (n1 := 256) k d) = ((c k d : ℝ) : EReal) :=
  (congrArg (Vw e (dr main_arg3) : FVec Ideal S8192x256 .f32) (emb3 t k d)).trans (h3 _ _)
include h4 in
theorem blk4 (t : Fin cfg0.N) (k : Fin 8192) (d : Fin 256) :
    (iblk Vw e 4 t : Vec Ideal S8192x256 .bf16) (ix2 (n0 := 8192) (n1 := 256) k d) = ((c k d : ℝ) : EReal) :=
  (congrArg (Vw e (dr main_v3) : FVec Ideal S8192x256 .bf16) (emb4 t k d)).trans (h4 _ _)

include h3 in
theorem E2_apply (k : Fin 8192) : E2 Vw e (ix2 (n0 := 1) (n1 := 8192) 0 k) = ((∑ d, c k d * c k d : ℝ) : EReal) :=
  WholePay.pay2_apply c (iblk Vw e 3 t0) (blk3 c Vw e h3 t0) k

include h0 h1 h2 h3 h4 in
theorem idsAt_apply (t : Fin cfg0.N) (p : Fin 256) :
    idsAt Vw e t (ix1 (n0 := 256) p) = BitVec.ofNat 32 (near x w b c (rowAt t p)).val :=
  WholePay.pay7_apply (fun p => x (rowAt t p)) w b c (iblk Vw e 0 t) (iblk Vw e 1 t) (iblk Vw e 2 t) (iblk Vw e 4 t)
    (blk0 x Vw e h0 t) (blk1 w Vw e h1 t) (blk2 b Vw e h2 t) (blk4 c Vw e h4 t) (E2 Vw e) (E2_apply c Vw e h3) p

include h0 h1 h2 h3 h4 in
theorem minAt_apply (t : Fin cfg0.N) (p : Fin 256) :
    minAt Vw e t (ix2 (n0 := 256) (n1 := 1) p 0) = ((dR x w b c (rowAt t p) (near x w b c (rowAt t p)) : ℝ) : EReal) :=
  WholePay.pay6_apply (fun p => x (rowAt t p)) w b c (iblk Vw e 0 t) (iblk Vw e 1 t) (iblk Vw e 2 t) (iblk Vw e 4 t)
    (blk0 x Vw e h0 t) (blk1 w Vw e h1 t) (blk2 b Vw e h2 t) (blk4 c Vw e h4 t) (E2 Vw e) (E2_apply c Vw e h3) p

include h0 h1 h2 h3 h4 in
/-- Every row's index. -/
theorem G5_apply (r : Fin 8192) : G5 Vw e (ix1 (n0 := 8192) r) = BitVec.ofNat 32 (near x w b c r).val := by
  have hr := r.isLt
  let p : Fin 256 := ⟨r.val % 256, by omega⟩
  have hl : locOf (ix1 (n0 := 8192) r) = ix1 (n0 := 256) p := by
    funext a
    match a with
    | ⟨0, _⟩ => rfl
  have ha : rowAt (ptOf (ix1 (n0 := 8192) r)) p = r := Fin.ext (by
    show r.val / 256 * 256 + r.val % 256 = r.val
    omega)
  unfold G5
  rw [hl]
  refine (idsAt_apply x w b c Vw e h0 h1 h2 h3 h4 _ p).trans ?_
  rw [ha]

/-- The sum of a point's least distances. -/
def part (n : ℕ) : ℝ := if h : n < cfg0.N then ∑ p : Fin 256, dR x w b c (rowAt ⟨n, h⟩ p) (near x w b c (rowAt ⟨n, h⟩ p)) else 0

include h0 h1 h2 h3 h4 in
theorem lossAt_apply (n : ℕ) (h : n < cfg0.N) :
    lossAt Vw e n h (ix2 (n0 := 1) (n1 := 1) 0 0) = ((∑ i ∈ Finset.range (n + 1), part x w b c i : ℝ) : EReal) := by
  induction n with
  | zero =>
    refine (WholePay.pay1_apply (minAt Vw e ⟨0, h⟩) (k0_pay3 (F := Ideal)) _ 0 (minAt_apply x w b c Vw e h0 h1 h2 h3 h4 ⟨0, h⟩) WholePay.pay3_apply).trans ?_
    rw [Finset.sum_range_one, zero_add, part, dif_pos h]
  | succ n ih =>
    refine (WholePay.pay1_apply (minAt Vw e ⟨n + 1, h⟩) (lossAt Vw e n (Nat.lt_of_succ_lt h)) _ _ (minAt_apply x w b c Vw e h0 h1 h2 h3 h4 ⟨n + 1, h⟩) (ih _)).trans ?_
    rw [Finset.sum_range_succ _ (n + 1), part, dif_pos h]

/-- The rows by point and place. -/
def blockEquiv : Fin 32 × Fin 256 ≃ Fin 8192 where
  toFun p := ⟨p.1.val * 256 + p.2.val, by omega⟩
  invFun r := (⟨r.val / 256, by omega⟩, ⟨r.val % 256, by omega⟩)
  left_inv p := by
    obtain ⟨i, n⟩ := p
    refine Prod.ext (Fin.ext ?_) (Fin.ext ?_)
    · show (i.val * 256 + n.val) / 256 = i.val
      omega
    · show (i.val * 256 + n.val) % 256 = n.val
      omega
  right_inv r := Fin.ext (by show r.val / 256 * 256 + r.val % 256 = r.val; omega)

include h0 h1 h2 h3 h4 in
/-- The loss sum. -/
theorem G6_apply (i : S1x1.Idx) : G6 Vw e i = ((lossR x w b c : ℝ) : EReal) := by
  rw [WholeRows.one_place i (ix2 (n0 := 1) (n1 := 1) 0 0)]
  unfold G6
  refine (lossAt_apply x w b c Vw e h0 h1 h2 h3 h4 31 _).trans ?_
  refine congrArg _ ?_
  rw [lossR, ← Equiv.sum_comp blockEquiv, Fintype.sum_prod_type, Finset.sum_range]
  refine Finset.sum_congr rfl fun t _ => ?_
  rw [part, dif_pos (lt_of_lt_of_eq t.isLt N_0.symm)]
  rfl

end Reals

end Cert.Proof.WholeVal

end
-- ==== Proof.WholeClaim.lean ====
/-
  The claims of the whole kernel over exact values: it runs and leaves its arguments, and its two results are the
  reference's, entry by entry, whenever the rows, the weights, the bias and the codebook are finite.
-/
module

public import proofs.«01_k».proof.Proof.WholeVal

@[expose] public section

set_option maxRecDepth 16384

noncomputable section

namespace Cert.Proof.WholeClaim

open Cert.KernelIdeal Cert.KernelIdeal.Gen
open Idealize.ShloMosaic Idealize.ShloMosaic.TcCoe Idealize.SL.Sem
open Cert.Proof.WholePay (zR dR)
open Cert.Proof.WholeRefVal (near lossR rowOf)
open Cert.Proof.WholeRows (opX opB opP opH opC opR opL opK opD V0 V1 V2 V3 V4 V5 X0 I0 P0 G5 G6 dr OV outVal InRange QC run_main V2_ids V2_loss V2_ne V4_o V4_ne)
open scoped BigOperators

variable (m : (ℓ : Loc nD τ sig) → Buf (Elt Ideal) ℓ)

abbrev a0 (d : Dev nD) : FVec Ideal S16x512x129 .f32 := m ((d.tc : Thread nD τ).loc main_arg0)
abbrev a1 (d : Dev nD) : FVec Ideal S256x129 .f32 := m ((d.tc : Thread nD τ).loc main_arg1)
abbrev a2 (d : Dev nD) : FVec Ideal S256 .f32 := m ((d.tc : Thread nD τ).loc main_arg2)
abbrev a3 (d : Dev nD) : FVec Ideal S8192x256 .f32 := m ((d.tc : Thread nD τ).loc main_arg3)
abbrev a4 (d : Dev nD) : FVec Ideal S1x512x256 .f32 := m ((d.tc : Thread nD τ).loc main_arg4)

/-! ## What each step leaves in the arrays -/

theorem V1_ne (d : Dev nD) (b : DevRef τ sig) (h0 : b ≠ dr main_v0) (h1 : b ≠ dr main_v1) (h2 : b ≠ dr main_v2) (h3 : b ≠ dr main_v3) : V1 m d b = m (d, b) := by
  unfold V1
  rw [(opH (F := Ideal)).result_of_not_mem _ (show b ∉ ({dr main_v3} : Finset (DevRef τ sig)) by simpa using h3),
    (opP (F := Ideal)).result_of_not_mem _ (show b ∉ ({dr main_v2} : Finset (DevRef τ sig)) by simpa using h2),
    (opB (F := Ideal)).result_of_not_mem _ (show b ∉ ({dr main_v1} : Finset (DevRef τ sig)) by simpa using h1),
    (opX (F := Ideal)).result_of_not_mem _ (show b ∉ ({dr main_v0} : Finset (DevRef τ sig)) by simpa using h0)]
  rfl
theorem V1_x (d : Dev nD) : V1 m d (dr main_v0) = shapeCast S8192x129 (a0 m d) shapeCasts_S16x512x129_S8192x129 := by
  unfold V1
  rw [(opH (F := Ideal)).result_of_not_mem _ (show dr main_v0 ∉ ({dr main_v3} : Finset (DevRef τ sig)) by decide),
    (opP (F := Ideal)).result_of_not_mem _ (show dr main_v0 ∉ ({dr main_v2} : Finset (DevRef τ sig)) by decide),
    (opB (F := Ideal)).result_of_not_mem _ (show dr main_v0 ∉ ({dr main_v1} : Finset (DevRef τ sig)) by decide)]
  exact StableHlo.reshape_result _ _ _ _ _ _ _
theorem V1_b (d : Dev nD) : V1 m d (dr main_v1) = shapeCast S1x256 (a2 m d) shapeCasts_S256_S1x256 := by
  unfold V1
  rw [(opH (F := Ideal)).result_of_not_mem _ (show dr main_v1 ∉ ({dr main_v3} : Finset (DevRef τ sig)) by decide),
    (opP (F := Ideal)).result_of_not_mem _ (show dr main_v1 ∉ ({dr main_v2} : Finset (DevRef τ sig)) by decide)]
  refine (StableHlo.reshape_result _ _ _ _ _ _ _).trans ?_
  show shapeCast S1x256 ((opX (F := Ideal)).result (V0 m d) (dr main_arg2)) _ = _
  rw [(opX (F := Ideal)).result_of_not_mem _ (show dr main_arg2 ∉ ({dr main_v0} : Finset (DevRef τ sig)) by decide)]
  rfl
theorem V1_p (d : Dev nD) : V1 m d (dr main_v2) = shapeCast S512x256 (a4 m d) shapeCasts_S1x512x256_S512x256 := by
  unfold V1
  rw [(opH (F := Ideal)).result_of_not_mem _ (show dr main_v2 ∉ ({dr main_v3} : Finset (DevRef τ sig)) by decide)]
  refine (StableHlo.reshape_result _ _ _ _ _ _ _).trans ?_
  show shapeCast S512x256 ((opB (F := Ideal)).result ((opX (F := Ideal)).result (V0 m d)) (dr main_arg4)) _ = _
  rw [(opB (F := Ideal)).result_of_not_mem _ (show dr main_arg4 ∉ ({dr main_v1} : Finset (DevRef τ sig)) by decide),
    (opX (F := Ideal)).result_of_not_mem _ (show dr main_arg4 ∉ ({dr main_v0} : Finset (DevRef τ sig)) by decide)]
  rfl
theorem V1_h (d : Dev nD) : V1 m d (dr main_v3) = (truncf .bf16 (a3 m d) bitsLt_bf16_f32 : FVec Ideal S8192x256 .bf16) := by
  unfold V1
  refine (StableHlo.unary_result _ _ _ _ _ _).trans ?_
  refine congrArg (fun v : FVec Ideal S8192x256 .f32 => (truncf .bf16 v bitsLt_bf16_f32 : FVec Ideal S8192x256 .bf16)) ?_
  rw [(opP (F := Ideal)).result_of_not_mem _ (show dr main_arg3 ∉ ({dr main_v2} : Finset (DevRef τ sig)) by decide),
    (opB (F := Ideal)).result_of_not_mem _ (show dr main_arg3 ∉ ({dr main_v1} : Finset (DevRef τ sig)) by decide),
    (opX (F := Ideal)).result_of_not_mem _ (show dr main_arg3 ∉ ({dr main_v0} : Finset (DevRef τ sig)) by decide)]
  rfl

theorem V3_ne (d : Dev nD) (b : DevRef τ sig) (h : b ≠ dr main_v5) : V3 m d b = V2 m d b :=
  (opC (F := Ideal)).result_of_not_mem _ (show b ∉ ({dr main_v5} : Finset (DevRef τ sig)) by simpa using h)
theorem X0_eq (d : Dev nD) : X0 m d = shapeCast S8192x2x128 (a3 m d) shapeCasts_S8192x256_S8192x2x128 := by
  unfold X0 V3
  refine (StableHlo.reshape_result _ _ _ _ _ _ _).trans ?_
  show shapeCast S8192x2x128 (V2 m d (dr main_arg3)) _ = _
  rw [V2_ne m d _ (by decide) (by decide), V1_ne m d _ (by decide) (by decide) (by decide) (by decide)]
theorem I0_eq (d : Dev nD) : I0 m d = G5 (V1 m) d := by
  unfold I0
  exact (V3_ne m d _ (by decide)).trans (V2_ids m d)
theorem P0_eq (d : Dev nD) : P0 m d = shapeCast S512x256 (a4 m d) shapeCasts_S1x512x256_S512x256 := by
  unfold P0
  exact ((V3_ne m d _ (by decide)).trans (V2_ne m d _ (by decide) (by decide))).trans (V1_p m d)

theorem V5_arg (d : Dev nD) (b : DevRef τ sig) (h : b ≠ dr main_v0 ∧ b ≠ dr main_v1 ∧ b ≠ dr main_v2 ∧ b ≠ dr main_v3 ∧ b ≠ dr main_v4_0 ∧ b ≠ dr main_v4_1
    ∧ b ≠ dr main_v5 ∧ b ≠ dr main_v6 ∧ b ≠ dr main_v7 ∧ b ≠ dr main_v8 ∧ b ≠ dr main_cst ∧ b ≠ dr main_v9) : V5 m d b = m (d, b) := by
  obtain ⟨h0, h1, h2, h3, h4, h4', h5, h6, h7, h8, hc, h9⟩ := h
  unfold V5
  rw [(opD (F := Ideal)).result_of_not_mem _ (show b ∉ ({dr main_v9} : Finset (DevRef τ sig)) by simpa using h9),
    (opK (F := Ideal)).result_of_not_mem _ (show b ∉ ({dr main_cst} : Finset (DevRef τ sig)) by simpa using hc),
    (opL (F := Ideal)).result_of_not_mem _ (show b ∉ ({dr main_v8} : Finset (DevRef τ sig)) by simpa using h8),
    (opR (F := Ideal)).result_of_not_mem _ (show b ∉ ({dr main_v7} : Finset (DevRef τ sig)) by simpa using h7),
    V4_ne m d b h6, V3_ne m d b h5, V2_ne m d b h4 h4', V1_ne m d b h0 h1 h2 h3]

theorem V5_out (d : Dev nD) : V5 m d (dr main_v7) = shapeCast S16x512x256 (outVal (F := Ideal) (X0 m d) (I0 m d) (P0 m d)) shapeCasts_S8192x2x128_S16x512x256 := by
  unfold V5
  rw [(opD (F := Ideal)).result_of_not_mem _ (show dr main_v7 ∉ ({dr main_v9} : Finset (DevRef τ sig)) by decide),
    (opK (F := Ideal)).result_of_not_mem _ (show dr main_v7 ∉ ({dr main_cst} : Finset (DevRef τ sig)) by decide),
    (opL (F := Ideal)).result_of_not_mem _ (show dr main_v7 ∉ ({dr main_v8} : Finset (DevRef τ sig)) by decide)]
  refine (StableHlo.reshape_result _ _ _ _ _ _ _).trans ?_
  show shapeCast S16x512x256 (V4 m d (dr main_v6)) _ = _
  rw [V4_o]
theorem V5_loss (d : Dev nD) :
    V5 m d (dr main_v9) = (Host.divf (shapeCast S_ (G6 (V1 m) d) shapeCasts_S1x1_S_) (constant S_ .f32 0x4A000000#32) : FVec Ideal S_ .f32) := by
  unfold V5
  refine (StableHlo.binary_result _ _ _ _ _ _ _ _).trans ?_
  refine congrArg₂ (fun u v : FVec Ideal S_ .f32 => Host.divf u v) ?_ ?_
  · rw [(opK (F := Ideal)).result_of_not_mem _ (show dr main_v8 ∉ ({dr main_cst} : Finset (DevRef τ sig)) by decide)]
    refine (StableHlo.reshape_result _ _ _ _ _ _ _).trans ?_
    show shapeCast S_ ((opR (F := Ideal)).result (V4 m d) (dr main_v4_1)) _ = _
    rw [(opR (F := Ideal)).result_of_not_mem _ (show dr main_v4_1 ∉ ({dr main_v7} : Finset (DevRef τ sig)) by decide),
      V4_ne m d _ (by decide), V3_ne m d _ (by decide), V2_loss]
  · exact StableHlo.nullary_result _ _ _ _

/-! ## The output read through its reshapes -/

theorem out_apply (C : FVec Ideal S8192x256 .f32) (I : S8192.Idx → Elt Ideal .i32) (P : FVec Ideal S1x512x256 .f32) (k : Fin 8192) (i : Fin 16) (n : Fin 512) (j : Fin 256)
    (hI : I (ix1 (n0 := 8192) (rowOf i n)) = BitVec.ofNat 32 k.val) :
    (shapeCast S16x512x256 (outVal (F := Ideal) (shapeCast S8192x2x128 C shapeCasts_S8192x256_S8192x2x128) I (shapeCast S512x256 P shapeCasts_S1x512x256_S512x256))
      shapeCasts_S8192x2x128_S16x512x256 : FVec Ideal S16x512x256 .f32) (ix3 (n0 := 16) (n1 := 512) (n2 := 256) i n j)
      = (C (ix2 (n0 := 8192) (n1 := 256) k j) : EReal) + P (ix3 (n0 := 1) (n1 := 512) (n2 := 256) 0 n j) := by
  have hi := i.isLt; have hn := n.isLt; have hj := j.isLt; have hk := k.isLt
  let h : Fin 2 := ⟨j.val / 128, by omega⟩
  let l : Fin 128 := ⟨j.val % 128, by omega⟩
  rw [shapeCast_apply _ _ _ (ix3 (n0 := 8192) (n1 := 2) (n2 := 128) (rowOf i n) h l) (by
    rw [Shape.rowMajor_val_three, Shape.rowMajor_val_three]
    show ((i.val * 512 + n.val) * 2 + j.val / 128) * 128 + j.val % 128 = (i.val * 512 + n.val) * 256 + j.val
    omega)]
  refine congrArg₂ (fun u v : EReal => u + v) ?_ ?_
  · refine shapeCast_apply _ _ _ _ ?_
    rw [Shape.rowMajor_val_two, Shape.rowMajor_val_three]
    show k.val * 256 + j.val = (((I (ix1 (n0 := 8192) (rowOf i n)) : BitVec 32).toNat % 8192) * 2 + j.val / 128) * 128 + j.val % 128
    rw [hI, BitVec.toNat_ofNat]
    omega
  · refine shapeCast_apply _ _ _ _ ?_
    rw [Shape.rowMajor_val_two, Shape.rowMajor_val_three]
    show (0 * 512 + n.val) * 256 + j.val = ((i.val * 512 + n.val) % 512) * 256 + (128 * (j.val / 128) + j.val % 128)
    omega

/-! ## The arguments as reals -/

/-- A device's arguments are arrays of reals. -/
structure Reals (d : Dev nD) (x : Fin 8192 → Fin 129 → ℝ) (w : Fin 256 → Fin 129 → ℝ) (b : Fin 256 → ℝ) (c : Fin 8192 → Fin 256 → ℝ) : Prop where
  hX : ∀ i n f, a0 m d (ix3 (n0 := 16) (n1 := 512) (n2 := 129) i n f) = ((x (rowOf i n) f : ℝ) : EReal)
  hW : ∀ p f, a1 m d (ix2 (n0 := 256) (n1 := 129) p f) = ((w p f : ℝ) : EReal)
  hB : ∀ p, a2 m d (ix1 (n0 := 256) p) = ((b p : ℝ) : EReal)
  hC : ∀ k p, a3 m d (ix2 (n0 := 8192) (n1 := 256) k p) = ((c k p : ℝ) : EReal)

theorem reals (hpre : Cert.Pre_KernelIdeal_kernel_finite m) (d : Dev nD) : ∃ x w b c, Reals m d x w b c := by
  obtain ⟨⟨rx, hx⟩, ⟨rw', hw⟩, ⟨rb, hb⟩, ⟨rc, hc⟩⟩ := WholeNum.reals_of_pre (a0 m d) (a1 m d) (a2 m d) (a3 m d) (a4 m d) (hpre d)
  refine ⟨fun r f => rx (ix3 (n0 := 16) (n1 := 512) (n2 := 129) (WholeRefVal.rowEquiv.symm r).1 (WholeRefVal.rowEquiv.symm r).2 f), fun p f => rw' (ix2 (n0 := 256) (n1 := 129) p f),
    fun p => rb (ix1 (n0 := 256) p), fun k p => rc (ix2 (n0 := 8192) (n1 := 256) k p), ⟨fun i n f => ?_, fun p f => hw _, fun p => hb _, fun k p => hc _⟩⟩
  refine (hx _).trans ?_
  have e : WholeRefVal.rowEquiv.symm (rowOf i n) = (i, n) := WholeRefVal.rowEquiv.symm_apply_apply (i, n)
  show _ = ((rx (ix3 (n0 := 16) (n1 := 512) (n2 := 129) (WholeRefVal.rowEquiv.symm (rowOf i n)).1 (WholeRefVal.rowEquiv.symm (rowOf i n)).2 f) : ℝ) : EReal)
  rw [e]

section Device
variable (d : Dev nD) (x : Fin 8192 → Fin 129 → ℝ) (w : Fin 256 → Fin 129 → ℝ) (b : Fin 256 → ℝ) (c : Fin 8192 → Fin 256 → ℝ) (H : Reals m d x w b c)

include H in
theorem h0 (r : Fin 8192) (f : Fin 129) : (V1 m d (dr main_v0) : FVec Ideal S8192x129 .f32) (ix2 (n0 := 8192) (n1 := 129) r f) = ((x r f : ℝ) : EReal) := by
  rw [V1_x]
  refine (shapeCast_apply _ _ _ (ix3 (n0 := 16) (n1 := 512) (n2 := 129) (WholeRefVal.rowEquiv.symm r).1 (WholeRefVal.rowEquiv.symm r).2 f) ?_).trans ?_
  · rw [Shape.rowMajor_val_two, Shape.rowMajor_val_three]
    show (r.val / 512 * 512 + r.val % 512) * 129 + f.val = r.val * 129 + f.val
    omega
  · refine (H.hX _ _ _).trans ?_
    rw [show rowOf (WholeRefVal.rowEquiv.symm r).1 (WholeRefVal.rowEquiv.symm r).2 = r from WholeRefVal.rowEquiv.apply_symm_apply r]
include H in
theorem h1 (p : Fin 256) (f : Fin 129) : (V1 m d (dr main_arg1) : FVec Ideal S256x129 .f32) (ix2 (n0 := 256) (n1 := 129) p f) = ((w p f : ℝ) : EReal) := by
  rw [V1_ne m d _ (by decide) (by decide) (by decide) (by decide)]
  exact H.hW p f
include H in
theorem h2 (p : Fin 256) : (V1 m d (dr main_v1) : FVec Ideal S1x256 .f32) (ix2 (n0 := 1) (n1 := 256) 0 p) = ((b p : ℝ) : EReal) := by
  rw [V1_b]
  refine (shapeCast_apply _ _ _ (ix1 (n0 := 256) p) ?_).trans (H.hB p)
  rw [Shape.rowMajor_val_one, Shape.rowMajor_val_two]
  show p.val = 0 * 256 + p.val
  omega
include H in
theorem h3 (k : Fin 8192) (p : Fin 256) : (V1 m d (dr main_arg3) : FVec Ideal S8192x256 .f32) (ix2 (n0 := 8192) (n1 := 256) k p) = ((c k p : ℝ) : EReal) := by
  rw [V1_ne m d _ (by decide) (by decide) (by decide) (by decide)]
  exact H.hC k p
include H in
theorem h4 (k : Fin 8192) (p : Fin 256) : (V1 m d (dr main_v3) : FVec Ideal S8192x256 .bf16) (ix2 (n0 := 8192) (n1 := 256) k p) = ((c k p : ℝ) : EReal) := by
  rw [V1_h]
  exact H.hC k p

include H in
theorem ids_eq (r : Fin 8192) : I0 m d (ix1 (n0 := 8192) r) = BitVec.ofNat 32 (near x w b c r).val := by
  rw [I0_eq]
  exact WholeVal.G5_apply x w b c (V1 m) d (h0 m d x w b c H) (h1 m d x w b c H) (h2 m d x w b c H) (h3 m d x w b c H) (h4 m d x w b c H) r

include H in
/-- The kernel's output is the reference's. -/
theorem out_eq : V5 m d (dr main_v7) = (WholeRef.outV (WholeRef.qV (WholeRef.zV (a0 m d) (a1 m d) (a2 m d)) (a3 m d)) (WholeRef.zV (a0 m d) (a1 m d) (a2 m d)) (a4 m d) : FVec Ideal S16x512x256 .f32) := by
  rw [V5_out, X0_eq, P0_eq]
  funext y
  obtain ⟨i, n, j, rfl⟩ : ∃ (i : Fin 16) (n : Fin 512) (j : Fin 256), y = ix3 (n0 := 16) (n1 := 512) (n2 := 256) i n j :=
    ⟨y 0, y 1, y 2, by funext a; match a with | ⟨0, _⟩ => rfl | ⟨1, _⟩ => rfl | ⟨2, _⟩ => rfl⟩
  refine (out_apply (a3 m d) (I0 m d) (a4 m d) (near x w b c (rowOf i n)) i n j (ids_eq m d x w b c H _)).trans ?_
  rw [H.hC]
  exact (WholeRefVal.outV_apply x w b c (a0 m d) (a1 m d) (a2 m d) (a3 m d) H.hX H.hW H.hB H.hC (a4 m d) i n j).symm

include H in
/-- The kernel's loss is the reference's. -/
theorem loss_eq : V5 m d (dr main_v9) = (WholeRef.lossV (WholeRef.qV (WholeRef.zV (a0 m d) (a1 m d) (a2 m d)) (a3 m d)) (WholeRef.zV (a0 m d) (a1 m d) (a2 m d)) : FVec Ideal S_ .f32) := by
  rw [V5_loss]
  funext k
  refine Eq.trans ?_ (WholeRefVal.lossV_apply x w b c (a0 m d) (a1 m d) (a2 m d) (a3 m d) H.hX H.hW H.hB H.hC k).symm
  refine (ValueIdx.hostDivf_apply _ _ _).trans ?_
  exact congrArg₂ Ideal.div (WholeVal.G6_apply x w b c (V1 m) d (h0 m d x w b c H) (h1 m d x w b c H) (h2 m d x w b c H) (h3 m d x w b c H) (h4 m d x w b c H) _) rfl

end Device

theorem inRange : InRange (I0 m) := fun d k => by
  obtain ⟨r, rfl⟩ : ∃ r : Fin 8192, k = ix1 (n0 := 8192) r := ⟨k 0, by funext a; match a with | ⟨0, _⟩ => rfl⟩
  obtain ⟨q, hq⟩ := WholeVal.G5_some (V1 m) d r
  have hl := q.isLt
  rw [I0_eq, hq, BitVec.toNat_ofNat]
  omega

/-- The kernel's run: both results, the arguments and the semaphores. -/
theorem run (g : Dev nD → PrngReg) :
    θ_run (Cert.KernelIdeal.defs (F := Ideal)) (Cert.KernelIdeal.threads (F := Ideal)) ⟨m, fun _ => 0, g⟩ fun r =>
      (∀ d : Dev nD, r.2.mem ((d.tc : Thread nD τ).loc main_v7) = V5 m d (dr main_v7) ∧ r.2.mem ((d.tc : Thread nD τ).loc main_v9) = V5 m d (dr main_v9)
        ∧ r.2.mem ((d.tc : Thread nD τ).loc main_arg0) = m ((d.tc : Thread nD τ).loc main_arg0) ∧ r.2.mem ((d.tc : Thread nD τ).loc main_arg1) = m ((d.tc : Thread nD τ).loc main_arg1)
        ∧ r.2.mem ((d.tc : Thread nD τ).loc main_arg2) = m ((d.tc : Thread nD τ).loc main_arg2) ∧ r.2.mem ((d.tc : Thread nD τ).loc main_arg3) = m ((d.tc : Thread nD τ).loc main_arg3)
        ∧ r.2.mem ((d.tc : Thread nD τ).loc main_arg4) = m ((d.tc : Thread nD τ).loc main_arg4)) ∧ r.2.sem = fun _ => 0 := by
  refine (θ_run Cert.KernelIdeal.defs _ _).mono (fun r h => ⟨fun d => ?_, h.2⟩) (run_main (F := Ideal) m g (inRange m))
  exact ⟨h.1 d main_v7 rfl, h.1 d main_v9 rfl, (h.1 d main_arg0 rfl).trans (V5_arg m d _ (by decide)), (h.1 d main_arg1 rfl).trans (V5_arg m d _ (by decide)),
    (h.1 d main_arg2 rfl).trans (V5_arg m d _ (by decide)), (h.1 d main_arg3 rfl).trans (V5_arg m d _ (by decide)), (h.1 d main_arg4 rfl).trans (V5_arg m d _ (by decide))⟩

/-- The kernel runs, leaves its arguments and every semaphore at rest. -/
theorem frame : Cert.quiescent_KernelIdeal := fun m g _ =>
  (θ_run Cert.KernelIdeal.defs _ _).mono (fun r h => ⟨fun d => (h.1 d).2.2, h.2⟩) (run m g)

/-- The same under the value claim's precondition. -/
theorem frame_finite : Cert.quiescent_KernelIdeal_pre_kernel_finite := fun m g _ => frame m g trivial

/-- The reference's frame under the value claim's precondition. -/
theorem frame_ref_finite : Cert.quiescent_ReferenceIdeal_pre_kernel_finite := fun m g _ => WholeRef.frame_ref m g trivial

/-- Over exact values the two results are equal, entry by entry. -/
theorem algebraic : Cert.algebraic_KernelIdeal_ReferenceIdeal_pre_kernel_finite := by
  intro m g m' g' hpre hargs
  refine ⟨fun d => V5 m d (dr main_v7), fun d => V5 m d (dr main_v9), ?_, ?_⟩
  · exact (θ_run Cert.KernelIdeal.defs _ _).mono (fun _ h => h.1) (run m g)
  · refine (θ_run Cert.ReferenceIdeal.defs _ _).mono (fun r h d => ⟨(h d).1.1.trans ?_, (h d).1.2.trans ?_, (h d).2⟩) (WholeRef.run (F := Ideal) m' g')
    all_goals
      obtain ⟨e0, e1, e2, e3, e4⟩ := hargs d
      obtain ⟨x, w, b, c, H⟩ := reals m hpre d
    · rw [e0, e1, e2, e3, e4]
      exact (out_eq m d x w b c H).symm
    · rw [e0, e1, e2, e3]
      exact (loss_eq m d x w b c H).symm

end Cert.Proof.WholeClaim

end
-- ==== Proof.lean ====
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.RowsIdeal
public import proofs.«01_k».proof.Proof.Gen.RowsIdeal.Run
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_kernel_finite
public import proofs.«01_k».proof.Proof.Gen.Pre_idx_in_range
public import Idealize.ShloMosaic.Adequacy
public import Idealize.ShloMosaic.Init
public import proofs.«01_k».proof.Proof.RowsRef
public import proofs.«01_k».proof.Proof.WholeClaim

@[expose] public section

noncomputable section

namespace Cert.Proof

open Idealize.ShloMosaic Idealize.SL.Sem Cert.Gather

theorem claim : Cert.Claim := ⟨Cert.Gather.Gen.facts, Cert.GatherIdeal.Gen.facts, Cert.RowsIdeal.Gen.facts, Cert.KernelIdeal.Gen.facts,
  Cert.ReferenceIdeal.Gen.facts, Cert.Pre_idx_in_range.Gen.facts, Cert.Pre_kernel_finite.Gen.facts,
  Cert.Proof.Rows.frame_bits, Cert.Proof.Rows.frame_ideal, Cert.Proof.RowsRef.frame_ref, Cert.Proof.WholeClaim.frame, Cert.Proof.WholeClaim.frame_finite,
  Cert.Proof.WholeRef.frame_ref, Cert.Proof.WholeClaim.frame_ref_finite, trivial, Cert.Proof.RowsRef.algebraic, Cert.Proof.WholeClaim.algebraic⟩

end Cert.Proof

end
